-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "scale_log2_e" .f32 0x3DD53B95#32 (((Real.sqrt 192)⁻¹ * (Real.log 2)⁻¹ : ℝ) : EReal)

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v32_0)) (v1 : (c : Dev Cert.Kernel8Ideal.nD) → Buf (Elt Ideal) ((c.tc : Thread Cert.Kernel8Ideal.nD Cert.Kernel8Ideal.τ).loc Cert.Kernel8Ideal.main_v32_1)) (v2 : (c : Dev Cert.Kernel8Ideal.nD) → Buf (Elt Ideal) ((c.tc : Thread Cert.Kernel8Ideal.nD Cert.Kernel8Ideal.τ).loc Cert.Kernel8Ideal.main_v32_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v32_0) = v0 c
          ∧ r.2.mem ((c.tc : Thread Cert.Kernel8Ideal.nD Cert.Kernel8Ideal.τ).loc Cert.Kernel8Ideal.main_v32_1) = v1 c
          ∧ r.2.mem ((c.tc : Thread Cert.Kernel8Ideal.nD Cert.Kernel8Ideal.τ).loc Cert.Kernel8Ideal.main_v32_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v87) = v0 c
          ∧ r.2.mem ((c.tc : Thread Cert.Reference8Ideal.nD Cert.Reference8Ideal.τ).loc Cert.Reference8Ideal.main_v88) = v1 c
          ∧ r.2.mem ((c.tc : Thread Cert.Reference8Ideal.nD Cert.Reference8Ideal.τ).loc Cert.Reference8Ideal.main_v89) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v47_0)) (v1 : (c : Dev Cert.Kernel9Ideal.nD) → Buf (Elt Ideal) ((c.tc : Thread Cert.Kernel9Ideal.nD Cert.Kernel9Ideal.τ).loc Cert.Kernel9Ideal.main_v47_1)) (v2 : (c : Dev Cert.Kernel9Ideal.nD) → Buf (Elt Ideal) ((c.tc : Thread Cert.Kernel9Ideal.nD Cert.Kernel9Ideal.τ).loc Cert.Kernel9Ideal.main_v47_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v47_0) = v0 c
          ∧ r.2.mem ((c.tc : Thread Cert.Kernel9Ideal.nD Cert.Kernel9Ideal.τ).loc Cert.Kernel9Ideal.main_v47_1) = v1 c
          ∧ r.2.mem ((c.tc : Thread Cert.Kernel9Ideal.nD Cert.Kernel9Ideal.τ).loc Cert.Kernel9Ideal.main_v47_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v132) = v0 c
          ∧ r.2.mem ((c.tc : Thread Cert.Reference9Ideal.nD Cert.Reference9Ideal.τ).loc Cert.Reference9Ideal.main_v134) = v1 c
          ∧ r.2.mem ((c.tc : Thread Cert.Reference9Ideal.nD Cert.Reference9Ideal.τ).loc Cert.Reference9Ideal.main_v136) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8x4224x4096 : Shape := ⟨3, ![8, 4224, 4096]⟩
abbrev S8x4224x2048 : Shape := ⟨3, ![8, 4224, 2048]⟩
abbrev S_ : Shape := ⟨0, ![]⟩

class Facts : Prop where
  bcast_S_S8x4224x4096 : S_.BroadcastsInDim S8x4224x4096 (![] : Fin 0 → Fin S8x4224x4096.rank)
  reducesTo_S8x4224x4096_S_d0_1_2 : S8x4224x4096.ReducesTo [0, 1, 2] S_
  h_S_ : 0 < S_.numel

variable [Facts]

def fn {F : FTy → Type} [FloatOps F] (main_arg0 : FVec F S8x4224x4096 .bf16) (main_arg1 : FVec F S8x4224x4096 .bf16) (main_arg2 : FVec F S8x4224x2048 .bf16) : IVec S_ 1 :=
  let main_v0 : FVec F S8x4224x4096 .bf16 := Host.absf main_arg0
  let main_cst : FVec F S_ .bf16 := constant S_ .bf16 0x7F80#16
  let main_v1 : FVec F S8x4224x4096 .bf16 := broadcastInDim S8x4224x4096 ![] bcast_S_S8x4224x4096 main_cst
  let main_v2 : IVec S8x4224x4096 1 := cmpf .olt main_v0 main_v1
  let main_c : IVec S_ 1 := constantI S_ 1 1#1
  let main_v3 : IVec S_ 1 := (fun x v => Host.reduce IntOp.andi x v reducesTo_S8x4224x4096_S_d0_1_2 h_S_) main_v2 main_c
  let main_v4 : FVec F S8x4224x4096 .bf16 := Host.absf main_arg1
  let main_cst_0 : FVec F S_ .bf16 := constant S_ .bf16 0x7F80#16
  let main_v5 : FVec F S8x4224x4096 .bf16 := broadcastInDim S8x4224x4096 ![] bcast_S_S8x4224x4096 main_cst_0
  let main_v6 : IVec S8x4224x4096 1 := cmpf .olt main_v4 main_v5
  let main_c_1 : IVec S_ 1 := constantI S_ 1 1#1
  let main_v7 : IVec S_ 1 := (fun x v => Host.reduce IntOp.andi x v reducesTo_S8x4224x4096_S_d0_1_2 h_S_) main_v6 main_c_1
  let main_v8 : IVec S_ 1 := andi main_v3 main_v7
  main_v8
-- ==== Kernel.lean ====
abbrev S8x4224x1024 : Shape := ⟨3, ![8, 4224, 1024]⟩
abbrev S4x1024x5632 : Shape := ⟨3, ![4, 1024, 5632]⟩
abbrev S4x2816x1024 : Shape := ⟨3, ![4, 2816, 1024]⟩
abbrev S4x2x1024 : Shape := ⟨3, ![4, 2, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1x1024 : Shape := ⟨3, ![1, 1, 1024]⟩
abbrev S1024 : Shape := ⟨1, ![1024]⟩
abbrev S1x1024 : Shape := ⟨2, ![1, 1024]⟩
abbrev S33792x1024 : Shape := ⟨2, ![33792, 1024]⟩
abbrev S8x4096x1024 : Shape := ⟨3, ![8, 4096, 1024]⟩
abbrev S512x1024 : Shape := ⟨2, ![512, 1024]⟩
abbrev S1x512x1024 : Shape := ⟨3, ![1, 512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 19
  | .vmem => 8
  | .smem => 0
  | _ => 0

abbrev bufTy : (tb : Table) → Fin (tcTables nBuf tb) → BufTy
  | .hbm, ⟨0, _⟩ => ⟨S8x4224x1024, .f32⟩
  | .hbm, ⟨1, _⟩ => ⟨S4x1024x5632, .f32⟩
  | .hbm, ⟨2, _⟩ => ⟨S4x2816x1024, .f32⟩
  | .hbm, ⟨3, _⟩ => ⟨S4x2x1024, .f32⟩
  | .hbm, ⟨4, _⟩ => ⟨S4x2x1024, .f32⟩
  | .hbm, ⟨5, _⟩ => ⟨S4x1024x5632, .bf16⟩
  | .hbm, ⟨6, _⟩ => ⟨S1x1024x5632, .bf16⟩
  | .hbm, ⟨7, _⟩ => ⟨S1024x5632, .bf16⟩
  | .hbm, ⟨8, _⟩ => ⟨S4x2816x1024, .bf16⟩
  | .hbm, ⟨9, _⟩ => ⟨S1x2816x1024, .bf16⟩
  | .hbm, ⟨10, _⟩ => ⟨S2816x1024, .bf16⟩
  | .hbm, ⟨11, _⟩ => ⟨S1x1x1024, .f32⟩
  | .hbm, ⟨12, _⟩ => ⟨S1024, .f32⟩
  | .hbm, ⟨13, _⟩ => ⟨S1x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S33792x1024, .f32⟩
  | .hbm, ⟨18, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c4224_i32 : BitVec 32 := 4224#32
  let v0 : BitVec 32 := Scalar.muli arg0 c4224_i32
  let c128_i32 : BitVec 32 := 128#32
  let v1 : BitVec 32 := Scalar.addi v0 c128_i32
  let arg1 : BitVec 32 := BitVec.ofNat 32 (i 1).val
  let c512_i32 : BitVec 32 := 512#32
  let v2 : BitVec 32 := Scalar.muli arg1 c512_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c4224_i32 : BitVec 32 := 4224#32
  let v0 : BitVec 32 := Scalar.muli arg0 c4224_i32
  let c128_i32 : BitVec 32 := 128#32
  let v1 : BitVec 32 := Scalar.addi v0 c128_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
abbrev S8x4224x1024 : Shape := ⟨3, ![8, 4224, 1024]⟩
abbrev S4x1024x5632 : Shape := ⟨3, ![4, 1024, 5632]⟩
abbrev S4x2816x1024 : Shape := ⟨3, ![4, 2816, 1024]⟩
abbrev S4x2x1024 : Shape := ⟨3, ![4, 2, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1x1024 : Shape := ⟨3, ![1, 1, 1024]⟩
abbrev S1024 : Shape := ⟨1, ![1024]⟩
abbrev S1x1024 : Shape := ⟨2, ![1, 1024]⟩
abbrev S33792x1024 : Shape := ⟨2, ![33792, 1024]⟩
abbrev S8x4096x1024 : Shape := ⟨3, ![8, 4096, 1024]⟩
abbrev S512x1024 : Shape := ⟨2, ![512, 1024]⟩
abbrev S1x512x1024 : Shape := ⟨3, ![1, 512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 19
  | .vmem => 8
  | .smem => 0
  | _ => 0

abbrev bufTy : (tb : Table) → Fin (tcTables nBuf tb) → BufTy
  | .hbm, ⟨0, _⟩ => ⟨S8x4224x1024, .f32⟩
  | .hbm, ⟨1, _⟩ => ⟨S4x1024x5632, .f32⟩
  | .hbm, ⟨2, _⟩ => ⟨S4x2816x1024, .f32⟩
  | .hbm, ⟨3, _⟩ => ⟨S4x2x1024, .f32⟩
  | .hbm, ⟨4, _⟩ => ⟨S4x2x1024, .f32⟩
  | .hbm, ⟨5, _⟩ => ⟨S4x1024x5632, .bf16⟩
  | .hbm, ⟨6, _⟩ => ⟨S1x1024x5632, .bf16⟩
  | .hbm, ⟨7, _⟩ => ⟨S1024x5632, .bf16⟩
  | .hbm, ⟨8, _⟩ => ⟨S4x2816x1024, .bf16⟩
  | .hbm, ⟨9, _⟩ => ⟨S1x2816x1024, .bf16⟩
  | .hbm, ⟨10, _⟩ => ⟨S2816x1024, .bf16⟩
  | .hbm, ⟨11, _⟩ => ⟨S1x1x1024, .f32⟩
  | .hbm, ⟨12, _⟩ => ⟨S1024, .f32⟩
  | .hbm, ⟨13, _⟩ => ⟨S1x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S33792x1024, .f32⟩
  | .hbm, ⟨18, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c4224_i32 : BitVec 32 := 4224#32
  let v0 : BitVec 32 := Scalar.muli arg0 c4224_i32
  let c128_i32 : BitVec 32 := 128#32
  let v1 : BitVec 32 := Scalar.addi v0 c128_i32
  let arg1 : BitVec 32 := BitVec.ofNat 32 (i 1).val
  let c512_i32 : BitVec 32 := 512#32
  let v2 : BitVec 32 := Scalar.muli arg1 c512_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c4224_i32 : BitVec 32 := 4224#32
  let v0 : BitVec 32 := Scalar.muli arg0 c4224_i32
  let c128_i32 : BitVec 32 := 128#32
  let v1 : BitVec 32 := Scalar.addi v0 c128_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4224x1024 : Shape := ⟨3, ![8, 4224, 1024]⟩
abbrev S4x1024x5632 : Shape := ⟨3, ![4, 1024, 5632]⟩
abbrev S4x2816x1024 : Shape := ⟨3, ![4, 2816, 1024]⟩
abbrev S4x2x1024 : Shape := ⟨3, ![4, 2, 1024]⟩
abbrev S8x4112x1024 : Shape := ⟨3, ![8, 4112, 1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x4112x5632 : Shape := ⟨3, ![8, 4112, 5632]⟩
abbrev S8x4112x2816 : Shape := ⟨3, ![8, 4112, 2816]⟩
abbrev S1x1x1024 : Shape := ⟨3, ![1, 1, 1024]⟩
abbrev S1024 : Shape := ⟨1, ![1024]⟩
abbrev S8x4112 : Shape := ⟨2, ![8, 4112]⟩
abbrev S8x4112x1 : Shape := ⟨3, ![8, 4112, 1]⟩
abbrev S8x4096x1024 : Shape := ⟨3, ![8, 4096, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S4x1024x5632, .f32⟩
  | .hbm, ⟨2, _⟩ => ⟨S4x2816x1024, .f32⟩
  | .hbm, ⟨3, _⟩ => ⟨S4x2x1024, .f32⟩
  | .hbm, ⟨4, _⟩ => ⟨S4x2x1024, .f32⟩
  | .hbm, ⟨5, _⟩ => ⟨S8x4112x1024, .f32⟩
  | .hbm, ⟨6, _⟩ => ⟨S_, .f32⟩
  | .hbm, ⟨7, _⟩ => ⟨S8x4112x1024, .f32⟩
  | .hbm, ⟨8, _⟩ => ⟨S8x4112x1024, .f32⟩
  | .hbm, ⟨9, _⟩ => ⟨S1x1024x5632, .f32⟩
  | .hbm, ⟨10, _⟩ => ⟨S1024x5632, .f32⟩
  | .hbm, ⟨11, _⟩ => ⟨S1x2816x1024, .f32⟩
  | .hbm, ⟨12, _⟩ => ⟨S2816x1024, .f32⟩
  | .hbm, ⟨13, _⟩ => ⟨S8x4112x5632, .f32⟩
  | .hbm, ⟨14, _⟩ => ⟨S8x4112x2816, .f32⟩
  | .hbm, ⟨15, _⟩ => ⟨S8x4112x2816, .f32⟩
  | .hbm, ⟨16, _⟩ => ⟨S8x4112x2816, .f32⟩
  | .hbm, ⟨17, _⟩ => ⟨S8x4112x2816, .f32⟩
  | .hbm, ⟨18, _⟩ => ⟨S_, .f32⟩
  | .hbm, ⟨19, _⟩ => ⟨S8x4112x2816, .f32⟩
  | .hbm, ⟨20, _⟩ => ⟨S8x4112x2816, .f32⟩
  | .hbm, ⟨21, _⟩ => ⟨S_, .f32⟩
  | .hbm, ⟨22, _⟩ => ⟨S8x4112x2816, .f32⟩
  | .hbm, ⟨23, _⟩ => ⟨S8x4112x2816, .f32⟩
  | .hbm, ⟨24, _⟩ => ⟨S8x4112x2816, .f32⟩
  | .hbm, ⟨25, _⟩ => ⟨S8x4112x2816, .f32⟩
  | .hbm, ⟨26, _⟩ => ⟨S8x4112x1024, .f32⟩
  | .hbm, ⟨27, _⟩ => ⟨S8x4112x1024, .f32⟩
  | .hbm, ⟨28, _⟩ => ⟨S1x1x1024, .f32⟩
  | .hbm, ⟨29, _⟩ => ⟨S1024, .f32⟩
  | .hbm, ⟨30, _⟩ => ⟨S1x1x1024, .f32⟩
  | .hbm, ⟨31, _⟩ => ⟨S1024, .f32⟩
  | .hbm, ⟨32, _⟩ => ⟨S_, .f32⟩
  | .hbm, ⟨33, _⟩ => ⟨S8x4112, .f32⟩
  | .hbm, ⟨34, _⟩ => ⟨S8x4112x1, .f32⟩
  | .hbm, ⟨35, _⟩ => ⟨S_, .f32⟩
  | .hbm, ⟨36, _⟩ => ⟨S8x4112x1, .f32⟩
  | .hbm, ⟨37, _⟩ => ⟨S8x4112x1, .f32⟩
  | .hbm, ⟨38, _⟩ => ⟨S8x4112x1024, .f32⟩
  | .hbm, ⟨39, _⟩ => ⟨S8x4112x1024, .f32⟩
  | .hbm, ⟨40, _⟩ => ⟨S8x4112x1024, .f32⟩
  | .hbm, ⟨41, _⟩ => ⟨S_, .f32⟩
  | .hbm, ⟨42, _⟩ => ⟨S8x4112, .f32⟩
  | .hbm, ⟨43, _⟩ => ⟨S8x4112x1, .f32⟩
  | .hbm, ⟨44, _⟩ => ⟨S_, .f32⟩
  | .hbm, ⟨45, _⟩ => ⟨S8x4112x1, .f32⟩
  | .hbm, ⟨46, _⟩ => ⟨S8x4112x1, .f32⟩
  | .hbm, ⟨47, _⟩ => ⟨S_, .f32⟩
  | .hbm, ⟨48, _⟩ => ⟨S8x4112x1, .f32⟩
  | .hbm, ⟨49, _⟩ => ⟨S8x4112x1, .f32⟩
  | .hbm, ⟨50, _⟩ => ⟨S8x4112x1, .f32⟩
  | .hbm, ⟨51, _⟩ => ⟨S8x4112x1024, .f32⟩
  | .hbm, ⟨52, _⟩ => ⟨S8x4112x1024, .f32⟩
  | .hbm, ⟨53, _⟩ => ⟨S1x1x1024, .f32⟩
  | .hbm, ⟨54, _⟩ => ⟨S8x4112x1024, .f32⟩
  | .hbm, ⟨55, _⟩ => ⟨S8x4112x1024, .f32⟩
  | .hbm, ⟨56, _⟩ => ⟨S1x1x1024, .f32⟩
  | .hbm, ⟨57, _⟩ => ⟨S8x4112x1024, .f32⟩
  | .hbm, ⟨58, _⟩ => ⟨S8x4112x1024, .f32⟩
  | .hbm, ⟨59, _⟩ => ⟨S8x4096x1024, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Kernel2.lean ====
abbrev S2x8320x1024 : Shape := ⟨3, ![2, 8320, 1024]⟩
abbrev S4x1024x5632 : Shape := ⟨3, ![4, 1024, 5632]⟩
abbrev S4x2816x1024 : Shape := ⟨3, ![4, 2816, 1024]⟩
abbrev S4x2x1024 : Shape := ⟨3, ![4, 2, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1x1024 : Shape := ⟨3, ![1, 1, 1024]⟩
abbrev S1024 : Shape := ⟨1, ![1024]⟩
abbrev S1x1024 : Shape := ⟨2, ![1, 1024]⟩
abbrev S16640x1024 : Shape := ⟨2, ![16640, 1024]⟩
abbrev S2x8192x1024 : Shape := ⟨3, ![2, 8192, 1024]⟩
abbrev S512x1024 : Shape := ⟨2, ![512, 1024]⟩
abbrev S1x512x1024 : Shape := ⟨3, ![1, 512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 19
  | .vmem => 8
  | .smem => 0
  | _ => 0

abbrev bufTy : (tb : Table) → Fin (tcTables nBuf tb) → BufTy
  | .hbm, ⟨0, _⟩ => ⟨S2x8320x1024, .f32⟩
  | .hbm, ⟨1, _⟩ => ⟨S4x1024x5632, .f32⟩
  | .hbm, ⟨2, _⟩ => ⟨S4x2816x1024, .f32⟩
  | .hbm, ⟨3, _⟩ => ⟨S4x2x1024, .f32⟩
  | .hbm, ⟨4, _⟩ => ⟨S4x2x1024, .f32⟩
  | .hbm, ⟨5, _⟩ => ⟨S4x1024x5632, .bf16⟩
  | .hbm, ⟨6, _⟩ => ⟨S1x1024x5632, .bf16⟩
  | .hbm, ⟨7, _⟩ => ⟨S1024x5632, .bf16⟩
  | .hbm, ⟨8, _⟩ => ⟨S4x2816x1024, .bf16⟩
  | .hbm, ⟨9, _⟩ => ⟨S1x2816x1024, .bf16⟩
  | .hbm, ⟨10, _⟩ => ⟨S2816x1024, .bf16⟩
  | .hbm, ⟨11, _⟩ => ⟨S1x1x1024, .f32⟩
  | .hbm, ⟨12, _⟩ => ⟨S1024, .f32⟩
  | .hbm, ⟨13, _⟩ => ⟨S1x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S16640x1024, .f32⟩
  | .hbm, ⟨18, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S2x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c8320_i32 : BitVec 32 := 8320#32
  let v0 : BitVec 32 := Scalar.muli arg0 c8320_i32
  let c128_i32 : BitVec 32 := 128#32
  let v1 : BitVec 32 := Scalar.addi v0 c128_i32
  let arg1 : BitVec 32 := BitVec.ofNat 32 (i 1).val
  let c512_i32 : BitVec 32 := 512#32
  let v2 : BitVec 32 := Scalar.muli arg1 c512_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c8320_i32 : BitVec 32 := 8320#32
  let v0 : BitVec 32 := Scalar.muli arg0 c8320_i32
  let c128_i32 : BitVec 32 := 128#32
  let v1 : BitVec 32 := Scalar.addi v0 c128_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2x8320x1024 : Shape := ⟨3, ![2, 8320, 1024]⟩
abbrev S4x1024x5632 : Shape := ⟨3, ![4, 1024, 5632]⟩
abbrev S4x2816x1024 : Shape := ⟨3, ![4, 2816, 1024]⟩
abbrev S4x2x1024 : Shape := ⟨3, ![4, 2, 1024]⟩
abbrev S2x8208x1024 : Shape := ⟨3, ![2, 8208, 1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2x8208x5632 : Shape := ⟨3, ![2, 8208, 5632]⟩
abbrev S2x8208x2816 : Shape := ⟨3, ![2, 8208, 2816]⟩
abbrev S1x1x1024 : Shape := ⟨3, ![1, 1, 1024]⟩
abbrev S1024 : Shape := ⟨1, ![1024]⟩
abbrev S2x8208 : Shape := ⟨2, ![2, 8208]⟩
abbrev S2x8208x1 : Shape := ⟨3, ![2, 8208, 1]⟩
abbrev S2x8192x1024 : Shape := ⟨3, ![2, 8192, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x8320x1024, .f32⟩
  | .hbm, ⟨1, _⟩ => ⟨S4x1024x5632, .f32⟩
  | .hbm, ⟨2, _⟩ => ⟨S4x2816x1024, .f32⟩
  | .hbm, ⟨3, _⟩ => ⟨S4x2x1024, .f32⟩
  | .hbm, ⟨4, _⟩ => ⟨S4x2x1024, .f32⟩
  | .hbm, ⟨5, _⟩ => ⟨S2x8208x1024, .f32⟩
  | .hbm, ⟨6, _⟩ => ⟨S_, .f32⟩
  | .hbm, ⟨7, _⟩ => ⟨S2x8208x1024, .f32⟩
  | .hbm, ⟨8, _⟩ => ⟨S2x8208x1024, .f32⟩
  | .hbm, ⟨9, _⟩ => ⟨S1x1024x5632, .f32⟩
  | .hbm, ⟨10, _⟩ => ⟨S1024x5632, .f32⟩
  | .hbm, ⟨11, _⟩ => ⟨S1x2816x1024, .f32⟩
  | .hbm, ⟨12, _⟩ => ⟨S2816x1024, .f32⟩
  | .hbm, ⟨13, _⟩ => ⟨S2x8208x5632, .f32⟩
  | .hbm, ⟨14, _⟩ => ⟨S2x8208x2816, .f32⟩
  | .hbm, ⟨15, _⟩ => ⟨S2x8208x2816, .f32⟩
  | .hbm, ⟨16, _⟩ => ⟨S2x8208x2816, .f32⟩
  | .hbm, ⟨17, _⟩ => ⟨S2x8208x2816, .f32⟩
  | .hbm, ⟨18, _⟩ => ⟨S_, .f32⟩
  | .hbm, ⟨19, _⟩ => ⟨S2x8208x2816, .f32⟩
  | .hbm, ⟨20, _⟩ => ⟨S2x8208x2816, .f32⟩
  | .hbm, ⟨21, _⟩ => ⟨S_, .f32⟩
  | .hbm, ⟨22, _⟩ => ⟨S2x8208x2816, .f32⟩
  | .hbm, ⟨23, _⟩ => ⟨S2x8208x2816, .f32⟩
  | .hbm, ⟨24, _⟩ => ⟨S2x8208x2816, .f32⟩
  | .hbm, ⟨25, _⟩ => ⟨S2x8208x2816, .f32⟩
  | .hbm, ⟨26, _⟩ => ⟨S2x8208x1024, .f32⟩
  | .hbm, ⟨27, _⟩ => ⟨S2x8208x1024, .f32⟩
  | .hbm, ⟨28, _⟩ => ⟨S1x1x1024, .f32⟩
  | .hbm, ⟨29, _⟩ => ⟨S1024, .f32⟩
  | .hbm, ⟨30, _⟩ => ⟨S1x1x1024, .f32⟩
  | .hbm, ⟨31, _⟩ => ⟨S1024, .f32⟩
  | .hbm, ⟨32, _⟩ => ⟨S_, .f32⟩
  | .hbm, ⟨33, _⟩ => ⟨S2x8208, .f32⟩
  | .hbm, ⟨34, _⟩ => ⟨S2x8208x1, .f32⟩
  | .hbm, ⟨35, _⟩ => ⟨S_, .f32⟩
  | .hbm, ⟨36, _⟩ => ⟨S2x8208x1, .f32⟩
  | .hbm, ⟨37, _⟩ => ⟨S2x8208x1, .f32⟩
  | .hbm, ⟨38, _⟩ => ⟨S2x8208x1024, .f32⟩
  | .hbm, ⟨39, _⟩ => ⟨S2x8208x1024, .f32⟩
  | .hbm, ⟨40, _⟩ => ⟨S2x8208x1024, .f32⟩
  | .hbm, ⟨41, _⟩ => ⟨S_, .f32⟩
  | .hbm, ⟨42, _⟩ => ⟨S2x8208, .f32⟩
  | .hbm, ⟨43, _⟩ => ⟨S2x8208x1, .f32⟩
  | .hbm, ⟨44, _⟩ => ⟨S_, .f32⟩
  | .hbm, ⟨45, _⟩ => ⟨S2x8208x1, .f32⟩
  | .hbm, ⟨46, _⟩ => ⟨S2x8208x1, .f32⟩
  | .hbm, ⟨47, _⟩ => ⟨S_, .f32⟩
  | .hbm, ⟨48, _⟩ => ⟨S2x8208x1, .f32⟩
  | .hbm, ⟨49, _⟩ => ⟨S2x8208x1, .f32⟩
  | .hbm, ⟨50, _⟩ => ⟨S2x8208x1, .f32⟩
  | .hbm, ⟨51, _⟩ => ⟨S2x8208x1024, .f32⟩
  | .hbm, ⟨52, _⟩ => ⟨S2x8208x1024, .f32⟩
  | .hbm, ⟨53, _⟩ => ⟨S1x1x1024, .f32⟩
  | .hbm, ⟨54, _⟩ => ⟨S2x8208x1024, .f32⟩
  | .hbm, ⟨55, _⟩ => ⟨S2x8208x1024, .f32⟩
  | .hbm, ⟨56, _⟩ => ⟨S1x1x1024, .f32⟩
  | .hbm, ⟨57, _⟩ => ⟨S2x8208x1024, .f32⟩
  | .hbm, ⟨58, _⟩ => ⟨S2x8208x1024, .f32⟩
  | .hbm, ⟨59, _⟩ => ⟨S2x8192x1024, .f32⟩
  | _, _ => ⟨S2x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Kernel3.lean ====
abbrev S8x4224x1024 : Shape := ⟨3, ![8, 4224, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S1x33792x1024 : Shape := ⟨3, ![1, 33792, 1024]⟩
abbrev S1x512x1024 : Shape := ⟨3, ![1, 512, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 8
  | .smem => 0
  | _ => 0

abbrev bufTy : (tb : Table) → Fin (tcTables nBuf tb) → BufTy
  | .hbm, ⟨0, _⟩ => ⟨S8x4224x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S1x33792x1024, .f32⟩
  | .hbm, ⟨10, _⟩ => ⟨S1x33792x1024, .f32⟩
  | .hbm, ⟨11, _⟩ => ⟨S8x4224x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 66], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x4224x1024 : Shape := ⟨3, ![8, 4224, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8x4224x5632 : Shape := ⟨3, ![8, 4224, 5632]⟩
abbrev S8x4224x2816 : Shape := ⟨3, ![8, 4224, 2816]⟩
abbrev S8x4224 : Shape := ⟨2, ![8, 4224]⟩
abbrev S8x4224x1 : Shape := ⟨3, ![8, 4224, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8x4224x1024, .f32⟩
  | .hbm, ⟨7, _⟩ => ⟨S8x4224x1024, .f32⟩
  | .hbm, ⟨8, _⟩ => ⟨S8x4224x5632, .f32⟩
  | .hbm, ⟨9, _⟩ => ⟨S8x4224x2816, .f32⟩
  | .hbm, ⟨10, _⟩ => ⟨S8x4224x2816, .f32⟩
  | .hbm, ⟨11, _⟩ => ⟨S8x4224x2816, .f32⟩
  | .hbm, ⟨12, _⟩ => ⟨S8x4224x2816, .f32⟩
  | .hbm, ⟨13, _⟩ => ⟨S_, .f32⟩
  | .hbm, ⟨14, _⟩ => ⟨S8x4224x2816, .f32⟩
  | .hbm, ⟨15, _⟩ => ⟨S8x4224x2816, .f32⟩
  | .hbm, ⟨16, _⟩ => ⟨S_, .f32⟩
  | .hbm, ⟨17, _⟩ => ⟨S8x4224x2816, .f32⟩
  | .hbm, ⟨18, _⟩ => ⟨S8x4224x2816, .f32⟩
  | .hbm, ⟨19, _⟩ => ⟨S8x4224x2816, .f32⟩
  | .hbm, ⟨20, _⟩ => ⟨S8x4224x2816, .f32⟩
  | .hbm, ⟨21, _⟩ => ⟨S8x4224x1024, .f32⟩
  | .hbm, ⟨22, _⟩ => ⟨S8x4224x1024, .f32⟩
  | .hbm, ⟨23, _⟩ => ⟨S_, .f32⟩
  | .hbm, ⟨24, _⟩ => ⟨S8x4224, .f32⟩
  | .hbm, ⟨25, _⟩ => ⟨S8x4224x1, .f32⟩
  | .hbm, ⟨26, _⟩ => ⟨S_, .f32⟩
  | .hbm, ⟨27, _⟩ => ⟨S8x4224x1, .f32⟩
  | .hbm, ⟨28, _⟩ => ⟨S8x4224x1, .f32⟩
  | .hbm, ⟨29, _⟩ => ⟨S8x4224x1024, .f32⟩
  | .hbm, ⟨30, _⟩ => ⟨S8x4224x1024, .f32⟩
  | .hbm, ⟨31, _⟩ => ⟨S8x4224x1024, .f32⟩
  | .hbm, ⟨32, _⟩ => ⟨S_, .f32⟩
  | .hbm, ⟨33, _⟩ => ⟨S8x4224, .f32⟩
  | .hbm, ⟨34, _⟩ => ⟨S8x4224x1, .f32⟩
  | .hbm, ⟨35, _⟩ => ⟨S_, .f32⟩
  | .hbm, ⟨36, _⟩ => ⟨S8x4224x1, .f32⟩
  | .hbm, ⟨37, _⟩ => ⟨S8x4224x1, .f32⟩
  | .hbm, ⟨38, _⟩ => ⟨S_, .f32⟩
  | .hbm, ⟨39, _⟩ => ⟨S8x4224x1, .f32⟩
  | .hbm, ⟨40, _⟩ => ⟨S8x4224x1, .f32⟩
  | .hbm, ⟨41, _⟩ => ⟨S8x4224x1, .f32⟩
  | .hbm, ⟨42, _⟩ => ⟨S8x4224x1024, .f32⟩
  | .hbm, ⟨43, _⟩ => ⟨S8x4224x1024, .f32⟩
  | .hbm, ⟨44, _⟩ => ⟨S1x1x1024, .f32⟩
  | .hbm, ⟨45, _⟩ => ⟨S8x4224x1024, .f32⟩
  | .hbm, ⟨46, _⟩ => ⟨S8x4224x1024, .f32⟩
  | .hbm, ⟨47, _⟩ => ⟨S1x1x1024, .f32⟩
  | .hbm, ⟨48, _⟩ => ⟨S8x4224x1024, .f32⟩
  | .hbm, ⟨49, _⟩ => ⟨S8x4224x1024, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Kernel4.lean ====
abbrev S8x4224x1024 : Shape := ⟨3, ![8, 4224, 1024]⟩
abbrev S1024x5120 : Shape := ⟨2, ![1024, 5120]⟩
abbrev S1x33792x1024 : Shape := ⟨3, ![1, 33792, 1024]⟩
abbrev S1x33792x5120 : Shape := ⟨3, ![1, 33792, 5120]⟩
abbrev S1x512x1024 : Shape := ⟨3, ![1, 512, 1024]⟩
abbrev S1x512x5120 : Shape := ⟨3, ![1, 512, 5120]⟩
abbrev S512x1024 : Shape := ⟨2, ![512, 1024]⟩
abbrev S512x5120 : Shape := ⟨2, ![512, 5120]⟩
abbrev S8x4224x5120 : Shape := ⟨3, ![8, 4224, 5120]⟩

abbrev nBuf : Space → Nat
  | .hbm => 6
  | .vmem => 5
  | .smem => 0
  | _ => 0

abbrev bufTy : (tb : Table) → Fin (tcTables nBuf tb) → BufTy
  | .hbm, ⟨0, _⟩ => ⟨S8x4224x1024, .f32⟩
  | .hbm, ⟨1, _⟩ => ⟨S1024x5120, .f32⟩
  | .hbm, ⟨2, _⟩ => ⟨S1024x5120, .bf16⟩
  | .hbm, ⟨3, _⟩ => ⟨S1x33792x1024, .f32⟩
  | .hbm, ⟨4, _⟩ => ⟨S1x33792x5120, .f32⟩
  | .hbm, ⟨5, _⟩ => ⟨S8x4224x5120, .f32⟩
  | .local _ .vmem, ⟨0, _⟩ => ⟨S1x512x1024, .f32⟩
  | .local _ .vmem, ⟨1, _⟩ => ⟨S1x512x1024, .f32⟩
  | .local _ .vmem, ⟨2, _⟩ => ⟨S1024x5120, .bf16⟩
  | .local _ .vmem, ⟨3, _⟩ => ⟨S1x512x5120, .f32⟩
  | .local _ .vmem, ⟨4, _⟩ => ⟨S1x512x5120, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 66], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8x4224x1024 : Shape := ⟨3, ![8, 4224, 1024]⟩
abbrev S1024x5120 : Shape := ⟨2, ![1024, 5120]⟩
abbrev S8x4224x5120 : Shape := ⟨3, ![8, 4224, 5120]⟩

abbrev nBuf : Space → Nat
  | .hbm => 3
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S1024x5120, .f32⟩
  | .hbm, ⟨2, _⟩ => ⟨S8x4224x5120, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S8x4224x2048 : Shape := ⟨3, ![8, 4224, 2048]⟩
abbrev S2048x1024 : Shape := ⟨2, ![2048, 1024]⟩
abbrev S8x4224x1024 : Shape := ⟨3, ![8, 4224, 1024]⟩
abbrev S1024 : Shape := ⟨1, ![1024]⟩
abbrev S1x1024 : Shape := ⟨2, ![1, 1024]⟩
abbrev S1x33792x2048 : Shape := ⟨3, ![1, 33792, 2048]⟩
abbrev S1x33792x1024 : Shape := ⟨3, ![1, 33792, 1024]⟩
abbrev S1x512x2048 : Shape := ⟨3, ![1, 512, 2048]⟩
abbrev S1x512x1024 : Shape := ⟨3, ![1, 512, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S8x4224x2048, .bf16⟩
  | .hbm, ⟨1, _⟩ => ⟨S2048x1024, .f32⟩
  | .hbm, ⟨2, _⟩ => ⟨S8x4224x1024, .f32⟩
  | .hbm, ⟨3, _⟩ => ⟨S1024, .f32⟩
  | .hbm, ⟨4, _⟩ => ⟨S1024, .f32⟩
  | .hbm, ⟨5, _⟩ => ⟨S2048x1024, .bf16⟩
  | .hbm, ⟨6, _⟩ => ⟨S1x1024, .f32⟩
  | .hbm, ⟨7, _⟩ => ⟨S1x1024, .f32⟩
  | .hbm, ⟨8, _⟩ => ⟨S1x33792x2048, .bf16⟩
  | .hbm, ⟨9, _⟩ => ⟨S1x33792x1024, .f32⟩
  | .hbm, ⟨10, _⟩ => ⟨S1x33792x1024, .f32⟩
  | .hbm, ⟨11, _⟩ => ⟨S8x4224x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S8x4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 66], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8x4224x2048 : Shape := ⟨3, ![8, 4224, 2048]⟩
abbrev S2048x1024 : Shape := ⟨2, ![2048, 1024]⟩
abbrev S8x4224x1024 : Shape := ⟨3, ![8, 4224, 1024]⟩
abbrev S1024 : Shape := ⟨1, ![1024]⟩
abbrev S_ : Shape := ⟨0, ![]⟩
abbrev S8x4224 : Shape := ⟨2, ![8, 4224]⟩
abbrev S8x4224x1 : Shape := ⟨3, ![8, 4224, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x4224x2048, .bf16⟩
  | .hbm, ⟨1, _⟩ => ⟨S2048x1024, .f32⟩
  | .hbm, ⟨2, _⟩ => ⟨S8x4224x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8x4224x1024, .f32⟩
  | .hbm, ⟨7, _⟩ => ⟨S8x4224x1024, .f32⟩
  | .hbm, ⟨8, _⟩ => ⟨S8x4224x2048, .f32⟩
  | .hbm, ⟨9, _⟩ => ⟨S8x4224x1024, .f32⟩
  | .hbm, ⟨10, _⟩ => ⟨S8x4224x1024, .f32⟩
  | .hbm, ⟨11, _⟩ => ⟨S_, .f32⟩
  | .hbm, ⟨12, _⟩ => ⟨S8x4224, .f32⟩
  | .hbm, ⟨13, _⟩ => ⟨S8x4224x1, .f32⟩
  | .hbm, ⟨14, _⟩ => ⟨S_, .f32⟩
  | .hbm, ⟨15, _⟩ => ⟨S8x4224x1, .f32⟩
  | .hbm, ⟨16, _⟩ => ⟨S8x4224x1, .f32⟩
  | .hbm, ⟨17, _⟩ => ⟨S8x4224x1024, .f32⟩
  | .hbm, ⟨18, _⟩ => ⟨S8x4224x1024, .f32⟩
  | .hbm, ⟨19, _⟩ => ⟨S8x4224x1024, .f32⟩
  | .hbm, ⟨20, _⟩ => ⟨S_, .f32⟩
  | .hbm, ⟨21, _⟩ => ⟨S8x4224, .f32⟩
  | .hbm, ⟨22, _⟩ => ⟨S8x4224x1, .f32⟩
  | .hbm, ⟨23, _⟩ => ⟨S_, .f32⟩
  | .hbm, ⟨24, _⟩ => ⟨S8x4224x1, .f32⟩
  | .hbm, ⟨25, _⟩ => ⟨S8x4224x1, .f32⟩
  | .hbm, ⟨26, _⟩ => ⟨S_, .f32⟩
  | .hbm, ⟨27, _⟩ => ⟨S8x4224x1, .f32⟩
  | .hbm, ⟨28, _⟩ => ⟨S8x4224x1, .f32⟩
  | .hbm, ⟨29, _⟩ => ⟨S8x4224x1, .f32⟩
  | .hbm, ⟨30, _⟩ => ⟨S8x4224x1024, .f32⟩
  | .hbm, ⟨31, _⟩ => ⟨S8x4224x1024, .f32⟩
  | .hbm, ⟨32, _⟩ => ⟨S1x1x1024, .f32⟩
  | .hbm, ⟨33, _⟩ => ⟨S8x4224x1024, .f32⟩
  | .hbm, ⟨34, _⟩ => ⟨S8x4224x1024, .f32⟩
  | .hbm, ⟨35, _⟩ => ⟨S1x1x1024, .f32⟩
  | .hbm, ⟨36, _⟩ => ⟨S8x4224x1024, .f32⟩
  | .hbm, ⟨37, _⟩ => ⟨S8x4224x1024, .f32⟩
  | _, _ => ⟨S8x4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel6.lean ====
abbrev S8x4224x4096 : Shape := ⟨3, ![8, 4224, 4096]⟩
abbrev S8x4224x2048 : Shape := ⟨3, ![8, 4224, 2048]⟩
abbrev S1x4224x256 : Shape := ⟨3, ![1, 4224, 256]⟩
abbrev S1x4224x128 : Shape := ⟨3, ![1, 4224, 128]⟩
abbrev S2x2x384x1408 : Shape := ⟨4, ![2, 2, 384, 1408]⟩
abbrev S2x2x384x128 : Shape := ⟨4, ![2, 2, 384, 128]⟩
abbrev S384x128 : Shape := ⟨2, ![384, 128]⟩
abbrev S1x384x256 : Shape := ⟨3, ![1, 384, 256]⟩
abbrev S384x256 : Shape := ⟨2, ![384, 256]⟩
abbrev S1x1408x256 : Shape := ⟨3, ![1, 1408, 256]⟩
abbrev S1408x256 : Shape := ⟨2, ![1408, 256]⟩
abbrev S384x1408 : Shape := ⟨2, ![384, 1408]⟩
abbrev S1x1x384x1408 : Shape := ⟨4, ![1, 1, 384, 1408]⟩
abbrev S1x1x384x128 : Shape := ⟨4, ![1, 1, 384, 128]⟩
abbrev S384 : Shape := ⟨1, ![384]⟩
abbrev S384x1 : Shape := ⟨2, ![384, 1]⟩
abbrev S1x1408x128 : Shape := ⟨3, ![1, 1408, 128]⟩
abbrev S1408x128 : Shape := ⟨2, ![1408, 128]⟩
abbrev S1x384x128 : Shape := ⟨3, ![1, 384, 128]⟩

abbrev nBuf : Space → Nat
  | .hbm => 4
  | .vmem => 15
  | .smem => 0
  | _ => 0

abbrev bufTy : (tb : Table) → Fin (tcTables nBuf tb) → BufTy
  | .hbm, ⟨0, _⟩ => ⟨S8x4224x4096, .bf16⟩
  | .hbm, ⟨1, _⟩ => ⟨S8x4224x4096, .bf16⟩
  | .hbm, ⟨2, _⟩ => ⟨S8x4224x2048, .bf16⟩
  | .hbm, ⟨3, _⟩ => ⟨S8x4224x2048, .bf16⟩
  | .local _ .vmem, ⟨0, _⟩ => ⟨S1x4224x256, .bf16⟩
  | .local _ .vmem, ⟨1, _⟩ => ⟨S1x4224x256, .bf16⟩
  | .local _ .vmem, ⟨2, _⟩ => ⟨S1x4224x256, .bf16⟩
  | .local _ .vmem, ⟨3, _⟩ => ⟨S1x4224x256, .bf16⟩
  | .local _ .vmem, ⟨4, _⟩ => ⟨S1x4224x128, .bf16⟩
  | .local _ .vmem, ⟨5, _⟩ => ⟨S1x4224x128, .bf16⟩
  | .local _ .vmem, ⟨6, _⟩ => ⟨S1x4224x128, .bf16⟩
  | .local _ .vmem, ⟨7, _⟩ => ⟨S1x4224x128, .bf16⟩
  | .local _ .vmem, ⟨8, _⟩ => ⟨S2x2x384x1408, .f32⟩
  | .local _ .vmem, ⟨9, _⟩ => ⟨S2x2x384x1408, .bf16⟩
  | .local _ .vmem, ⟨10, _⟩ => ⟨S2x2x384x128, .f32⟩
  | .local _ .vmem, ⟨11, _⟩ => ⟨S2x2x384x128, .f32⟩
  | .local _ .vmem, ⟨12, _⟩ => ⟨S384x128, .f32⟩
  | .local _ .vmem, ⟨13, _⟩ => ⟨S384x128, .f32⟩
  | .local _ .vmem, ⟨14, _⟩ => ⟨S384x128, .f32⟩
  | _, _ => ⟨S8x4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c2_i32 : BitVec 32 := 2#32
  let c14_i32 : BitVec 32 := 14#32
  let v368 : BitVec 32 := Scalar.addi c2_i32 c14_i32
  let c1_i32 : BitVec 32 := 1#32
  ⟨c2_i32, v368, c1_i32⟩
def k0_cond1 (k0_t1 : Fin k0_t1_loop.trips) : BitVec 1 :=
  let c2_i32 : BitVec 32 := 2#32
  let c1_i32 : BitVec 32 := 1#32
  let arg13 : BitVec 32 := Scf.iv c2_i32 c1_i32 k0_t1
  let c2_i32_766 : BitVec 32 := 2#32
  let c0_i32 : BitVec 32 := 0#32
  let v963 : BitVec 1 := Scalar.cmpi .eq c2_i32_766 c0_i32
  let c1_i32_767 : BitVec 32 := 1#32
  let v964 : BitVec 32 := Scalar.select v963 c1_i32_767 c2_i32_766
  let v965 : BitVec 32 := Scalar.remsi arg13 v964
  let c0_i32_769 : BitVec 32 := 0#32
  let v967 : BitVec 1 := Scalar.cmpi .slt v965 c0_i32_769
  let c0_i32_770 : BitVec 32 := 0#32
  let v968 : BitVec 1 := Scalar.cmpi .slt v964 c0_i32_770
  let v969 : BitVec 1 := Scalar.xori v967 v968
  let c0_i32_768 : BitVec 32 := 0#32
  let v966 : BitVec 1 := Scalar.cmpi .ne v965 c0_i32_768
  let v970 : BitVec 1 := Scalar.andi v969 v966
  let v971 : BitVec 32 := Scalar.addi v965 v964
  let v972 : BitVec 32 := Scalar.select v970 v971 v965
  let c0_i32_771 : BitVec 32 := 0#32
  let v973 : BitVec 1 := Scalar.cmpi .eq v972 c0_i32_771
  let v974 : BitVec 32 := Scalar.extui v973
  let c0_i32_772 : BitVec 32 := 0#32
  let v975 : BitVec 1 := Scalar.cmpi .ne v974 c0_i32_772
  v975

def k0_mult1 (k0_t1 : Fin k0_t1_loop.trips) : BitVec 32 :=
  let c2_i32_781 : BitVec 32 := 2#32
  let c2_i32 : BitVec 32 := 2#32
  let c1_i32 : BitVec 32 := 1#32
  let arg13 : BitVec 32 := Scf.iv c2_i32 c1_i32 k0_t1
  let v989 : BitVec 32 := Scalar.muli c2_i32_781 arg13
  let c0_i32_782 : BitVec 32 := 0#32
  let v990 : BitVec 32 := Scalar.addi v989 c0_i32_782
  let c3_i32 : BitVec 32 := 3#32
  let v997 : BitVec 32 := Scalar.divsi v990 c3_i32
  let c384_i32 : BitVec 32 := 384#32
  let v1000 : BitVec 32 := Scalar.muli v997 c384_i32
  v1000
def k0_off1 (k0_t1 : Fin k0_t1_loop.trips) (c0_i32_782 : BitVec 32) : Fin 3 → Nat :=
  let c0_789 : Index := 0#32
  let c2_i32_781 : BitVec 32 := 2#32
  let c2_i32 : BitVec 32 := 2#32
  let c1_i32 : BitVec 32 := 1#32
  let arg13 : BitVec 32 := Scf.iv c2_i32 c1_i32 k0_t1
  let v989 : BitVec 32 := Scalar.muli c2_i32_781 arg13
  let v990 : BitVec 32 := Scalar.addi v989 c0_i32_782
  let c3_i32 : BitVec 32 := 3#32
  let v997 : BitVec 32 := Scalar.divsi v990 c3_i32
  let c384_i32 : BitVec 32 := 384#32
  let v1000 : BitVec 32 := Scalar.muli v997 c384_i32
  let v1001 : BitVec 32 := v1000
  let v1002 : Index := Scalar.indexCast v1001
  let c0_790 : Index := 0#32
  ![0, v1002.toNat, 0]
def k0_mult2 (k0_t1 : Fin k0_t1_loop.trips) : BitVec 32 :=
  let c2_i32_781 : BitVec 32 := 2#32
  let c2_i32 : BitVec 32 := 2#32
  let c1_i32 : BitVec 32 := 1#32
  let arg13 : BitVec 32 := Scf.iv c2_i32 c1_i32 k0_t1
  let v989 : BitVec 32 := Scalar.muli c2_i32_781 arg13
  let c0_i32_782 : BitVec 32 := 0#32
  let v990 : BitVec 32 := Scalar.addi v989 c0_i32_782
  let c3_i32 : BitVec 32 := 3#32
  let v997 : BitVec 32 := Scalar.divsi v990 c3_i32
  let c3_i32_788 : BitVec 32 := 3#32
  let v998 : BitVec 32 := Scalar.muli v997 c3_i32_788
  let v999 : BitVec 32 := Scalar.subi v990 v998
  let c1408_i32 : BitVec 32 := 1408#32
  let v1005 : BitVec 32 := Scalar.muli v999 c1408_i32
  v1005
def k0_off2 (k0_t1 : Fin k0_t1_loop.trips) (c0_i32_782 : BitVec 32) : Fin 3 → Nat :=
  let c0_791 : Index := 0#32
  let c2_i32_781 : BitVec 32 := 2#32
  let c2_i32 : BitVec 32 := 2#32
  let c1_i32 : BitVec 32 := 1#32
  let arg13 : BitVec 32 := Scf.iv c2_i32 c1_i32 k0_t1
  let v989 : BitVec 32 := Scalar.muli c2_i32_781 arg13
  let v990 : BitVec 32 := Scalar.addi v989 c0_i32_782
  let c3_i32 : BitVec 32 := 3#32
  let v997 : BitVec 32 := Scalar.divsi v990 c3_i32
  let c3_i32_788 : BitVec 32 := 3#32
  let v998 : BitVec 32 := Scalar.muli v997 c3_i32_788
  let v999 : BitVec 32 := Scalar.subi v990 v998
  let c1408_i32 : BitVec 32 := 1408#32
  let v1005 : BitVec 32 := Scalar.muli v999 c1408_i32
  let v1006 : BitVec 32 := v1005
  let v1007 : Index := Scalar.indexCast v1006
  let c0_792 : Index := 0#32
  ![0, v1007.toNat, 0]
def k0_mult3 (k0_t1 : Fin k0_t1_loop.trips) : BitVec 32 :=
  let c2_i32_786 : BitVec 32 := 2#32
  let c2_i32 : BitVec 32 := 2#32
  let c1_i32 : BitVec 32 := 1#32
  let arg13 : BitVec 32 := Scf.iv c2_i32 c1_i32 k0_t1
  let v994 : BitVec 32 := Scalar.muli c2_i32_786 arg13
  let c4_i32 : BitVec 32 := 4#32
  let v995 : BitVec 32 := Scalar.subi v994 c4_i32
  let c0_i32_787 : BitVec 32 := 0#32
  let v996 : BitVec 32 := Scalar.addi v995 c0_i32_787
  let c3_i32_921 : BitVec 32 := 3#32
  let v1180 : BitVec 32 := Scalar.divsi v996 c3_i32_921
  let c3_i32_922 : BitVec 32 := 3#32
  let v1181 : BitVec 32 := Scalar.muli v1180 c3_i32_922
  let v1182 : BitVec 32 := Scalar.subi v996 v1181
  let c1408_i32_933 : BitVec 32 := 1408#32
  let v1189 : BitVec 32 := Scalar.muli v1182 c1408_i32_933
  v1189
def k0_off3 (k0_t1 : Fin k0_t1_loop.trips) (c0_i32_787 : BitVec 32) : Fin 3 → Nat :=
  let c0_934 : Index := 0#32
  let c2_i32_786 : BitVec 32 := 2#32
  let c2_i32 : BitVec 32 := 2#32
  let c1_i32 : BitVec 32 := 1#32
  let arg13 : BitVec 32 := Scf.iv c2_i32 c1_i32 k0_t1
  let v994 : BitVec 32 := Scalar.muli c2_i32_786 arg13
  let c4_i32 : BitVec 32 := 4#32
  let v995 : BitVec 32 := Scalar.subi v994 c4_i32
  let v996 : BitVec 32 := Scalar.addi v995 c0_i32_787
  let c3_i32_921 : BitVec 32 := 3#32
  let v1180 : BitVec 32 := Scalar.divsi v996 c3_i32_921
  let c3_i32_922 : BitVec 32 := 3#32
  let v1181 : BitVec 32 := Scalar.muli v1180 c3_i32_922
  let v1182 : BitVec 32 := Scalar.subi v996 v1181
  let c1408_i32_933 : BitVec 32 := 1408#32
  let v1189 : BitVec 32 := Scalar.muli v1182 c1408_i32_933
  let v1190 : BitVec 32 := v1189
  let v1191 : Index := Scalar.indexCast v1190
  let c0_935 : Index := 0#32
  ![0, v1191.toNat, 0]
def k0_mult4 (k0_t1 : Fin k0_t1_loop.trips) : BitVec 32 :=
  let c2_i32_786 : BitVec 32 := 2#32
  let c2_i32 : BitVec 32 := 2#32
  let c1_i32 : BitVec 32 := 1#32
  let arg13 : BitVec 32 := Scf.iv c2_i32 c1_i32 k0_t1
  let v994 : BitVec 32 := Scalar.muli c2_i32_786 arg13
  let c4_i32 : BitVec 32 := 4#32
  let v995 : BitVec 32 := Scalar.subi v994 c4_i32
  let c0_i32_787 : BitVec 32 := 0#32
  let v996 : BitVec 32 := Scalar.addi v995 c0_i32_787
  let c3_i32_921 : BitVec 32 := 3#32
  let v1180 : BitVec 32 := Scalar.divsi v996 c3_i32_921
  let c384_i32_943 : BitVec 32 := 384#32
  let v1203 : BitVec 32 := Scalar.muli v1180 c384_i32_943
  v1203
def k0_off4 (k0_t1 : Fin k0_t1_loop.trips) (c0_i32_787 : BitVec 32) : Fin 3 → Nat :=
  let c0_944 : Index := 0#32
  let c2_i32_786 : BitVec 32 := 2#32
  let c2_i32 : BitVec 32 := 2#32
  let c1_i32 : BitVec 32 := 1#32
  let arg13 : BitVec 32 := Scf.iv c2_i32 c1_i32 k0_t1
  let v994 : BitVec 32 := Scalar.muli c2_i32_786 arg13
  let c4_i32 : BitVec 32 := 4#32
  let v995 : BitVec 32 := Scalar.subi v994 c4_i32
  let v996 : BitVec 32 := Scalar.addi v995 c0_i32_787
  let c3_i32_921 : BitVec 32 := 3#32
  let v1180 : BitVec 32 := Scalar.divsi v996 c3_i32_921
  let c384_i32_943 : BitVec 32 := 384#32
  let v1203 : BitVec 32 := Scalar.muli v1180 c384_i32_943
  let v1204 : BitVec 32 := v1203
  let v1205 : Index := Scalar.indexCast v1204
  let c0_945 : Index := 0#32
  ![0, v1205.toNat, 0]
def k0_mult5 (k0_t1 : Fin k0_t1_loop.trips) : BitVec 32 :=
  let c2_i32_946 : BitVec 32 := 2#32
  let c2_i32 : BitVec 32 := 2#32
  let c1_i32 : BitVec 32 := 1#32
  let arg13 : BitVec 32 := Scf.iv c2_i32 c1_i32 k0_t1
  let v1209 : BitVec 32 := Scalar.muli c2_i32_946 arg13
  let c1_i32_947 : BitVec 32 := 1#32
  let v1210 : BitVec 32 := Scalar.addi v1209 c1_i32_947
  let c3_i32_954 : BitVec 32 := 3#32
  let v1217 : BitVec 32 := Scalar.divsi v1210 c3_i32_954
  let c384_i32_956 : BitVec 32 := 384#32
  let v1220 : BitVec 32 := Scalar.muli v1217 c384_i32_956
  v1220
def k0_mult6 (k0_t1 : Fin k0_t1_loop.trips) : BitVec 32 :=
  let c2_i32_946 : BitVec 32 := 2#32
  let c2_i32 : BitVec 32 := 2#32
  let c1_i32 : BitVec 32 := 1#32
  let arg13 : BitVec 32 := Scf.iv c2_i32 c1_i32 k0_t1
  let v1209 : BitVec 32 := Scalar.muli c2_i32_946 arg13
  let c1_i32_947 : BitVec 32 := 1#32
  let v1210 : BitVec 32 := Scalar.addi v1209 c1_i32_947
  let c3_i32_954 : BitVec 32 := 3#32
  let v1217 : BitVec 32 := Scalar.divsi v1210 c3_i32_954
  let c3_i32_955 : BitVec 32 := 3#32
  let v1218 : BitVec 32 := Scalar.muli v1217 c3_i32_955
  let v1219 : BitVec 32 := Scalar.subi v1210 v1218
  let c1408_i32_959 : BitVec 32 := 1408#32
  let v1225 : BitVec 32 := Scalar.muli v1219 c1408_i32_959
  v1225
def k0_mult7 (k0_t1 : Fin k0_t1_loop.trips) : BitVec 32 :=
  let c2_i32_951 : BitVec 32 := 2#32
  let c2_i32 : BitVec 32 := 2#32
  let c1_i32 : BitVec 32 := 1#32
  let arg13 : BitVec 32 := Scf.iv c2_i32 c1_i32 k0_t1
  let v1214 : BitVec 32 := Scalar.muli c2_i32_951 arg13
  let c4_i32_952 : BitVec 32 := 4#32
  let v1215 : BitVec 32 := Scalar.subi v1214 c4_i32_952
  let c1_i32_953 : BitVec 32 := 1#32
  let v1216 : BitVec 32 := Scalar.addi v1215 c1_i32_953
  let c3_i32_1090 : BitVec 32 := 3#32
  let v1400 : BitVec 32 := Scalar.divsi v1216 c3_i32_1090
  let c3_i32_1091 : BitVec 32 := 3#32
  let v1401 : BitVec 32 := Scalar.muli v1400 c3_i32_1091
  let v1402 : BitVec 32 := Scalar.subi v1216 v1401
  let c1408_i32_1102 : BitVec 32 := 1408#32
  let v1409 : BitVec 32 := Scalar.muli v1402 c1408_i32_1102
  v1409
def k0_mult8 (k0_t1 : Fin k0_t1_loop.trips) : BitVec 32 :=
  let c2_i32_951 : BitVec 32 := 2#32
  let c2_i32 : BitVec 32 := 2#32
  let c1_i32 : BitVec 32 := 1#32
  let arg13 : BitVec 32 := Scf.iv c2_i32 c1_i32 k0_t1
  let v1214 : BitVec 32 := Scalar.muli c2_i32_951 arg13
  let c4_i32_952 : BitVec 32 := 4#32
  let v1215 : BitVec 32 := Scalar.subi v1214 c4_i32_952
  let c1_i32_953 : BitVec 32 := 1#32
  let v1216 : BitVec 32 := Scalar.addi v1215 c1_i32_953
  let c3_i32_1090 : BitVec 32 := 3#32
  let v1400 : BitVec 32 := Scalar.divsi v1216 c3_i32_1090
  let c384_i32_1112 : BitVec 32 := 384#32
  let v1423 : BitVec 32 := Scalar.muli v1400 c384_i32_1112
  v1423
def k0_cond2 (k0_t1 : Fin k0_t1_loop.trips) : BitVec 1 :=
  let c2_i32 : BitVec 32 := 2#32
  let c1_i32 : BitVec 32 := 1#32
  let arg13 : BitVec 32 := Scf.iv c2_i32 c1_i32 k0_t1
  let c2_i32_773 : BitVec 32 := 2#32
  let c0_i32_774 : BitVec 32 := 0#32
  let v976 : BitVec 1 := Scalar.cmpi .eq c2_i32_773 c0_i32_774
  let c1_i32_775 : BitVec 32 := 1#32
  let v977 : BitVec 32 := Scalar.select v976 c1_i32_775 c2_i32_773
  let v978 : BitVec 32 := Scalar.remsi arg13 v977
  let c0_i32_777 : BitVec 32 := 0#32
  let v980 : BitVec 1 := Scalar.cmpi .slt v978 c0_i32_777
  let c0_i32_778 : BitVec 32 := 0#32
  let v981 : BitVec 1 := Scalar.cmpi .slt v977 c0_i32_778
  let v982 : BitVec 1 := Scalar.xori v980 v981
  let c0_i32_776 : BitVec 32 := 0#32
  let v979 : BitVec 1 := Scalar.cmpi .ne v978 c0_i32_776
  let v983 : BitVec 1 := Scalar.andi v982 v979
  let v984 : BitVec 32 := Scalar.addi v978 v977
  let v985 : BitVec 32 := Scalar.select v983 v984 v978
  let c1_i32_779 : BitVec 32 := 1#32
  let v986 : BitVec 1 := Scalar.cmpi .eq v985 c1_i32_779
  let v987 : BitVec 32 := Scalar.extui v986
  let c0_i32_780 : BitVec 32 := 0#32
  let v988 : BitVec 1 := Scalar.cmpi .ne v987 c0_i32_780
  v988

def k0_mult9 (k0_t1 : Fin k0_t1_loop.trips) : BitVec 32 :=
  let c2_i32_781 : BitVec 32 := 2#32
  let c2_i32 : BitVec 32 := 2#32
  let c1_i32 : BitVec 32 := 1#32
  let arg13 : BitVec 32 := Scf.iv c2_i32 c1_i32 k0_t1
  let v989 : BitVec 32 := Scalar.muli c2_i32_781 arg13
  let c0_i32_782 : BitVec 32 := 0#32
  let v990 : BitVec 32 := Scalar.addi v989 c0_i32_782
  let c3_i32 : BitVec 32 := 3#32
  let v997 : BitVec 32 := Scalar.divsi v990 c3_i32
  let c384_i32 : BitVec 32 := 384#32
  let v1000 : BitVec 32 := Scalar.muli v997 c384_i32
  v1000
def k0_off5 (k0_t1 : Fin k0_t1_loop.trips) (c0_i32_782 : BitVec 32) : Fin 3 → Nat :=
  let c0_789 : Index := 0#32
  let c2_i32_781 : BitVec 32 := 2#32
  let c2_i32 : BitVec 32 := 2#32
  let c1_i32 : BitVec 32 := 1#32
  let arg13 : BitVec 32 := Scf.iv c2_i32 c1_i32 k0_t1
  let v989 : BitVec 32 := Scalar.muli c2_i32_781 arg13
  let v990 : BitVec 32 := Scalar.addi v989 c0_i32_782
  let c3_i32 : BitVec 32 := 3#32
  let v997 : BitVec 32 := Scalar.divsi v990 c3_i32
  let c384_i32 : BitVec 32 := 384#32
  let v1000 : BitVec 32 := Scalar.muli v997 c384_i32
  let v1001 : BitVec 32 := v1000
  let v1002 : Index := Scalar.indexCast v1001
  let c0_790 : Index := 0#32
  ![0, v1002.toNat, 0]
def k0_mult10 (k0_t1 : Fin k0_t1_loop.trips) : BitVec 32 :=
  let c2_i32_781 : BitVec 32 := 2#32
  let c2_i32 : BitVec 32 := 2#32
  let c1_i32 : BitVec 32 := 1#32
  let arg13 : BitVec 32 := Scf.iv c2_i32 c1_i32 k0_t1
  let v989 : BitVec 32 := Scalar.muli c2_i32_781 arg13
  let c0_i32_782 : BitVec 32 := 0#32
  let v990 : BitVec 32 := Scalar.addi v989 c0_i32_782
  let c3_i32 : BitVec 32 := 3#32
  let v997 : BitVec 32 := Scalar.divsi v990 c3_i32
  let c3_i32_788 : BitVec 32 := 3#32
  let v998 : BitVec 32 := Scalar.muli v997 c3_i32_788
  let v999 : BitVec 32 := Scalar.subi v990 v998
  let c1408_i32 : BitVec 32 := 1408#32
  let v1005 : BitVec 32 := Scalar.muli v999 c1408_i32
  v1005
def k0_off6 (k0_t1 : Fin k0_t1_loop.trips) (c0_i32_782 : BitVec 32) : Fin 3 → Nat :=
  let c0_791 : Index := 0#32
  let c2_i32_781 : BitVec 32 := 2#32
  let c2_i32 : BitVec 32 := 2#32
  let c1_i32 : BitVec 32 := 1#32
  let arg13 : BitVec 32 := Scf.iv c2_i32 c1_i32 k0_t1
  let v989 : BitVec 32 := Scalar.muli c2_i32_781 arg13
  let v990 : BitVec 32 := Scalar.addi v989 c0_i32_782
  let c3_i32 : BitVec 32 := 3#32
  let v997 : BitVec 32 := Scalar.divsi v990 c3_i32
  let c3_i32_788 : BitVec 32 := 3#32
  let v998 : BitVec 32 := Scalar.muli v997 c3_i32_788
  let v999 : BitVec 32 := Scalar.subi v990 v998
  let c1408_i32 : BitVec 32 := 1408#32
  let v1005 : BitVec 32 := Scalar.muli v999 c1408_i32
  let v1006 : BitVec 32 := v1005
  let v1007 : Index := Scalar.indexCast v1006
  let c0_792 : Index := 0#32
  ![0, v1007.toNat, 0]
def k0_mult11 (k0_t1 : Fin k0_t1_loop.trips) : BitVec 32 :=
  let c2_i32_786 : BitVec 32 := 2#32
  let c2_i32 : BitVec 32 := 2#32
  let c1_i32 : BitVec 32 := 1#32
  let arg13 : BitVec 32 := Scf.iv c2_i32 c1_i32 k0_t1
  let v994 : BitVec 32 := Scalar.muli c2_i32_786 arg13
  let c4_i32 : BitVec 32 := 4#32
  let v995 : BitVec 32 := Scalar.subi v994 c4_i32
  let c0_i32_787 : BitVec 32 := 0#32
  let v996 : BitVec 32 := Scalar.addi v995 c0_i32_787
  let c3_i32_921 : BitVec 32 := 3#32
  let v1180 : BitVec 32 := Scalar.divsi v996 c3_i32_921
  let c3_i32_922 : BitVec 32 := 3#32
  let v1181 : BitVec 32 := Scalar.muli v1180 c3_i32_922
  let v1182 : BitVec 32 := Scalar.subi v996 v1181
  let c1408_i32_933 : BitVec 32 := 1408#32
  let v1189 : BitVec 32 := Scalar.muli v1182 c1408_i32_933
  v1189
def k0_off7 (k0_t1 : Fin k0_t1_loop.trips) (c0_i32_787 : BitVec 32) : Fin 3 → Nat :=
  let c0_934 : Index := 0#32
  let c2_i32_786 : BitVec 32 := 2#32
  let c2_i32 : BitVec 32 := 2#32
  let c1_i32 : BitVec 32 := 1#32
  let arg13 : BitVec 32 := Scf.iv c2_i32 c1_i32 k0_t1
  let v994 : BitVec 32 := Scalar.muli c2_i32_786 arg13
  let c4_i32 : BitVec 32 := 4#32
  let v995 : BitVec 32 := Scalar.subi v994 c4_i32
  let v996 : BitVec 32 := Scalar.addi v995 c0_i32_787
  let c3_i32_921 : BitVec 32 := 3#32
  let v1180 : BitVec 32 := Scalar.divsi v996 c3_i32_921
  let c3_i32_922 : BitVec 32 := 3#32
  let v1181 : BitVec 32 := Scalar.muli v1180 c3_i32_922
  let v1182 : BitVec 32 := Scalar.subi v996 v1181
  let c1408_i32_933 : BitVec 32 := 1408#32
  let v1189 : BitVec 32 := Scalar.muli v1182 c1408_i32_933
  let v1190 : BitVec 32 := v1189
  let v1191 : Index := Scalar.indexCast v1190
  let c0_935 : Index := 0#32
  ![0, v1191.toNat, 0]
def k0_mult12 (k0_t1 : Fin k0_t1_loop.trips) : BitVec 32 :=
  let c2_i32_786 : BitVec 32 := 2#32
  let c2_i32 : BitVec 32 := 2#32
  let c1_i32 : BitVec 32 := 1#32
  let arg13 : BitVec 32 := Scf.iv c2_i32 c1_i32 k0_t1
  let v994 : BitVec 32 := Scalar.muli c2_i32_786 arg13
  let c4_i32 : BitVec 32 := 4#32
  let v995 : BitVec 32 := Scalar.subi v994 c4_i32
  let c0_i32_787 : BitVec 32 := 0#32
  let v996 : BitVec 32 := Scalar.addi v995 c0_i32_787
  let c3_i32_921 : BitVec 32 := 3#32
  let v1180 : BitVec 32 := Scalar.divsi v996 c3_i32_921
  let c384_i32_943 : BitVec 32 := 384#32
  let v1203 : BitVec 32 := Scalar.muli v1180 c384_i32_943
  v1203
def k0_off8 (k0_t1 : Fin k0_t1_loop.trips) (c0_i32_787 : BitVec 32) : Fin 3 → Nat :=
  let c0_944 : Index := 0#32
  let c2_i32_786 : BitVec 32 := 2#32
  let c2_i32 : BitVec 32 := 2#32
  let c1_i32 : BitVec 32 := 1#32
  let arg13 : BitVec 32 := Scf.iv c2_i32 c1_i32 k0_t1
  let v994 : BitVec 32 := Scalar.muli c2_i32_786 arg13
  let c4_i32 : BitVec 32 := 4#32
  let v995 : BitVec 32 := Scalar.subi v994 c4_i32
  let v996 : BitVec 32 := Scalar.addi v995 c0_i32_787
  let c3_i32_921 : BitVec 32 := 3#32
  let v1180 : BitVec 32 := Scalar.divsi v996 c3_i32_921
  let c384_i32_943 : BitVec 32 := 384#32
  let v1203 : BitVec 32 := Scalar.muli v1180 c384_i32_943
  let v1204 : BitVec 32 := v1203
  let v1205 : Index := Scalar.indexCast v1204
  let c0_945 : Index := 0#32
  ![0, v1205.toNat, 0]
def k0_mult13 (k0_t1 : Fin k0_t1_loop.trips) : BitVec 32 :=
  let c2_i32_946 : BitVec 32 := 2#32
  let c2_i32 : BitVec 32 := 2#32
  let c1_i32 : BitVec 32 := 1#32
  let arg13 : BitVec 32 := Scf.iv c2_i32 c1_i32 k0_t1
  let v1209 : BitVec 32 := Scalar.muli c2_i32_946 arg13
  let c1_i32_947 : BitVec 32 := 1#32
  let v1210 : BitVec 32 := Scalar.addi v1209 c1_i32_947
  let c3_i32_954 : BitVec 32 := 3#32
  let v1217 : BitVec 32 := Scalar.divsi v1210 c3_i32_954
  let c384_i32_956 : BitVec 32 := 384#32
  let v1220 : BitVec 32 := Scalar.muli v1217 c384_i32_956
  v1220
def k0_mult14 (k0_t1 : Fin k0_t1_loop.trips) : BitVec 32 :=
  let c2_i32_946 : BitVec 32 := 2#32
  let c2_i32 : BitVec 32 := 2#32
  let c1_i32 : BitVec 32 := 1#32
  let arg13 : BitVec 32 := Scf.iv c2_i32 c1_i32 k0_t1
  let v1209 : BitVec 32 := Scalar.muli c2_i32_946 arg13
  let c1_i32_947 : BitVec 32 := 1#32
  let v1210 : BitVec 32 := Scalar.addi v1209 c1_i32_947
  let c3_i32_954 : BitVec 32 := 3#32
  let v1217 : BitVec 32 := Scalar.divsi v1210 c3_i32_954
  let c3_i32_955 : BitVec 32 := 3#32
  let v1218 : BitVec 32 := Scalar.muli v1217 c3_i32_955
  let v1219 : BitVec 32 := Scalar.subi v1210 v1218
  let c1408_i32_959 : BitVec 32 := 1408#32
  let v1225 : BitVec 32 := Scalar.muli v1219 c1408_i32_959
  v1225
def k0_mult15 (k0_t1 : Fin k0_t1_loop.trips) : BitVec 32 :=
  let c2_i32_951 : BitVec 32 := 2#32
  let c2_i32 : BitVec 32 := 2#32
  let c1_i32 : BitVec 32 := 1#32
  let arg13 : BitVec 32 := Scf.iv c2_i32 c1_i32 k0_t1
  let v1214 : BitVec 32 := Scalar.muli c2_i32_951 arg13
  let c4_i32_952 : BitVec 32 := 4#32
  let v1215 : BitVec 32 := Scalar.subi v1214 c4_i32_952
  let c1_i32_953 : BitVec 32 := 1#32
  let v1216 : BitVec 32 := Scalar.addi v1215 c1_i32_953
  let c3_i32_1090 : BitVec 32 := 3#32
  let v1400 : BitVec 32 := Scalar.divsi v1216 c3_i32_1090
  let c3_i32_1091 : BitVec 32 := 3#32
  let v1401 : BitVec 32 := Scalar.muli v1400 c3_i32_1091
  let v1402 : BitVec 32 := Scalar.subi v1216 v1401
  let c1408_i32_1102 : BitVec 32 := 1408#32
  let v1409 : BitVec 32 := Scalar.muli v1402 c1408_i32_1102
  v1409
def k0_mult16 (k0_t1 : Fin k0_t1_loop.trips) : BitVec 32 :=
  let c2_i32_951 : BitVec 32 := 2#32
  let c2_i32 : BitVec 32 := 2#32
  let c1_i32 : BitVec 32 := 1#32
  let arg13 : BitVec 32 := Scf.iv c2_i32 c1_i32 k0_t1
  let v1214 : BitVec 32 := Scalar.muli c2_i32_951 arg13
  let c4_i32_952 : BitVec 32 := 4#32
  let v1215 : BitVec 32 := Scalar.subi v1214 c4_i32_952
  let c1_i32_953 : BitVec 32 := 1#32
  let v1216 : BitVec 32 := Scalar.addi v1215 c1_i32_953
  let c3_i32_1090 : BitVec 32 := 3#32
  let v1400 : BitVec 32 := Scalar.divsi v1216 c3_i32_1090
  let c384_i32_1112 : BitVec 32 := 384#32
  let v1423 : BitVec 32 := Scalar.muli v1400 c384_i32_1112
  v1423
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel6Ideal.lean ====
variable {F : FTy → Type} [FloatOps F] [Named F]
def κ : String → Option EReal := fun
  | "scale_log2_e" => some (((Real.sqrt 192)⁻¹ * (Real.log 2)⁻¹ : ℝ) : EReal)
  | _ => none
-- ==== Reference6Ideal.lean ====
abbrev S8x4224x4096 : Shape := ⟨3, ![8, 4224, 4096]⟩
abbrev S8x4224x2048 : Shape := ⟨3, ![8, 4224, 2048]⟩
abbrev S8x4224x16x256 : Shape := ⟨4, ![8, 4224, 16, 256]⟩
abbrev S8x4224x16x128 : Shape := ⟨4, ![8, 4224, 16, 128]⟩
abbrev S8x16x4224x4224 : Shape := ⟨4, ![8, 16, 4224, 4224]⟩
abbrev S_ : Shape := ⟨0, ![]⟩
abbrev S8x16x4224 : Shape := ⟨3, ![8, 16, 4224]⟩
abbrev S8x16x4224x1 : Shape := ⟨4, ![8, 16, 4224, 1]⟩
abbrev S8x16x128x4224 : Shape := ⟨4, ![8, 16, 128, 4224]⟩

abbrev nBuf : Space → Nat
  | .hbm => 32
  | .vmem => 0
  | .smem => 0
  | _ => 0

abbrev bufTy : (tb : Table) → Fin (tcTables nBuf tb) → BufTy
  | .hbm, ⟨0, _⟩ => ⟨S8x4224x4096, .bf16⟩
  | .hbm, ⟨1, _⟩ => ⟨S8x4224x4096, .bf16⟩
  | .hbm, ⟨2, _⟩ => ⟨S8x4224x2048, .bf16⟩
  | .hbm, ⟨3, _⟩ => ⟨S8x4224x4096, .f32⟩
  | .hbm, ⟨4, _⟩ => ⟨S8x4224x16x256, .f32⟩
  | .hbm, ⟨5, _⟩ => ⟨S8x4224x4096, .f32⟩
  | .hbm, ⟨6, _⟩ => ⟨S8x4224x16x256, .f32⟩
  | .hbm, ⟨7, _⟩ => ⟨S8x4224x2048, .f32⟩
  | .hbm, ⟨8, _⟩ => ⟨S8x4224x16x128, .f32⟩
  | .hbm, ⟨9, _⟩ => ⟨S8x16x4224x4224, .f32⟩
  | .hbm, ⟨10, _⟩ => ⟨S_, .f32⟩
  | .hbm, ⟨11, _⟩ => ⟨S_, .f32⟩
  | .hbm, ⟨12, _⟩ => ⟨S8x16x4224x4224, .f32⟩
  | .hbm, ⟨13, _⟩ => ⟨S8x16x4224x4224, .f32⟩
  | .hbm, ⟨14, _⟩ => ⟨S_, .f32⟩
  | .hbm, ⟨15, _⟩ => ⟨S8x16x4224, .f32⟩
  | .hbm, ⟨16, _⟩ => ⟨S_, .f32⟩
  | .hbm, ⟨17, _⟩ => ⟨S8x16x4224, .f32⟩
  | .hbm, ⟨18, _⟩ => ⟨S8x16x4224, .f32⟩
  | .hbm, ⟨19, _⟩ => ⟨S8x16x4224x1, .f32⟩
  | .hbm, ⟨20, _⟩ => ⟨S8x16x4224x4224, .f32⟩
  | .hbm, ⟨21, _⟩ => ⟨S8x16x4224x4224, .f32⟩
  | .hbm, ⟨22, _⟩ => ⟨S8x16x4224x4224, .f32⟩
  | .hbm, ⟨23, _⟩ => ⟨S_, .f32⟩
  | .hbm, ⟨24, _⟩ => ⟨S8x16x4224, .f32⟩
  | .hbm, ⟨25, _⟩ => ⟨S8x16x4224x1, .f32⟩
  | .hbm, ⟨26, _⟩ => ⟨S8x16x4224x4224, .f32⟩
  | .hbm, ⟨27, _⟩ => ⟨S8x16x4224x4224, .f32⟩
  | .hbm, ⟨28, _⟩ => ⟨S8x16x128x4224, .f32⟩
  | .hbm, ⟨29, _⟩ => ⟨S8x4224x16x128, .f32⟩
  | .hbm, ⟨30, _⟩ => ⟨S8x4224x2048, .f32⟩
  | .hbm, ⟨31, _⟩ => ⟨S8x4224x2048, .bf16⟩
  | _, _ => ⟨S8x4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel7.lean ====
abbrev S8x4224x1024 : Shape := ⟨3, ![8, 4224, 1024]⟩
abbrev S8x4224x5120 : Shape := ⟨3, ![8, 4224, 5120]⟩
abbrev S128 : Shape := ⟨1, ![128]⟩
abbrev S1024x1024 : Shape := ⟨2, ![1024, 1024]⟩
abbrev S1024 : Shape := ⟨1, ![1024]⟩
abbrev S1x128 : Shape := ⟨2, ![1, 128]⟩
abbrev S1x1024 : Shape := ⟨2, ![1, 1024]⟩
abbrev S1x33792x1024 : Shape := ⟨3, ![1, 33792, 1024]⟩
abbrev S1x33792x5120 : Shape := ⟨3, ![1, 33792, 5120]⟩
abbrev S1x512x1024 : Shape := ⟨3, ![1, 512, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 14
  | .smem => 0
  | _ => 0

abbrev bufTy : (tb : Table) → Fin (tcTables nBuf tb) → BufTy
  | .hbm, ⟨0, _⟩ => ⟨S8x4224x1024, .f32⟩
  | .hbm, ⟨1, _⟩ => ⟨S8x4224x1024, .f32⟩
  | .hbm, ⟨2, _⟩ => ⟨S8x4224x5120, .f32⟩
  | .hbm, ⟨3, _⟩ => ⟨S128, .f32⟩
  | .hbm, ⟨4, _⟩ => ⟨S1024x1024, .f32⟩
  | .hbm, ⟨5, _⟩ => ⟨S8x4224x1024, .f32⟩
  | .hbm, ⟨6, _⟩ => ⟨S1024, .f32⟩
  | .hbm, ⟨7, _⟩ => ⟨S1024, .f32⟩
  | .hbm, ⟨8, _⟩ => ⟨S1x128, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x33792x1024, .f32⟩
  | .hbm, ⟨13, _⟩ => ⟨S1x33792x1024, .f32⟩
  | .hbm, ⟨14, _⟩ => ⟨S1x33792x5120, .f32⟩
  | .hbm, ⟨15, _⟩ => ⟨S1x33792x1024, .f32⟩
  | .hbm, ⟨16, _⟩ => ⟨S1x33792x1024, .f32⟩
  | .hbm, ⟨17, _⟩ => ⟨S8x4224x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x128, .f32⟩
  | .local _ .vmem, ⟨7, _⟩ => ⟨S1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![1, 66], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S8x4224x1024 : Shape := ⟨3, ![8, 4224, 1024]⟩
abbrev S8x4224x5120 : Shape := ⟨3, ![8, 4224, 5120]⟩
abbrev S128 : Shape := ⟨1, ![128]⟩
abbrev S1024x1024 : Shape := ⟨2, ![1024, 1024]⟩
abbrev S1024 : Shape := ⟨1, ![1024]⟩
abbrev S8x4224x8x128 : Shape := ⟨4, ![8, 4224, 8, 128]⟩
abbrev S_ : Shape := ⟨0, ![]⟩
abbrev S8x4224x8 : Shape := ⟨3, ![8, 4224, 8]⟩
abbrev S8x4224x8x1 : Shape := ⟨4, ![8, 4224, 8, 1]⟩
abbrev S1x1x1x128 : Shape := ⟨4, ![1, 1, 1, 128]⟩
abbrev S8x4224 : Shape := ⟨2, ![8, 4224]⟩
abbrev S8x4224x1 : Shape := ⟨3, ![8, 4224, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S8x4224x1024, .f32⟩
  | .hbm, ⟨2, _⟩ => ⟨S8x4224x5120, .f32⟩
  | .hbm, ⟨3, _⟩ => ⟨S128, .f32⟩
  | .hbm, ⟨4, _⟩ => ⟨S1024x1024, .f32⟩
  | .hbm, ⟨5, _⟩ => ⟨S8x4224x1024, .f32⟩
  | .hbm, ⟨6, _⟩ => ⟨S1024, .f32⟩
  | .hbm, ⟨7, _⟩ => ⟨S1024, .f32⟩
  | .hbm, ⟨8, _⟩ => ⟨S8x4224x1024, .f32⟩
  | .hbm, ⟨9, _⟩ => ⟨S8x4224x8x128, .f32⟩
  | .hbm, ⟨10, _⟩ => ⟨S8x4224x8x128, .f32⟩
  | .hbm, ⟨11, _⟩ => ⟨S_, .f32⟩
  | .hbm, ⟨12, _⟩ => ⟨S8x4224x8, .f32⟩
  | .hbm, ⟨13, _⟩ => ⟨S8x4224x8x1, .f32⟩
  | .hbm, ⟨14, _⟩ => ⟨S_, .f32⟩
  | .hbm, ⟨15, _⟩ => ⟨S8x4224x8x1, .f32⟩
  | .hbm, ⟨16, _⟩ => ⟨S8x4224x8x1, .f32⟩
  | .hbm, ⟨17, _⟩ => ⟨S_, .f32⟩
  | .hbm, ⟨18, _⟩ => ⟨S8x4224x8x1, .f32⟩
  | .hbm, ⟨19, _⟩ => ⟨S8x4224x8x1, .f32⟩
  | .hbm, ⟨20, _⟩ => ⟨S8x4224x8x1, .f32⟩
  | .hbm, ⟨21, _⟩ => ⟨S8x4224x8x128, .f32⟩
  | .hbm, ⟨22, _⟩ => ⟨S8x4224x8x128, .f32⟩
  | .hbm, ⟨23, _⟩ => ⟨S1x1x1x128, .f32⟩
  | .hbm, ⟨24, _⟩ => ⟨S8x4224x8x128, .f32⟩
  | .hbm, ⟨25, _⟩ => ⟨S8x4224x8x128, .f32⟩
  | .hbm, ⟨26, _⟩ => ⟨S8x4224x1024, .f32⟩
  | .hbm, ⟨27, _⟩ => ⟨S8x4224x8x128, .f32⟩
  | .hbm, ⟨28, _⟩ => ⟨S8x4224x8x128, .f32⟩
  | .hbm, ⟨29, _⟩ => ⟨S8x4224x8x128, .f32⟩
  | .hbm, ⟨30, _⟩ => ⟨S_, .f32⟩
  | .hbm, ⟨31, _⟩ => ⟨S8x4224x8x128, .f32⟩
  | .hbm, ⟨32, _⟩ => ⟨S8x4224x8x128, .f32⟩
  | .hbm, ⟨33, _⟩ => ⟨S_, .f32⟩
  | .hbm, ⟨34, _⟩ => ⟨S8x4224x8x128, .f32⟩
  | .hbm, ⟨35, _⟩ => ⟨S8x4224x8x128, .f32⟩
  | .hbm, ⟨36, _⟩ => ⟨S8x4224x8x128, .f32⟩
  | .hbm, ⟨37, _⟩ => ⟨S8x4224x8x128, .f32⟩
  | .hbm, ⟨38, _⟩ => ⟨S_, .f32⟩
  | .hbm, ⟨39, _⟩ => ⟨S8x4224x1024, .f32⟩
  | .hbm, ⟨40, _⟩ => ⟨S8x4224x1024, .f32⟩
  | .hbm, ⟨41, _⟩ => ⟨S8x4224x1024, .f32⟩
  | .hbm, ⟨42, _⟩ => ⟨S8x4224x1024, .f32⟩
  | .hbm, ⟨43, _⟩ => ⟨S8x4224x1024, .f32⟩
  | .hbm, ⟨44, _⟩ => ⟨S_, .f32⟩
  | .hbm, ⟨45, _⟩ => ⟨S8x4224, .f32⟩
  | .hbm, ⟨46, _⟩ => ⟨S8x4224x1, .f32⟩
  | .hbm, ⟨47, _⟩ => ⟨S_, .f32⟩
  | .hbm, ⟨48, _⟩ => ⟨S8x4224x1, .f32⟩
  | .hbm, ⟨49, _⟩ => ⟨S8x4224x1, .f32⟩
  | .hbm, ⟨50, _⟩ => ⟨S8x4224x1024, .f32⟩
  | .hbm, ⟨51, _⟩ => ⟨S8x4224x1024, .f32⟩
  | .hbm, ⟨52, _⟩ => ⟨S8x4224x1024, .f32⟩
  | .hbm, ⟨53, _⟩ => ⟨S_, .f32⟩
  | .hbm, ⟨54, _⟩ => ⟨S8x4224, .f32⟩
  | .hbm, ⟨55, _⟩ => ⟨S8x4224x1, .f32⟩
  | .hbm, ⟨56, _⟩ => ⟨S_, .f32⟩
  | .hbm, ⟨57, _⟩ => ⟨S8x4224x1, .f32⟩
  | .hbm, ⟨58, _⟩ => ⟨S8x4224x1, .f32⟩
  | .hbm, ⟨59, _⟩ => ⟨S_, .f32⟩
  | .hbm, ⟨60, _⟩ => ⟨S8x4224x1, .f32⟩
  | .hbm, ⟨61, _⟩ => ⟨S8x4224x1, .f32⟩
  | .hbm, ⟨62, _⟩ => ⟨S8x4224x1, .f32⟩
  | .hbm, ⟨63, _⟩ => ⟨S8x4224x1024, .f32⟩
  | .hbm, ⟨64, _⟩ => ⟨S8x4224x1024, .f32⟩
  | .hbm, ⟨65, _⟩ => ⟨S1x1x1024, .f32⟩
  | .hbm, ⟨66, _⟩ => ⟨S8x4224x1024, .f32⟩
  | .hbm, ⟨67, _⟩ => ⟨S8x4224x1024, .f32⟩
  | .hbm, ⟨68, _⟩ => ⟨S1x1x1024, .f32⟩
  | .hbm, ⟨69, _⟩ => ⟨S8x4224x1024, .f32⟩
  | .hbm, ⟨70, _⟩ => ⟨S8x4224x1024, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]
-- ==== Kernel8.lean ====
abbrev S8x4224x1024 : Shape := ⟨3, ![8, 4224, 1024]⟩
abbrev S1024x1536 : Shape := ⟨2, ![1024, 1536]⟩
abbrev S64 : Shape := ⟨1, ![64]⟩
abbrev S_ : Shape := ⟨0, ![]⟩
abbrev S4224 : Shape := ⟨1, ![4224]⟩
abbrev S4224x1 : Shape := ⟨2, ![4224, 1]⟩
abbrev S1x64 : Shape := ⟨2, ![1, 64]⟩
abbrev S4224x64 : Shape := ⟨2, ![4224, 64]⟩
abbrev S4224x128 : Shape := ⟨2, ![4224, 128]⟩
abbrev S1x4224x1x128 : Shape := ⟨4, ![1, 4224, 1, 128]⟩
abbrev S8x4224x256 : Shape := ⟨3, ![8, 4224, 256]⟩
abbrev S1x384x1024 : Shape := ⟨3, ![1, 384, 1024]⟩
abbrev S384x128 : Shape := ⟨2, ![384, 128]⟩
abbrev S1x384x256 : Shape := ⟨3, ![1, 384, 256]⟩
abbrev S384x1024 : Shape := ⟨2, ![384, 1024]⟩
abbrev S384x1536 : Shape := ⟨2, ![384, 1536]⟩
abbrev S1x384x128 : Shape := ⟨3, ![1, 384, 128]⟩
abbrev S384x256 : Shape := ⟨2, ![384, 256]⟩

abbrev nBuf : Space → Nat
  | .hbm => 43
  | .vmem => 13
  | .smem => 0
  | _ => 0

abbrev bufTy : (tb : Table) → Fin (tcTables nBuf tb) → BufTy
  | .hbm, ⟨0, _⟩ => ⟨S8x4224x1024, .f32⟩
  | .hbm, ⟨1, _⟩ => ⟨S1024x1536, .f32⟩
  | .hbm, ⟨2, _⟩ => ⟨S1024x1536, .bf16⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S4224, .i32⟩
  | .hbm, ⟨20, _⟩ => ⟨S_, .i32⟩
  | .hbm, ⟨21, _⟩ => ⟨S4224, .i32⟩
  | .hbm, ⟨22, _⟩ => ⟨S4224, .i32⟩
  | .hbm, ⟨23, _⟩ => ⟨S4224, .f32⟩
  | .hbm, ⟨24, _⟩ => ⟨S4224x1, .f32⟩
  | .hbm, ⟨25, _⟩ => ⟨S1x64, .f32⟩
  | .hbm, ⟨26, _⟩ => ⟨S4224x64, .f32⟩
  | .hbm, ⟨27, _⟩ => ⟨S4224x64, .f32⟩
  | .hbm, ⟨28, _⟩ => ⟨S4224x64, .f32⟩
  | .hbm, ⟨29, _⟩ => ⟨S4224x64, .f32⟩
  | .hbm, ⟨30, _⟩ => ⟨S4224x64, .f32⟩
  | .hbm, ⟨31, _⟩ => ⟨S4224x128, .f32⟩
  | .hbm, ⟨32, _⟩ => ⟨S1x4224x1x128, .f32⟩
  | .hbm, ⟨33, _⟩ => ⟨S1x4224x1x128, .f32⟩
  | .hbm, ⟨34, _⟩ => ⟨S4224x128, .f32⟩
  | .hbm, ⟨35, _⟩ => ⟨S4224x64, .f32⟩
  | .hbm, ⟨36, _⟩ => ⟨S4224x128, .f32⟩
  | .hbm, ⟨37, _⟩ => ⟨S1x4224x1x128, .f32⟩
  | .hbm, ⟨38, _⟩ => ⟨S1x4224x1x128, .f32⟩
  | .hbm, ⟨39, _⟩ => ⟨S4224x128, .f32⟩
  | .hbm, ⟨40, _⟩ => ⟨S8x4224x1024, .bf16⟩
  | .hbm, ⟨41, _⟩ => ⟨S8x4224x256, .bf16⟩
  | .hbm, ⟨42, _⟩ => ⟨S8x4224x256, .bf16⟩
  | .local _ .vmem, ⟨0, _⟩ => ⟨S1x384x1024, .f32⟩
  | .local _ .vmem, ⟨1, _⟩ => ⟨S1x384x1024, .f32⟩
  | .local _ .vmem, ⟨2, _⟩ => ⟨S1024x1536, .bf16⟩
  | .local _ .vmem, ⟨3, _⟩ => ⟨S384x128, .f32⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S1x384x1024, .bf16⟩
  | .local _ .vmem, ⟨8, _⟩ => ⟨S1x384x1024, .bf16⟩
  | .local _ .vmem, ⟨9, _⟩ => ⟨S1x384x256, .bf16⟩
  | .local _ .vmem, ⟨10, _⟩ => ⟨S1x384x256, .bf16⟩
  | .local _ .vmem, ⟨11, _⟩ => ⟨S1x384x256, .bf16⟩
  | .local _ .vmem, ⟨12, _⟩ => ⟨S1x384x256, .bf16⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32_0 : Ref sig .tc := ⟨.hbm, 40, rfl⟩
abbrev main_v32_1 : Ref sig .tc := ⟨.hbm, 41, rfl⟩
abbrev main_v32_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S8x4224x1024 : Shape := ⟨3, ![8, 4224, 1024]⟩
abbrev S1024x1536 : Shape := ⟨2, ![1024, 1536]⟩
abbrev S4224 : Shape := ⟨1, ![4224]⟩
abbrev S_ : Shape := ⟨0, ![]⟩
abbrev S8x4224x1536 : Shape := ⟨3, ![8, 4224, 1536]⟩
abbrev S8x4224x256 : Shape := ⟨3, ![8, 4224, 256]⟩
abbrev S8x4224x8x128 : Shape := ⟨4, ![8, 4224, 8, 128]⟩
abbrev S64 : Shape := ⟨1, ![64]⟩
abbrev S4224x1 : Shape := ⟨2, ![4224, 1]⟩
abbrev S1x64 : Shape := ⟨2, ![1, 64]⟩
abbrev S4224x64 : Shape := ⟨2, ![4224, 64]⟩
abbrev S4224x1x64 : Shape := ⟨3, ![4224, 1, 64]⟩
abbrev S8x4224x8x64 : Shape := ⟨4, ![8, 4224, 8, 64]⟩
abbrev S1x4224x1x64 : Shape := ⟨4, ![1, 4224, 1, 64]⟩
abbrev S8x4224x2x128 : Shape := ⟨4, ![8, 4224, 2, 128]⟩
abbrev S8x4224x2x64 : Shape := ⟨4, ![8, 4224, 2, 64]⟩

abbrev nBuf : Space → Nat
  | .hbm => 103
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S1024x1536, .f32⟩
  | .hbm, ⟨2, _⟩ => ⟨S4224, .i32⟩
  | .hbm, ⟨3, _⟩ => ⟨S_, .i32⟩
  | .hbm, ⟨4, _⟩ => ⟨S4224, .i32⟩
  | .hbm, ⟨5, _⟩ => ⟨S4224, .i32⟩
  | .hbm, ⟨6, _⟩ => ⟨S8x4224x1536, .f32⟩
  | .hbm, ⟨7, _⟩ => ⟨S8x4224x1024, .f32⟩
  | .hbm, ⟨8, _⟩ => ⟨S8x4224x256, .f32⟩
  | .hbm, ⟨9, _⟩ => ⟨S8x4224x256, .f32⟩
  | .hbm, ⟨10, _⟩ => ⟨S8x4224x8x128, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S4224, .f32⟩
  | .hbm, ⟨28, _⟩ => ⟨S4224x1, .f32⟩
  | .hbm, ⟨29, _⟩ => ⟨S1x64, .f32⟩
  | .hbm, ⟨30, _⟩ => ⟨S4224x64, .f32⟩
  | .hbm, ⟨31, _⟩ => ⟨S4224x64, .f32⟩
  | .hbm, ⟨32, _⟩ => ⟨S4224x64, .f32⟩
  | .hbm, ⟨33, _⟩ => ⟨S4224x64, .f32⟩
  | .hbm, ⟨34, _⟩ => ⟨S4224x1x64, .f32⟩
  | .hbm, ⟨35, _⟩ => ⟨S4224x64, .f32⟩
  | .hbm, ⟨36, _⟩ => ⟨S4224x1x64, .f32⟩
  | .hbm, ⟨37, _⟩ => ⟨S8x4224x8x64, .f32⟩
  | .hbm, ⟨38, _⟩ => ⟨S8x4224x8x64, .f32⟩
  | .hbm, ⟨39, _⟩ => ⟨S1x4224x1x64, .f32⟩
  | .hbm, ⟨40, _⟩ => ⟨S8x4224x8x64, .f32⟩
  | .hbm, ⟨41, _⟩ => ⟨S8x4224x8x64, .f32⟩
  | .hbm, ⟨42, _⟩ => ⟨S1x4224x1x64, .f32⟩
  | .hbm, ⟨43, _⟩ => ⟨S8x4224x8x64, .f32⟩
  | .hbm, ⟨44, _⟩ => ⟨S8x4224x8x64, .f32⟩
  | .hbm, ⟨45, _⟩ => ⟨S8x4224x8x64, .f32⟩
  | .hbm, ⟨46, _⟩ => ⟨S1x4224x1x64, .f32⟩
  | .hbm, ⟨47, _⟩ => ⟨S8x4224x8x64, .f32⟩
  | .hbm, ⟨48, _⟩ => ⟨S8x4224x8x64, .f32⟩
  | .hbm, ⟨49, _⟩ => ⟨S1x4224x1x64, .f32⟩
  | .hbm, ⟨50, _⟩ => ⟨S8x4224x8x64, .f32⟩
  | .hbm, ⟨51, _⟩ => ⟨S8x4224x8x64, .f32⟩
  | .hbm, ⟨52, _⟩ => ⟨S8x4224x8x64, .f32⟩
  | .hbm, ⟨53, _⟩ => ⟨S8x4224x8x128, .f32⟩
  | .hbm, ⟨54, _⟩ => ⟨S8x4224x1024, .f32⟩
  | .hbm, ⟨55, _⟩ => ⟨S8x4224x2x128, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S4224, .f32⟩
  | .hbm, ⟨73, _⟩ => ⟨S4224x1, .f32⟩
  | .hbm, ⟨74, _⟩ => ⟨S1x64, .f32⟩
  | .hbm, ⟨75, _⟩ => ⟨S4224x64, .f32⟩
  | .hbm, ⟨76, _⟩ => ⟨S4224x64, .f32⟩
  | .hbm, ⟨77, _⟩ => ⟨S4224x64, .f32⟩
  | .hbm, ⟨78, _⟩ => ⟨S4224x64, .f32⟩
  | .hbm, ⟨79, _⟩ => ⟨S4224x1x64, .f32⟩
  | .hbm, ⟨80, _⟩ => ⟨S4224x64, .f32⟩
  | .hbm, ⟨81, _⟩ => ⟨S4224x1x64, .f32⟩
  | .hbm, ⟨82, _⟩ => ⟨S8x4224x2x64, .f32⟩
  | .hbm, ⟨83, _⟩ => ⟨S8x4224x2x64, .f32⟩
  | .hbm, ⟨84, _⟩ => ⟨S1x4224x1x64, .f32⟩
  | .hbm, ⟨85, _⟩ => ⟨S8x4224x2x64, .f32⟩
  | .hbm, ⟨86, _⟩ => ⟨S8x4224x2x64, .f32⟩
  | .hbm, ⟨87, _⟩ => ⟨S1x4224x1x64, .f32⟩
  | .hbm, ⟨88, _⟩ => ⟨S8x4224x2x64, .f32⟩
  | .hbm, ⟨89, _⟩ => ⟨S8x4224x2x64, .f32⟩
  | .hbm, ⟨90, _⟩ => ⟨S8x4224x2x64, .f32⟩
  | .hbm, ⟨91, _⟩ => ⟨S1x4224x1x64, .f32⟩
  | .hbm, ⟨92, _⟩ => ⟨S8x4224x2x64, .f32⟩
  | .hbm, ⟨93, _⟩ => ⟨S8x4224x2x64, .f32⟩
  | .hbm, ⟨94, _⟩ => ⟨S1x4224x1x64, .f32⟩
  | .hbm, ⟨95, _⟩ => ⟨S8x4224x2x64, .f32⟩
  | .hbm, ⟨96, _⟩ => ⟨S8x4224x2x64, .f32⟩
  | .hbm, ⟨97, _⟩ => ⟨S8x4224x2x64, .f32⟩
  | .hbm, ⟨98, _⟩ => ⟨S8x4224x2x128, .f32⟩
  | .hbm, ⟨99, _⟩ => ⟨S8x4224x256, .f32⟩
  | .hbm, ⟨100, _⟩ => ⟨S8x4224x1024, .bf16⟩
  | .hbm, ⟨101, _⟩ => ⟨S8x4224x256, .bf16⟩
  | .hbm, ⟨102, _⟩ => ⟨S8x4224x256, .bf16⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_cst_5 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩

abbrev nD : Nat := 1
abbrev τ : Topo := Topo.v7x

variable {F : FTy → Type} [FloatOps F]
-- ==== Kernel9.lean ====
abbrev S8x4224x1024 : Shape := ⟨3, ![8, 4224, 1024]⟩
abbrev S1024x256 : Shape := ⟨2, ![1024, 256]⟩
abbrev S256 : Shape := ⟨1, ![256]⟩
abbrev S256x3072 : Shape := ⟨2, ![256, 3072]⟩
abbrev S1024x320 : Shape := ⟨2, ![1024, 320]⟩
abbrev S256x4096 : Shape := ⟨2, ![256, 4096]⟩
abbrev S256x16x192 : Shape := ⟨3, ![256, 16, 192]⟩
abbrev S_ : Shape := ⟨0, ![]⟩
abbrev S256x16x256 : Shape := ⟨3, ![256, 16, 256]⟩
abbrev S1024x384 : Shape := ⟨2, ![1024, 384]⟩
abbrev S256x16x128 : Shape := ⟨3, ![256, 16, 128]⟩
abbrev S256x2048 : Shape := ⟨2, ![256, 2048]⟩
abbrev S1x256 : Shape := ⟨2, ![1, 256]⟩
abbrev S32 : Shape := ⟨1, ![32]⟩
abbrev S4224 : Shape := ⟨1, ![4224]⟩
abbrev S4224x1 : Shape := ⟨2, ![4224, 1]⟩
abbrev S1x32 : Shape := ⟨2, ![1, 32]⟩
abbrev S4224x32 : Shape := ⟨2, ![4224, 32]⟩
abbrev S4224x64 : Shape := ⟨2, ![4224, 64]⟩
abbrev S1x4224x1x64 : Shape := ⟨4, ![1, 4224, 1, 64]⟩
abbrev S1x4224x2x64 : Shape := ⟨4, ![1, 4224, 2, 64]⟩
abbrev S4224x128 : Shape := ⟨2, ![4224, 128]⟩
abbrev S8x4224x4096 : Shape := ⟨3, ![8, 4224, 4096]⟩
abbrev S8x4224x2048 : Shape := ⟨3, ![8, 4224, 2048]⟩
abbrev S1x384x1024 : Shape := ⟨3, ![1, 384, 1024]⟩
abbrev S384x128 : Shape := ⟨2, ![384, 128]⟩
abbrev S1x384x4096 : Shape := ⟨3, ![1, 384, 4096]⟩
abbrev S1x384x2048 : Shape := ⟨3, ![1, 384, 2048]⟩
abbrev S384x1024 : Shape := ⟨2, ![384, 1024]⟩
abbrev S384x256 : Shape := ⟨2, ![384, 256]⟩
abbrev S384 : Shape := ⟨1, ![384]⟩
abbrev S384x1 : Shape := ⟨2, ![384, 1]⟩
abbrev S384x4096 : Shape := ⟨2, ![384, 4096]⟩
abbrev S384x384 : Shape := ⟨2, ![384, 384]⟩
abbrev S1x384x128 : Shape := ⟨3, ![1, 384, 128]⟩
abbrev S384x2048 : Shape := ⟨2, ![384, 2048]⟩

abbrev nBuf : Space → Nat
  | .hbm => 67
  | .vmem => 18
  | .smem => 0
  | _ => 0

abbrev bufTy : (tb : Table) → Fin (tcTables nBuf tb) → BufTy
  | .hbm, ⟨0, _⟩ => ⟨S8x4224x1024, .f32⟩
  | .hbm, ⟨1, _⟩ => ⟨S1024x256, .f32⟩
  | .hbm, ⟨2, _⟩ => ⟨S256, .f32⟩
  | .hbm, ⟨3, _⟩ => ⟨S256x3072, .f32⟩
  | .hbm, ⟨4, _⟩ => ⟨S1024x320, .f32⟩
  | .hbm, ⟨5, _⟩ => ⟨S256, .f32⟩
  | .hbm, ⟨6, _⟩ => ⟨S256x4096, .f32⟩
  | .hbm, ⟨7, _⟩ => ⟨S256x16x192, .f32⟩
  | .hbm, ⟨8, _⟩ => ⟨S_, .i32⟩
  | .hbm, ⟨9, _⟩ => ⟨S_, .f32⟩
  | .hbm, ⟨10, _⟩ => ⟨S256x16x256, .f32⟩
  | .hbm, ⟨11, _⟩ => ⟨S256x4096, .f32⟩
  | .hbm, ⟨12, _⟩ => ⟨S256x4096, .bf16⟩
  | .hbm, ⟨13, _⟩ => ⟨S_, .i32⟩
  | .hbm, ⟨14, _⟩ => ⟨S_, .f32⟩
  | .hbm, ⟨15, _⟩ => ⟨S1024x384, .f32⟩
  | .hbm, ⟨16, _⟩ => ⟨S1024x384, .bf16⟩
  | .hbm, ⟨17, _⟩ => ⟨S256x16x256, .f32⟩
  | .hbm, ⟨18, _⟩ => ⟨S256x16x128, .f32⟩
  | .hbm, ⟨19, _⟩ => ⟨S256x2048, .f32⟩
  | .hbm, ⟨20, _⟩ => ⟨S256x16x128, .f32⟩
  | .hbm, ⟨21, _⟩ => ⟨S256x2048, .f32⟩
  | .hbm, ⟨22, _⟩ => ⟨S256x4096, .f32⟩
  | .hbm, ⟨23, _⟩ => ⟨S256x4096, .bf16⟩
  | .hbm, ⟨24, _⟩ => ⟨S1024x256, .bf16⟩
  | .hbm, ⟨25, _⟩ => ⟨S1x256, .f32⟩
  | .hbm, ⟨26, _⟩ => ⟨S1x256, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4224, .i32⟩
  | .hbm, ⟨44, _⟩ => ⟨S_, .i32⟩
  | .hbm, ⟨45, _⟩ => ⟨S4224, .i32⟩
  | .hbm, ⟨46, _⟩ => ⟨S4224, .i32⟩
  | .hbm, ⟨47, _⟩ => ⟨S4224, .f32⟩
  | .hbm, ⟨48, _⟩ => ⟨S4224x1, .f32⟩
  | .hbm, ⟨49, _⟩ => ⟨S1x32, .f32⟩
  | .hbm, ⟨50, _⟩ => ⟨S4224x32, .f32⟩
  | .hbm, ⟨51, _⟩ => ⟨S4224x32, .f32⟩
  | .hbm, ⟨52, _⟩ => ⟨S4224x32, .f32⟩
  | .hbm, ⟨53, _⟩ => ⟨S4224x32, .f32⟩
  | .hbm, ⟨54, _⟩ => ⟨S4224x32, .f32⟩
  | .hbm, ⟨55, _⟩ => ⟨S4224x64, .f32⟩
  | .hbm, ⟨56, _⟩ => ⟨S1x4224x1x64, .f32⟩
  | .hbm, ⟨57, _⟩ => ⟨S1x4224x2x64, .f32⟩
  | .hbm, ⟨58, _⟩ => ⟨S4224x128, .f32⟩
  | .hbm, ⟨59, _⟩ => ⟨S4224x32, .f32⟩
  | .hbm, ⟨60, _⟩ => ⟨S4224x64, .f32⟩
  | .hbm, ⟨61, _⟩ => ⟨S1x4224x1x64, .f32⟩
  | .hbm, ⟨62, _⟩ => ⟨S1x4224x2x64, .f32⟩
  | .hbm, ⟨63, _⟩ => ⟨S4224x128, .f32⟩
  | .hbm, ⟨64, _⟩ => ⟨S8x4224x4096, .bf16⟩
  | .hbm, ⟨65, _⟩ => ⟨S8x4224x4096, .bf16⟩
  | .hbm, ⟨66, _⟩ => ⟨S8x4224x2048, .bf16⟩
  | .local _ .vmem, ⟨0, _⟩ => ⟨S1x384x1024, .f32⟩
  | .local _ .vmem, ⟨1, _⟩ => ⟨S1x384x1024, .f32⟩
  | .local _ .vmem, ⟨2, _⟩ => ⟨S1024x256, .bf16⟩
  | .local _ .vmem, ⟨3, _⟩ => ⟨S1x256, .f32⟩
  | .local _ .vmem, ⟨4, _⟩ => ⟨S256x4096, .bf16⟩
  | .local _ .vmem, ⟨5, _⟩ => ⟨S1024x384, .bf16⟩
  | .local _ .vmem, ⟨6, _⟩ => ⟨S1x256, .f32⟩
  | .local _ .vmem, ⟨7, _⟩ => ⟨S256x4096, .bf16⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S1x384x4096, .bf16⟩
  | .local _ .vmem, ⟨13, _⟩ => ⟨S1x384x4096, .bf16⟩
  | .local _ .vmem, ⟨14, _⟩ => ⟨S1x384x4096, .bf16⟩
  | .local _ .vmem, ⟨15, _⟩ => ⟨S1x384x4096, .bf16⟩
  | .local _ .vmem, ⟨16, _⟩ => ⟨S1x384x2048, .bf16⟩
  | .local _ .vmem, ⟨17, _⟩ => ⟨S1x384x2048, .bf16⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47_0 : Ref sig .tc := ⟨.hbm, 64, rfl⟩
abbrev main_v47_1 : Ref sig .tc := ⟨.hbm, 65, rfl⟩
abbrev main_v47_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x384x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x384x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x384x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference9Ideal.lean ====
abbrev S8x4224x1024 : Shape := ⟨3, ![8, 4224, 1024]⟩
abbrev S1024x256 : Shape := ⟨2, ![1024, 256]⟩
abbrev S256 : Shape := ⟨1, ![256]⟩
abbrev S256x3072 : Shape := ⟨2, ![256, 3072]⟩
abbrev S1024x320 : Shape := ⟨2, ![1024, 320]⟩
abbrev S256x4096 : Shape := ⟨2, ![256, 4096]⟩
abbrev S4224 : Shape := ⟨1, ![4224]⟩
abbrev S_ : Shape := ⟨0, ![]⟩
abbrev S8x4224x256 : Shape := ⟨3, ![8, 4224, 256]⟩
abbrev S8x4224 : Shape := ⟨2, ![8, 4224]⟩
abbrev S8x4224x1 : Shape := ⟨3, ![8, 4224, 1]⟩
abbrev S1x1x256 : Shape := ⟨3, ![1, 1, 256]⟩
abbrev S8x4224x3072 : Shape := ⟨3, ![8, 4224, 3072]⟩
abbrev S8x4224x16x192 : Shape := ⟨4, ![8, 4224, 16, 192]⟩
abbrev S8x4224x16x128 : Shape := ⟨4, ![8, 4224, 16, 128]⟩
abbrev S8x4224x16x64 : Shape := ⟨4, ![8, 4224, 16, 64]⟩
abbrev S32 : Shape := ⟨1, ![32]⟩
abbrev S4224x1 : Shape := ⟨2, ![4224, 1]⟩
abbrev S1x32 : Shape := ⟨2, ![1, 32]⟩
abbrev S4224x32 : Shape := ⟨2, ![4224, 32]⟩
abbrev S4224x1x32 : Shape := ⟨3, ![4224, 1, 32]⟩
abbrev S8x4224x16x32 : Shape := ⟨4, ![8, 4224, 16, 32]⟩
abbrev S1x4224x1x32 : Shape := ⟨4, ![1, 4224, 1, 32]⟩
abbrev S8x4224x320 : Shape := ⟨3, ![8, 4224, 320]⟩
abbrev S8x4224x64 : Shape := ⟨3, ![8, 4224, 64]⟩
abbrev S8x4224x1x64 : Shape := ⟨4, ![8, 4224, 1, 64]⟩
abbrev S8x4224x1x32 : Shape := ⟨4, ![8, 4224, 1, 32]⟩
abbrev S8x4224x4096 : Shape := ⟨3, ![8, 4224, 4096]⟩
abbrev S8x4224x16x256 : Shape := ⟨4, ![8, 4224, 16, 256]⟩
abbrev S8x4224x16x1 : Shape := ⟨4, ![8, 4224, 16, 1]⟩
abbrev S8x4224x16x63 : Shape := ⟨4, ![8, 4224, 16, 63]⟩
abbrev S4224x1x1 : Shape := ⟨3, ![4224, 1, 1]⟩
abbrev S1x4224x1x1 : Shape := ⟨4, ![1, 4224, 1, 1]⟩
abbrev S8x4224x2048 : Shape := ⟨3, ![8, 4224, 2048]⟩

abbrev nBuf : Space → Nat
  | .hbm => 168
  | .vmem => 0
  | .smem => 0
  | _ => 0

abbrev hbmTy0_0 (i : Nat) : BufTy := match i % 128 with
  | 0 => ⟨S8x4224x1024, .f32⟩
  | 1 => ⟨S1024x256, .f32⟩
  | 2 => ⟨S256, .f32⟩
  | 3 => ⟨S256x3072, .f32⟩
  | 4 => ⟨S1024x320, .f32⟩
  | 5 => ⟨S256, .f32⟩
  | 6 => ⟨S256x4096, .f32⟩
  | 7 => ⟨S4224, .i32⟩
  | 8 => ⟨S_, .i32⟩
  | 9 => ⟨S4224, .i32⟩
  | 10 => ⟨S4224, .i32⟩
  | 11 => ⟨S8x4224x256, .f32⟩
  | 12 => ⟨S8x4224x256, .f32⟩
  | 13 => ⟨S_, .f32⟩
  | 14 => ⟨S8x4224, .f32⟩
  | 15 => ⟨S8x4224x1, .f32⟩
  | 16 => ⟨S_, .f32⟩
  | 17 => ⟨S8x4224x1, .f32⟩
  | 18 => ⟨S8x4224x1, .f32⟩
  | 19 => ⟨S_, .f32⟩
  | 20 => ⟨S8x4224x1, .f32⟩
  | 21 => ⟨S8x4224x1, .f32⟩
  | 22 => ⟨S8x4224x1, .f32⟩
  | 23 => ⟨S8x4224x256, .f32⟩
  | 24 => ⟨S8x4224x256, .f32⟩
  | 25 => ⟨S1x1x256, .f32⟩
  | 26 => ⟨S8x4224x256, .f32⟩
  | 27 => ⟨S8x4224x256, .f32⟩
  | 28 => ⟨S8x4224x3072, .f32⟩
  | 29 => ⟨S8x4224x16x192, .f32⟩
  | 30 => ⟨S8x4224x16x128, .f32⟩
  | 31 => ⟨S8x4224x16x64, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S4224, .f32⟩
  | 49 => ⟨S4224x1, .f32⟩
  | 50 => ⟨S1x32, .f32⟩
  | 51 => ⟨S4224x32, .f32⟩
  | 52 => ⟨S4224x32, .f32⟩
  | 53 => ⟨S4224x32, .f32⟩
  | 54 => ⟨S4224x32, .f32⟩
  | 55 => ⟨S4224x1x32, .f32⟩
  | 56 => ⟨S4224x32, .f32⟩
  | 57 => ⟨S4224x1x32, .f32⟩
  | 58 => ⟨S8x4224x16x32, .f32⟩
  | 59 => ⟨S8x4224x16x32, .f32⟩
  | 60 => ⟨S1x4224x1x32, .f32⟩
  | 61 => ⟨S8x4224x16x32, .f32⟩
  | 62 => ⟨S8x4224x16x32, .f32⟩
  | 63 => ⟨S1x4224x1x32, .f32⟩
  | 64 => ⟨S8x4224x16x32, .f32⟩
  | 65 => ⟨S8x4224x16x32, .f32⟩
  | 66 => ⟨S8x4224x16x32, .f32⟩
  | 67 => ⟨S1x4224x1x32, .f32⟩
  | 68 => ⟨S8x4224x16x32, .f32⟩
  | 69 => ⟨S8x4224x16x32, .f32⟩
  | 70 => ⟨S1x4224x1x32, .f32⟩
  | 71 => ⟨S8x4224x16x32, .f32⟩
  | 72 => ⟨S8x4224x16x32, .f32⟩
  | 73 => ⟨S8x4224x16x32, .f32⟩
  | 74 => ⟨S8x4224x16x64, .f32⟩
  | 75 => ⟨S8x4224x320, .f32⟩
  | 76 => ⟨S8x4224x256, .f32⟩
  | 77 => ⟨S8x4224x256, .f32⟩
  | 78 => ⟨S_, .f32⟩
  | 79 => ⟨S8x4224, .f32⟩
  | 80 => ⟨S8x4224x1, .f32⟩
  | 81 => ⟨S_, .f32⟩
  | 82 => ⟨S8x4224x1, .f32⟩
  | 83 => ⟨S8x4224x1, .f32⟩
  | 84 => ⟨S_, .f32⟩
  | 85 => ⟨S8x4224x1, .f32⟩
  | 86 => ⟨S8x4224x1, .f32⟩
  | 87 => ⟨S8x4224x1, .f32⟩
  | 88 => ⟨S8x4224x256, .f32⟩
  | 89 => ⟨S8x4224x256, .f32⟩
  | 90 => ⟨S1x1x256, .f32⟩
  | 91 => ⟨S8x4224x256, .f32⟩
  | 92 => ⟨S8x4224x256, .f32⟩
  | 93 => ⟨S8x4224x64, .f32⟩
  | 94 => ⟨S8x4224x1x64, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S4224, .f32⟩
  | 112 => ⟨S4224x1, .f32⟩
  | 113 => ⟨S1x32, .f32⟩
  | 114 => ⟨S4224x32, .f32⟩
  | 115 => ⟨S4224x32, .f32⟩
  | 116 => ⟨S4224x32, .f32⟩
  | 117 => ⟨S4224x32, .f32⟩
  | 118 => ⟨S4224x1x32, .f32⟩
  | 119 => ⟨S4224x32, .f32⟩
  | 120 => ⟨S4224x1x32, .f32⟩
  | 121 => ⟨S8x4224x1x32, .f32⟩
  | 122 => ⟨S8x4224x1x32, .f32⟩
  | 123 => ⟨S1x4224x1x32, .f32⟩
  | 124 => ⟨S8x4224x1x32, .f32⟩
  | 125 => ⟨S8x4224x1x32, .f32⟩
  | 126 => ⟨S1x4224x1x32, .f32⟩
  | 127 => ⟨S8x4224x1x32, .f32⟩
  | _ => ⟨S8x4224x1024, .f32⟩

abbrev hbmTy0_1 (i : Nat) : BufTy := match i % 128 with
  | 0 => ⟨S8x4224x1x32, .f32⟩
  | 1 => ⟨S8x4224x1x32, .f32⟩
  | 2 => ⟨S1x4224x1x32, .f32⟩
  | 3 => ⟨S8x4224x1x32, .f32⟩
  | 4 => ⟨S8x4224x1x32, .f32⟩
  | 5 => ⟨S1x4224x1x32, .f32⟩
  | 6 => ⟨S8x4224x1x32, .f32⟩
  | 7 => ⟨S8x4224x1x32, .f32⟩
  | 8 => ⟨S8x4224x1x32, .f32⟩
  | 9 => ⟨S8x4224x1x64, .f32⟩
  | 10 => ⟨S8x4224x4096, .f32⟩
  | 11 => ⟨S8x4224x16x256, .f32⟩
  | 12 => ⟨S8x4224x16x128, .f32⟩
  | 13 => ⟨S8x4224x16x128, .f32⟩
  | 14 => ⟨S_, .i32⟩
  | 15 => ⟨S4224, .i32⟩
  | 16 => ⟨S4224, .i1⟩
  | 17 => ⟨S_, .f32⟩
  | 18 => ⟨S_, .f32⟩
  | 19 => ⟨S4224, .f32⟩
  | 20 => ⟨S4224, .f32⟩
  | 21 => ⟨S4224, .f32⟩
  | 22 => ⟨S_, .f32⟩
  | 23 => ⟨S8x4224x16x1, .f32⟩
  | 24 => ⟨S_, .f32⟩
  | 25 => ⟨S8x4224x16x63, .f32⟩
  | 26 => ⟨S8x4224x16x256, .f32⟩
  | 27 => ⟨S8x4224x16x64, .f32⟩
  | 28 => ⟨S4224x1x1, .f32⟩
  | 29 => ⟨S4224x1x1, .f32⟩
  | 30 => ⟨S1x4224x1x1, .f32⟩
  | 31 => ⟨S8x4224x16x1, .f32⟩
  | 32 => ⟨S8x4224x16x1, .f32⟩
  | 33 => ⟨S8x4224x16x256, .f32⟩
  | 34 => ⟨S8x4224x4096, .f32⟩
  | 35 => ⟨S8x4224x4096, .bf16⟩
  | 36 => ⟨S8x4224x4096, .f32⟩
  | 37 => ⟨S8x4224x4096, .bf16⟩
  | 38 => ⟨S8x4224x2048, .f32⟩
  | 39 => ⟨S8x4224x2048, .bf16⟩
  | _ => ⟨S8x4224x1024, .f32⟩

abbrev hbmTy (i : Nat) : BufTy := match i / 128 with
  | 0 => hbmTy0_0 i
  | 1 => hbmTy0_1 i
  | _ => ⟨S8x4224x1024, .f32⟩

abbrev bufTy : (tb : Table) → Fin (tcTables nBuf tb) → BufTy
  | .hbm, ⟨i, _⟩ => hbmTy i
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_10 : Ref sig .tc := ⟨.hbm, 96, rfl⟩
abbrev main_v77 : Ref sig .tc := ⟨.hbm, 97, rfl⟩
abbrev main_v78 : Ref sig .tc := ⟨.hbm, 98, rfl⟩
abbrev main_cst_11 : Ref sig .tc := ⟨.hbm, 99, rfl⟩
abbrev main_v79 : Ref sig .tc := ⟨.hbm, 100, rfl⟩
abbrev main_v80 : Ref sig .tc := ⟨.hbm, 101, rfl⟩
abbrev main_cst_12 : Ref sig .tc := ⟨.hbm, 102, rfl⟩
abbrev main_v81 : Ref sig .tc := ⟨.hbm, 103, rfl⟩
abbrev main_v82 : Ref sig .tc := ⟨.hbm, 104, rfl⟩
abbrev main_cst_13 : Ref sig .tc := ⟨.hbm, 105, rfl⟩
abbrev main_v83 : Ref sig .tc := ⟨.hbm, 106, rfl⟩
abbrev main_v84 : Ref sig .tc := ⟨.hbm, 107, rfl⟩
abbrev main_cst_14 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_c_15 : Ref sig .tc := ⟨.hbm, 142, rfl⟩
abbrev main_v118 : Ref sig .tc := ⟨.hbm, 143, rfl⟩
abbrev main_v119 : Ref sig .tc := ⟨.hbm, 144, rfl⟩
abbrev main_cst_16 : Ref sig .tc := ⟨.hbm, 145, rfl⟩
abbrev main_cst_17 : Ref sig .tc := ⟨.hbm, 146, rfl⟩
abbrev main_call0_v0 : Ref sig .tc := ⟨.hbm, 147, rfl⟩
abbrev main_call0_v1 : Ref sig .tc := ⟨.hbm, 148, rfl⟩
abbrev main_v120 : Ref sig .tc := ⟨.hbm, 149, rfl⟩
abbrev main_cst_18 : Ref sig .tc := ⟨.hbm, 150, rfl⟩
abbrev main_v121 : Ref sig .tc := ⟨.hbm, 151, rfl⟩
abbrev main_cst_19 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩

abbrev nD : Nat := 1
abbrev τ : Topo := Topo.v7x

variable {F : FTy → Type} [FloatOps F]
-- ==== Proof.Ffn.Math.lean ====
/- The mathematics of the feed-forward step of one row: a gated unit of width 2816, its down projection, the
   weighted residual and the layer normalisation, over the extended reals. Nothing here speaks of a program. -/
module

public import Idealize.ShloMosaic.Lib.Pointwise

@[expose] public section

set_option maxRecDepth 16384

noncomputable section

open Idealize.ShloMosaic

namespace Ffn

/-- The weight of the residual, 8^(1/4) as the programs' float word has it. -/
def alpha : EReal := Ideal.ofBits .f32 0x3FD744FD#32
/-- The width of the model, 1024. -/
def width : EReal := Ideal.ofBits .f32 0x44800000#32
/-- The small constant under the normalisation's root. -/
def eps : EReal := Ideal.ofBits .f32 0x3727C5AC#32

/-- `v` times the logistic function of `v`. -/
def silu (v : EReal) : EReal := v * Ideal.div 1 (1 + Ideal.exp (-v))

/-- One hidden unit: the gate's projection through `silu`, times the other projection. -/
def unit (x g u : Fin 1024 → EReal) : EReal := silu (∑ i, x i * g i) * ∑ i, x i * u i

/-- What 256 hidden units, of the weight columns `G`, `U` and the down rows `D`, add to output column `j`. -/
def chunk (x : Fin 1024 → EReal) (G U : Fin 1024 → Fin 256 → EReal) (D : Fin 256 → Fin 1024 → EReal)
    (j : Fin 1024) : EReal :=
  ∑ k, unit x (fun i => G i k) (fun i => U i k) * D k j

/-- The whole gated unit and its down projection at output column `j`. -/
def down (x : Fin 1024 → EReal) (W : Fin 1024 → Fin 5632 → EReal) (D : Fin 2816 → Fin 1024 → EReal)
    (j : Fin 1024) : EReal :=
  ∑ f : Fin 2816, unit x (fun i => W i ⟨f.val, by omega⟩) (fun i => W i ⟨2816 + f.val, by omega⟩) * D f j

/-- The mean of a row. -/
def mean (z : Fin 1024 → EReal) : EReal := Ideal.div (∑ k, z k) width

/-- The layer normalisation of a row `z` with gain `g` and offset `b`. -/
def lnorm (z g b : Fin 1024 → EReal) (j : Fin 1024) : EReal :=
  (z j - mean z) * Ideal.rsqrt (mean (fun k => (z k - mean z) * (z k - mean z)) + eps) * g j + b j

/-- The row of the residual plus the gated unit. -/
def pre (x : Fin 1024 → EReal) (W : Fin 1024 → Fin 5632 → EReal) (D : Fin 2816 → Fin 1024 → EReal)
    (j : Fin 1024) : EReal := alpha * x j + down x W D j

/-- The feed-forward step of one row. -/
def step (x : Fin 1024 → EReal) (W : Fin 1024 → Fin 5632 → EReal) (D : Fin 2816 → Fin 1024 → EReal)
    (g b : Fin 1024 → EReal) (j : Fin 1024) : EReal := lnorm (pre x W D) g b j

/-- The `c`-th chunk of 256 units of the whole weights. -/
def part (x : Fin 1024 → EReal) (W : Fin 1024 → Fin 5632 → EReal) (D : Fin 2816 → Fin 1024 → EReal)
    (j : Fin 1024) (c : Fin 11) : EReal :=
  chunk x (fun i k => W i ⟨c.val * 256 + k.val, by omega⟩) (fun i k => W i ⟨2816 + (c.val * 256 + k.val), by omega⟩)
    (fun k j => D ⟨c.val * 256 + k.val, by omega⟩ j) j

/-- The down projection is the sum of its eleven chunks. -/
theorem down_eq (x : Fin 1024 → EReal) (W : Fin 1024 → Fin 5632 → EReal) (D : Fin 2816 → Fin 1024 → EReal)
    (j : Fin 1024) : down x W D j = ∑ c, part x W D j c :=
  Fin.sum_univ_tiles 11 256 rfl _

/-- The sum of eleven terms, in the order in which they are added one after another. -/
theorem sum_eleven (f : Fin 11 → EReal) :
    ∑ c, f c = f 0 + f 1 + f 2 + f 3 + f 4 + f 5 + f 6 + f 7 + f 8 + f 9 + f 10 := by
  simp [Fin.sum_univ_succ, add_assoc]

end Ffn

end
-- ==== Proof.Ffn.Block.lean ====
/- What the kernel's body computes of one block of 512 rows, read at a row and a column. -/
module

public import proofs.«01_k».proof.Proof.Gen.KernelIdeal.Skeleton
public import proofs.«01_k».proof.Proof.Ffn.Math

@[expose] public section

set_option maxRecDepth 16384

noncomputable section

open Idealize.ShloMosaic

namespace Cert.KernelIdeal.Block

open Cert.KernelIdeal Cert.KernelIdeal.Gen

/-- A row of a block. -/
abbrev row (X : FVec Ideal S512x1024 .f32) (r : Fin 512) : Fin 1024 → EReal := fun i => X (ix2 r i)
/-- A block of weights as a function of row and column. -/
abbrev mat {n k : ℕ} {φ : FTy} (X : FVec Ideal ⟨2, ![n, k]⟩ φ) : Fin n → Fin k → EReal := fun i j => X (ix2 i j)

/-- The normalisation at the end of the body. -/
theorem pay1_at (X y : FVec Ideal S512x1024 .f32) (g b : FVec Ideal S1x1024 .f32) (r : Fin 512) (j : Fin 1024) :
    k0_pay1 (F := Ideal) (k0_pay2 X) y (k0_pay23 (F := Ideal)) g b (ix3 0 r j)
      = Ffn.lnorm (fun k => Ffn.alpha * row X r k + y (ix2 r k)) (mat g 0) (mat b 0) j := by
  pointwise [k0_pay1, k0_pay23, k0_pay2]
  rfl

section chunks

variable (X acc : FVec Ideal S512x1024 .f32) (G U G' U' : FVec Ideal S1024x256 .bf16)
  (D D' : FVec Ideal S256x1024 .bf16) (r : Fin 512) (j : Fin 1024)

/-- The first chunk. -/
theorem pay4_at : k0_pay4 (F := Ideal) X G U D (ix2 r j) = Ffn.chunk (row X r) (mat G) (mat U) (mat D) j := by
  pointwise [k0_pay4, k0_pay3, k0_pay2, Ffn.chunk, Ffn.unit, Ffn.silu]
  simp only [zero_sub]

/-- Two chunks on top of `acc`. -/
abbrev two : EReal := acc (ix2 r j) + Ffn.chunk (row X r) (mat G) (mat U) (mat D) j
  + Ffn.chunk (row X r) (mat G') (mat U') (mat D') j

theorem pay8_at :
    k0_pay8 (F := Ideal) (k0_pay3 X) acc (k0_pay5 X G) (k0_pay6 X U) (k0_pay7 X G) D G' U' D' (ix2 r j)
      = two X acc G U G' U' D D' r j := by
  pointwise [k0_pay8, k0_pay7, k0_pay6, k0_pay5, k0_pay3, k0_pay2, Ffn.chunk, Ffn.unit, Ffn.silu]
  simp only [zero_sub]
  rfl

theorem pay13_at :
    k0_pay13 (F := Ideal) (k0_pay3 X) acc (k0_pay9 (k0_pay3 X) G) (k0_pay10 (k0_pay3 X) U) (k0_pay11 (k0_pay3 X) G)
        (k0_pay12 (F := Ideal)) D G' U' D' (ix2 r j)
      = two X acc G U G' U' D D' r j := by
  pointwise [k0_pay13, k0_pay12, k0_pay11, k0_pay10, k0_pay9, k0_pay3, k0_pay2, Ffn.chunk, Ffn.unit, Ffn.silu]
  simp only [zero_sub]
  rfl

theorem pay17_at :
    k0_pay17 (F := Ideal) (k0_pay3 X) acc (k0_pay14 (k0_pay3 X) G) (k0_pay15 (k0_pay3 X) U)
        (k0_pay16 (F := Ideal)) D G' U' D' (ix2 r j)
      = two X acc G U G' U' D D' r j := by
  pointwise [k0_pay17, k0_pay16, k0_pay15, k0_pay14, k0_pay3, k0_pay2, Ffn.chunk, Ffn.unit, Ffn.silu]
  simp only [zero_sub]
  rfl

theorem pay20_at :
    k0_pay20 (F := Ideal) (k0_pay3 X) acc (k0_pay18 (k0_pay3 X) G) (k0_pay19 U) D G' U' D' (ix2 r j)
      = two X acc G U G' U' D D' r j := by
  pointwise [k0_pay20, k0_pay19, k0_pay18, k0_pay3, k0_pay2, Ffn.chunk, Ffn.unit, Ffn.silu]
  simp only [zero_sub]
  rfl

theorem pay22_at :
    k0_pay22 (F := Ideal) (k0_pay3 X) acc (k0_pay21 (k0_pay3 X) G) U D G' U' D' (ix2 r j)
      = two X acc G U G' U' D D' r j := by
  pointwise [k0_pay22, k0_pay21, k0_pay3, k0_pay2, Ffn.chunk, Ffn.unit, Ffn.silu]
  simp only [zero_sub]
  rfl

end chunks

/-- The body's result as a function of what it loads: the rows, for each of eleven chunks the gate's columns, the
    other projection's columns and the down projection's rows, and the normalisation's gain and offset. -/
abbrev body {F : FTy → Type} [FloatOps F] (X : FVec F S512x1024 .f32) (G U : Fin 11 → FVec F S1024x256 .bf16)
    (D : Fin 11 → FVec F S256x1024 .bf16) (g b : FVec F S1x1024 .f32) : FVec F S1x512x1024 .f32 :=
  k0_pay1 (k0_pay2 X) (k0_pay22 (k0_pay3 X) (k0_pay20 (k0_pay3 X) (k0_pay17 (k0_pay3 X) (k0_pay13 (k0_pay3 X)
      (k0_pay8 (k0_pay3 X) (k0_pay4 X (G 0) (U 0) (D 0)) (k0_pay5 X (G 1)) (k0_pay6 X (U 1)) (k0_pay7 X (G 1))
        (D 1) (G 2) (U 2) (D 2))
      (k0_pay9 (k0_pay3 X) (G 3)) (k0_pay10 (k0_pay3 X) (U 3)) (k0_pay11 (k0_pay3 X) (G 3)) (k0_pay12 (F := F))
        (D 3) (G 4) (U 4) (D 4))
      (k0_pay14 (k0_pay3 X) (G 5)) (k0_pay15 (k0_pay3 X) (U 5)) (k0_pay16 (F := F)) (D 5) (G 6) (U 6) (D 6))
      (k0_pay18 (k0_pay3 X) (G 7)) (k0_pay19 (U 7)) (D 7) (G 8) (U 8) (D 8))
      (k0_pay21 (k0_pay3 X) (G 9)) (U 9) (D 9) (G 10) (U 10) (D 10)) (k0_pay23 (F := F)) g b

/-- A chunk whose loads are the `c`-th columns and rows of whole weights `W` and `V`. -/
theorem chunk_part (x : Fin 1024 → EReal) (W : Fin 1024 → Fin 5632 → EReal) (V : Fin 2816 → Fin 1024 → EReal)
    (c : Fin 11) (G U : FVec Ideal S1024x256 .bf16) (D : FVec Ideal S256x1024 .bf16)
    (hG : ∀ i k, G (ix2 i k) = W i ⟨c.val * 256 + k.val, by omega⟩)
    (hU : ∀ i k, U (ix2 i k) = W i ⟨2816 + (c.val * 256 + k.val), by omega⟩)
    (hD : ∀ k j, D (ix2 k j) = V ⟨c.val * 256 + k.val, by omega⟩ j) (j : Fin 1024) :
    Ffn.chunk x (mat G) (mat U) (mat D) j = Ffn.part x W V j c := by
  have h1 : mat G = fun i k => W i ⟨c.val * 256 + k.val, by omega⟩ := funext fun i => funext (hG i)
  have h2 : mat U = fun i k => W i ⟨2816 + (c.val * 256 + k.val), by omega⟩ := funext fun i => funext (hU i)
  have h3 : mat D = fun k j => V ⟨c.val * 256 + k.val, by omega⟩ j := funext fun k => funext (hD k)
  rw [h1, h2, h3]
  rfl

/-- THE BLOCK: where the loads are the chunks of whole weights `W` and `V`, the body's result is the feed-forward
    step of each row. -/
theorem body_at (X : FVec Ideal S512x1024 .f32) (G U : Fin 11 → FVec Ideal S1024x256 .bf16)
    (D : Fin 11 → FVec Ideal S256x1024 .bf16) (g b : FVec Ideal S1x1024 .f32)
    (W : Fin 1024 → Fin 5632 → EReal) (V : Fin 2816 → Fin 1024 → EReal)
    (hG : ∀ c i k, G c (ix2 i k) = W i ⟨c.val * 256 + k.val, by omega⟩)
    (hU : ∀ c i k, U c (ix2 i k) = W i ⟨2816 + (c.val * 256 + k.val), by omega⟩)
    (hD : ∀ c k j, D c (ix2 k j) = V ⟨c.val * 256 + k.val, by omega⟩ j)
    (r : Fin 512) (j : Fin 1024) :
    body X G U D g b (ix3 0 r j) = Ffn.step (row X r) W V (mat g 0) (mat b 0) j := by
  rw [body, pay1_at, Ffn.step]
  congr 1
  funext k
  rw [pay22_at, two, pay20_at, two, pay17_at, two, pay13_at, two, pay8_at, two, pay4_at, Ffn.pre, Ffn.down_eq,
    Ffn.sum_eleven]
  simp only [fun c => chunk_part (row X r) W V c (G c) (U c) (D c) (hG c) (hU c) (hD c)]

end Cert.KernelIdeal.Block

end
-- ==== Proof.Ffn.Value.lean ====
/- The result array of the kernel as a function of its arguments. -/
module

public import proofs.«01_k».proof.Proof.Gen.KernelIdeal.Frame
public import proofs.«01_k».proof.Proof.Ffn.Block
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

/-- What the body leaves in the result's block, at a row and a column. -/
theorem out_at (x0 : Vec Ideal S512x1024 .f32) (x1 : Vec Ideal S1024x5632 .bf16) (x2 : Vec Ideal S2816x1024 .bf16)
    (x3 x4 : Vec Ideal S1x1024 .f32) (r : Fin 512) (j : Fin 1024) :
    out0_5 (F := Ideal) x0 x1 x2 x3 x4 (ix3 0 r j)
      = Ffn.step (row x0 r) (mat (φ := .bf16) x1) (mat (φ := .bf16) x2) (mat (φ := .f32) x3 0) (mat (φ := .f32) x4 0) j := by
  have h : k0_pay24 (F := Ideal) x0 x1 x2 x3 x4 = k0_pay3 x0 := by
    unfold k0_pay24
    exact congrArg k0_pay3 (funext fun i => View.ld_unit_apply_of _ _ _ _ _ _ (by intro a; fin_cases a <;> simp))
  frame_out
  rw [h]
  refine Eq.trans ?_ (body_at x0
    ![View.ld x1 r0_1, View.ld x1 r0_4, View.ld x1 r0_7, View.ld x1 r0_10, View.ld x1 r0_13, View.ld x1 r0_16, View.ld x1 r0_19, View.ld x1 r0_22, View.ld x1 r0_25, View.ld x1 r0_28, View.ld x1 r0_31]
    ![View.ld x1 r0_2, View.ld x1 r0_5, View.ld x1 r0_8, View.ld x1 r0_11, View.ld x1 r0_14, View.ld x1 r0_17, View.ld x1 r0_20, View.ld x1 r0_23, View.ld x1 r0_26, View.ld x1 r0_29, View.ld x1 r0_32]
    ![View.ld x2 r0_3, View.ld x2 r0_6, View.ld x2 r0_9, View.ld x2 r0_12, View.ld x2 r0_15, View.ld x2 r0_18, View.ld x2 r0_21, View.ld x2 r0_24, View.ld x2 r0_27, View.ld x2 r0_30, View.ld x2 r0_33]
    x3 x4 (mat (φ := .bf16) x1) (mat (φ := .bf16) x2) ?_ ?_ ?_ r j)
  · rfl
  · intro c i k
    fin_cases c <;> exact View.ld_unit_apply_of _ _ _ _ _ _ (by intro a; fin_cases a <;> simp <;> omega)
  · intro c i k
    fin_cases c <;> exact View.ld_unit_apply_of _ _ _ _ _ _ (by intro a; fin_cases a <;> simp <;> omega)
  · intro c i k
    fin_cases c <;> exact View.ld_unit_apply_of _ _ _ _ _ _ (by intro a; fin_cases a <;> simp <;> omega)

/-- The result as a function of the arguments: the feed-forward step of every row from row 128 on. -/
abbrev result (X : FVec Ideal S8x4224x1024 .f32) (W : FVec Ideal S4x1024x5632 .f32) (V : FVec Ideal S4x2816x1024 .f32)
    (g b : FVec Ideal S4x2x1024 .f32) : FVec Ideal S8x4096x1024 .f32 := fun i =>
  Ffn.step (fun k => X (ix3 (i 0) ⟨128 + (i 1).val, by have := (i 1).isLt; simp at this; omega⟩ k)) (fun a b => W (ix3 3 a b)) (fun a b => V (ix3 3 a b))
    (fun k => g (ix3 3 1 k)) (fun k => b (ix3 3 1 k)) (i 2)

variable (m : (ℓ : Loc nD τ sig) → Buf (Elt Ideal) ℓ)

/-- The windows' index maps: the rows' block begins at an element, the others are counted in blocks. -/
theorem idx : ∀ t : Fin cfg0.N,
    win0_0.index t = ![(grid0.coords t 0).val * 4224 + 128 + (grid0.coords t 1).val * 512, 0]
    ∧ win0_1.index t = ![0, 0] ∧ win0_2.index t = ![0, 0]
    ∧ win0_3.index t = ![0, 0] ∧ win0_4.index t = ![0, 0]
    ∧ win0_5.index t = ![(grid0.coords t 0).val, (grid0.coords t 1).val, 0] :=
  (by decide +kernel : ∀ t : Fin grid0.N, _)

/-- The rows of a point's block are rows of the argument. -/
theorem rows_at (c : Dev nD) (t : Fin cfg0.N) (r : Fin 512) (k : Fin 1024) (b : Fin 8) (n : Fin 4224)
    (h0 : b.val = (grid0.coords t 0).val) (h1 : n.val = 128 + (grid0.coords t 1).val * 512 + r.val) :
    iblk m c 0 t (ix2 r k) = m ((c : Thread nD τ).loc main_arg0) (ix3 b n k) := by
  have e : ((cfg0.win 0).blk t).view.emb (ix2 r k) = ix2 (⟨b.val * 4224 + n.val, by omega⟩ : Fin 33792) k := by
    funext a
    refine Fin.ext ((Pipeline.Window.rect_emb_val_off win0_0 t (ix2 r k) a).trans ?_)
    rw [(idx t).1]
    fin_cases a <;> simp [Pipeline.WinKind.off] <;> omega
  blk_simp [iblk, e]
  entry_read
  pointwise []

/-- The wide weights' block is the last layer's weights. -/
theorem wide_at (c : Dev nD) (t : Fin cfg0.N) (i : Fin 1024) (k : Fin 5632) :
    iblk m c 1 t (ix2 i k) = m ((c : Thread nD τ).loc main_arg1) (ix3 3 i k) := by
  have e : ((cfg0.win 1).blk t).view.emb (ix2 i k) = ix2 i k := by blk_ext [idx t]
  blk_simp [iblk, e]
  entry_read
  pointwise []

/-- The down weights' block is the last layer's weights. -/
theorem down_at (c : Dev nD) (t : Fin cfg0.N) (k : Fin 2816) (j : Fin 1024) :
    iblk m c 2 t (ix2 k j) = m ((c : Thread nD τ).loc main_arg2) (ix3 3 k j) := by
  have e : ((cfg0.win 2).blk t).view.emb (ix2 k j) = ix2 k j := by blk_ext [idx t]
  blk_simp [iblk, e]
  entry_read
  pointwise []

/-- The gain's block is the second gain of the last layer. -/
theorem gain_at (c : Dev nD) (t : Fin cfg0.N) (k : Fin 1024) :
    iblk m c 3 t (ix2 0 k) = m ((c : Thread nD τ).loc main_arg3) (ix3 3 1 k) := by
  have e : ((cfg0.win 3).blk t).view.emb (ix2 0 k) = ix2 0 k := by blk_ext [idx t]
  blk_simp [iblk, e]
  entry_read
  pointwise []

/-- The offset's block is the second offset of the last layer. -/
theorem offset_at (c : Dev nD) (t : Fin cfg0.N) (k : Fin 1024) :
    iblk m c 4 t (ix2 0 k) = m ((c : Thread nD τ).loc main_arg4) (ix3 3 1 k) := by
  have e : ((cfg0.win 4).blk t).view.emb (ix2 0 k) = ix2 0 k := by blk_ext [idx t]
  blk_simp [iblk, e]
  entry_read
  pointwise []

/-- The result array after the run. -/
theorem final (c : Dev nD) : (dats m 0 c).arrAt 5 (cfgs 0).N
    = result (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 5 _ (by decide +kernel) fun t _ y => ?_
  blk_simp
  rw [after0_5]
  idx_vars y
  obtain rfl : y0 = 0 := Subsingleton.elim _ _
  refine (out_at _ _ _ _ _ _ _).trans ?_
  have hq : (grid0.coords t 1).val < 8 := (grid0.coords t 1).isLt
  have e : ((cfg0.win 5).blk t).view.emb (ix3 0 y1 y2)
      = ix3 (⟨(grid0.coords t 0).val, (grid0.coords t 0).isLt⟩ : Fin 8)
        (⟨(grid0.coords t 1).val * 512 + y1.val, by omega⟩ : Fin 4096) y2 := by
    blk_ext [idx t]
  refine Eq.trans ?_ (congrArg (result _ _ _ _ _) e).symm
  have e0 : row (iblk m c 0 t) y1 = fun k => m ((c : Thread nD τ).loc main_arg0) (ix3 (⟨(grid0.coords t 0).val, (grid0.coords t 0).isLt⟩ : Fin 8)
      (⟨128 + ((grid0.coords t 1).val * 512 + y1.val), by omega⟩ : Fin 4224) k) :=
    funext fun k => rows_at m c t y1 k _ _ rfl (by simp; omega)
  have e1 : mat (φ := .bf16) (iblk m c 1 t) = fun i k => m ((c : Thread nD τ).loc main_arg1) (ix3 3 i k) :=
    funext fun i => funext fun k => wide_at m c t i k
  have e2 : mat (φ := .bf16) (iblk m c 2 t) = fun i k => m ((c : Thread nD τ).loc main_arg2) (ix3 3 i k) :=
    funext fun i => funext fun k => down_at m c t i k
  have e3 : mat (φ := .f32) (iblk m c 3 t) 0 = fun k => m ((c : Thread nD τ).loc main_arg3) (ix3 3 1 k) :=
    funext fun k => gain_at m c t k
  have e4 : mat (φ := .f32) (iblk m c 4 t) 0 = fun k => m ((c : Thread nD τ).loc main_arg4) (ix3 3 1 k) :=
    funext fun k => offset_at m c t k
  rw [e0, e1, e2, e3, e4]
  rfl

end Cert.KernelIdeal.Block

end
-- ==== Proof.Ffn.Plain.lean ====
/- The plain program's result, read at an index: the feed-forward step of the rows it keeps. -/
module

public import proofs.«01_k».proof.Proof.Gen.ReferenceIdeal.Run
public import proofs.«01_k».proof.Proof.Ffn.Math

@[expose] public section

set_option maxRecDepth 16384

noncomputable section

open Idealize.ShloMosaic Idealize.ShloMosaic.TcCoe Idealize.SL.Sem

namespace Cert.ReferenceIdeal.Plain

open Cert.ReferenceIdeal

variable (m : (ℓ : Loc nD τ sig) → Buf (Elt Ideal) ℓ)

theorem result_at (c : Dev nD) (b : Fin 8) (n : Fin 4096) (j : Fin 1024) :
    Cert.ReferenceIdeal.Value.res_main_v40 m c (ix3 b n j)
      = Ffn.step (fun k => m ((c : Thread nD τ).loc main_arg0) (ix3 b ⟨128 + n.val, by omega⟩ k))
        (fun i k => m ((c : Thread nD τ).loc main_arg1) (ix3 3 i k))
        (fun i k => m ((c : Thread nD τ).loc main_arg2) (ix3 3 i k))
        (fun k => m ((c : Thread nD τ).loc main_arg3) (ix3 3 1 k))
        (fun k => m ((c : Thread nD τ).loc main_arg4) (ix3 3 1 k)) j := by
  have e : (⟨128 + n.val, by omega⟩ : Fin 4224) = ⟨112 + (16 + n.val), by omega⟩ := Fin.ext (by simp; omega)
  rw [e]
  pointwise [Cert.ReferenceIdeal.Value.res_main_v40]
  rfl

end Cert.ReferenceIdeal.Plain

end
-- ==== Proof.Ffn.Value2.lean ====
/- The result array of the last layer's call at the sample batch, as a function of its arguments. -/
module

public import proofs.«01_k».proof.Proof.Gen.Kernel2Ideal.Frame
public import proofs.«01_k».proof.Proof.Ffn.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Block

open Cert.Kernel2Ideal Cert.Kernel2Ideal.Gen
open Cert.KernelIdeal.Block (row mat)

/-- What the body leaves in the result's block, at a row and a column. -/
theorem out_at (x0 : Vec Ideal S512x1024 .f32) (x1 : Vec Ideal S1024x5632 .bf16) (x2 : Vec Ideal S2816x1024 .bf16)
    (x3 x4 : Vec Ideal S1x1024 .f32) (r : Fin 512) (j : Fin 1024) :
    out0_5 (F := Ideal) x0 x1 x2 x3 x4 (ix3 0 r j)
      = Ffn.step (row x0 r) (mat (φ := .bf16) x1) (mat (φ := .bf16) x2) (mat (φ := .f32) x3 0) (mat (φ := .f32) x4 0) j := by
  exact Cert.KernelIdeal.Block.out_at x0 x1 x2 x3 x4 r j

/-- The result as a function of the arguments: the feed-forward step of every row from row 128 on. -/
abbrev result (X : FVec Ideal S2x8320x1024 .f32) (W : FVec Ideal S4x1024x5632 .f32) (V : FVec Ideal S4x2816x1024 .f32)
    (g b : FVec Ideal S4x2x1024 .f32) : FVec Ideal S2x8192x1024 .f32 := fun i =>
  Ffn.step (fun k => X (ix3 (i 0) ⟨128 + (i 1).val, by have := (i 1).isLt; simp at this; omega⟩ k)) (fun a b => W (ix3 3 a b)) (fun a b => V (ix3 3 a b))
    (fun k => g (ix3 3 1 k)) (fun k => b (ix3 3 1 k)) (i 2)

variable (m : (ℓ : Loc nD τ sig) → Buf (Elt Ideal) ℓ)

/-- The windows' index maps: the rows' block begins at an element, the others are counted in blocks. -/
theorem idx : ∀ t : Fin cfg0.N,
    win0_0.index t = ![(grid0.coords t 0).val * 8320 + 128 + (grid0.coords t 1).val * 512, 0]
    ∧ win0_1.index t = ![0, 0] ∧ win0_2.index t = ![0, 0]
    ∧ win0_3.index t = ![0, 0] ∧ win0_4.index t = ![0, 0]
    ∧ win0_5.index t = ![(grid0.coords t 0).val, (grid0.coords t 1).val, 0] :=
  (by decide +kernel : ∀ t : Fin grid0.N, _)

/-- The rows of a point's block are rows of the argument. -/
theorem rows_at (c : Dev nD) (t : Fin cfg0.N) (r : Fin 512) (k : Fin 1024) (b : Fin 2) (n : Fin 8320)
    (h0 : b.val = (grid0.coords t 0).val) (h1 : n.val = 128 + (grid0.coords t 1).val * 512 + r.val) :
    iblk m c 0 t (ix2 r k) = m ((c : Thread nD τ).loc main_arg0) (ix3 b n k) := by
  have e : ((cfg0.win 0).blk t).view.emb (ix2 r k) = ix2 (⟨b.val * 8320 + n.val, by omega⟩ : Fin 16640) k := by
    funext a
    refine Fin.ext ((Pipeline.Window.rect_emb_val_off win0_0 t (ix2 r k) a).trans ?_)
    rw [(idx t).1]
    fin_cases a <;> simp [Pipeline.WinKind.off] <;> omega
  blk_simp [iblk, e]
  entry_read
  pointwise []

/-- The wide weights' block is the last layer's weights. -/
theorem wide_at (c : Dev nD) (t : Fin cfg0.N) (i : Fin 1024) (k : Fin 5632) :
    iblk m c 1 t (ix2 i k) = m ((c : Thread nD τ).loc main_arg1) (ix3 3 i k) := by
  have e : ((cfg0.win 1).blk t).view.emb (ix2 i k) = ix2 i k := by blk_ext [idx t]
  blk_simp [iblk, e]
  entry_read
  pointwise []

/-- The down weights' block is the last layer's weights. -/
theorem down_at (c : Dev nD) (t : Fin cfg0.N) (k : Fin 2816) (j : Fin 1024) :
    iblk m c 2 t (ix2 k j) = m ((c : Thread nD τ).loc main_arg2) (ix3 3 k j) := by
  have e : ((cfg0.win 2).blk t).view.emb (ix2 k j) = ix2 k j := by blk_ext [idx t]
  blk_simp [iblk, e]
  entry_read
  pointwise []

/-- The gain's block is the second gain of the last layer. -/
theorem gain_at (c : Dev nD) (t : Fin cfg0.N) (k : Fin 1024) :
    iblk m c 3 t (ix2 0 k) = m ((c : Thread nD τ).loc main_arg3) (ix3 3 1 k) := by
  have e : ((cfg0.win 3).blk t).view.emb (ix2 0 k) = ix2 0 k := by blk_ext [idx t]
  blk_simp [iblk, e]
  entry_read
  pointwise []

/-- The offset's block is the second offset of the last layer. -/
theorem offset_at (c : Dev nD) (t : Fin cfg0.N) (k : Fin 1024) :
    iblk m c 4 t (ix2 0 k) = m ((c : Thread nD τ).loc main_arg4) (ix3 3 1 k) := by
  have e : ((cfg0.win 4).blk t).view.emb (ix2 0 k) = ix2 0 k := by blk_ext [idx t]
  blk_simp [iblk, e]
  entry_read
  pointwise []

/-- The result array after the run. -/
theorem final (c : Dev nD) : (dats m 0 c).arrAt 5 (cfgs 0).N
    = result (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 5 _ (by decide +kernel) fun t _ y => ?_
  blk_simp
  rw [after0_5]
  idx_vars y
  obtain rfl : y0 = 0 := Subsingleton.elim _ _
  refine (out_at _ _ _ _ _ _ _).trans ?_
  have hq : (grid0.coords t 1).val < 16 := (grid0.coords t 1).isLt
  have e : ((cfg0.win 5).blk t).view.emb (ix3 0 y1 y2)
      = ix3 (⟨(grid0.coords t 0).val, (grid0.coords t 0).isLt⟩ : Fin 2)
        (⟨(grid0.coords t 1).val * 512 + y1.val, by omega⟩ : Fin 8192) y2 := by
    blk_ext [idx t]
  refine Eq.trans ?_ (congrArg (result _ _ _ _ _) e).symm
  have e0 : row (iblk m c 0 t) y1 = fun k => m ((c : Thread nD τ).loc main_arg0) (ix3 (⟨(grid0.coords t 0).val, (grid0.coords t 0).isLt⟩ : Fin 2)
      (⟨128 + ((grid0.coords t 1).val * 512 + y1.val), by omega⟩ : Fin 8320) k) :=
    funext fun k => rows_at m c t y1 k _ _ rfl (by simp; omega)
  have e1 : mat (φ := .bf16) (iblk m c 1 t) = fun i k => m ((c : Thread nD τ).loc main_arg1) (ix3 3 i k) :=
    funext fun i => funext fun k => wide_at m c t i k
  have e2 : mat (φ := .bf16) (iblk m c 2 t) = fun i k => m ((c : Thread nD τ).loc main_arg2) (ix3 3 i k) :=
    funext fun i => funext fun k => down_at m c t i k
  have e3 : mat (φ := .f32) (iblk m c 3 t) 0 = fun k => m ((c : Thread nD τ).loc main_arg3) (ix3 3 1 k) :=
    funext fun k => gain_at m c t k
  have e4 : mat (φ := .f32) (iblk m c 4 t) 0 = fun k => m ((c : Thread nD τ).loc main_arg4) (ix3 3 1 k) :=
    funext fun k => offset_at m c t k
  rw [e0, e1, e2, e3, e4]
  rfl

end Cert.Kernel2Ideal.Block

end
-- ==== Proof.Ffn.Plain2.lean ====
/- The plain program's result, read at an index: the feed-forward step of the rows it keeps. -/
module

public import proofs.«01_k».proof.Proof.Gen.Reference2Ideal.Run
public import proofs.«01_k».proof.Proof.Ffn.Math

@[expose] public section

set_option maxRecDepth 16384

noncomputable section

open Idealize.ShloMosaic Idealize.ShloMosaic.TcCoe Idealize.SL.Sem

namespace Cert.Reference2Ideal.Plain

open Cert.Reference2Ideal

variable (m : (ℓ : Loc nD τ sig) → Buf (Elt Ideal) ℓ)

theorem result_at (c : Dev nD) (b : Fin 2) (n : Fin 8192) (j : Fin 1024) :
    Cert.Reference2Ideal.Value.res_main_v40 m c (ix3 b n j)
      = Ffn.step (fun k => m ((c : Thread nD τ).loc main_arg0) (ix3 b ⟨128 + n.val, by omega⟩ k))
        (fun i k => m ((c : Thread nD τ).loc main_arg1) (ix3 3 i k))
        (fun i k => m ((c : Thread nD τ).loc main_arg2) (ix3 3 i k))
        (fun k => m ((c : Thread nD τ).loc main_arg3) (ix3 3 1 k))
        (fun k => m ((c : Thread nD τ).loc main_arg4) (ix3 3 1 k)) j := by
  have e : (⟨128 + n.val, by omega⟩ : Fin 8320) = ⟨112 + (16 + n.val), by omega⟩ := Fin.ext (by simp; omega)
  rw [e]
  pointwise [Cert.Reference2Ideal.Value.res_main_v40]
  rfl

end Cert.Reference2Ideal.Plain

end
-- ==== Proof.Ffn.Block3.lean ====
/- What the body of the other layers' feed-forward call computes of one block of 512 rows: the same step, of rows that
   come as a block of one sequence. -/
module

public import proofs.«01_k».proof.Proof.Gen.Kernel3Ideal.Frame
public import proofs.«01_k».proof.Proof.Ffn.Block
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Block

open Cert.Kernel3Ideal Cert.Kernel3Ideal.Gen
open Cert.KernelIdeal.Block (mat)

/-- A row of a block of one sequence. -/
abbrev row (X : FVec Ideal S1x512x1024 .f32) (r : Fin 512) : Fin 1024 → EReal := fun i => X (ix3 0 r i)

/-- The normalisation at the end of the body. -/
theorem pay1_at (X : FVec Ideal S1x512x1024 .f32) (y : FVec Ideal S512x1024 .f32) (g b : FVec Ideal S1x1024 .f32)
    (r : Fin 512) (j : Fin 1024) : k0_pay1 (F := Ideal) (k0_pay2 X) y g b (ix3 0 r j)
      = Ffn.lnorm (fun k => Ffn.alpha * row X r k + y (ix2 r k)) (mat g 0) (mat b 0) j := by
  pointwise [k0_pay1, k0_pay2]
  rfl

section chunks

variable (X : FVec Ideal S1x512x1024 .f32) (acc : FVec Ideal S512x1024 .f32) (G U G' U' : FVec Ideal S1024x256 .bf16)
  (D D' : FVec Ideal S256x1024 .bf16) (r : Fin 512) (j : Fin 1024)

/-- The first chunk. -/
theorem pay4_at : k0_pay4 (F := Ideal) X G U D (ix2 r j) = Ffn.chunk (row X r) (mat G) (mat U) (mat D) j := by
  pointwise [k0_pay4, k0_pay3, k0_pay2, Ffn.chunk, Ffn.unit, Ffn.silu]
  simp only [zero_sub]

/-- Two chunks on top of `acc`. -/
abbrev two : EReal := acc (ix2 r j) + Ffn.chunk (row X r) (mat G) (mat U) (mat D) j
  + Ffn.chunk (row X r) (mat G') (mat U') (mat D') j

theorem pay8_at : k0_pay8 (F := Ideal) (k0_pay3 X) acc (k0_pay5 X G) (k0_pay6 X U) (k0_pay7 X G)
      (Scalar.ofBits (F := Ideal) .f32 0x3F800000#32) D G' U' D' (ix2 r j)
      = two X acc G U G' U' D D' r j := by
  pointwise [k0_pay8, k0_pay7, k0_pay6, k0_pay5, k0_pay3, k0_pay2, Ffn.chunk, Ffn.unit, Ffn.silu]
  simp only [zero_sub]
  rfl

theorem pay12_at : k0_pay12 (F := Ideal) (k0_pay3 X) acc (k0_pay9 (k0_pay3 X) G) (k0_pay10 (k0_pay3 X) U) (k0_pay11 (k0_pay3 X) G) D G' U' D' (ix2 r j)
      = two X acc G U G' U' D D' r j := by
  pointwise [k0_pay12, k0_pay11, k0_pay10, k0_pay9, k0_pay3, k0_pay2, Ffn.chunk, Ffn.unit, Ffn.silu]
  simp only [zero_sub]
  rfl

theorem pay15_at : k0_pay15 (F := Ideal) (k0_pay3 X) acc (k0_pay13 (k0_pay3 X) G) (k0_pay14 (k0_pay3 X) U) D G' U' D' (ix2 r j)
      = two X acc G U G' U' D D' r j := by
  pointwise [k0_pay15, k0_pay14, k0_pay13, k0_pay3, k0_pay2, Ffn.chunk, Ffn.unit, Ffn.silu]
  simp only [zero_sub]
  rfl

theorem pay17_at : k0_pay17 (F := Ideal) (k0_pay3 X) acc (k0_pay16 (k0_pay3 X) G) U D G' U' D' (ix2 r j)
      = two X acc G U G' U' D D' r j := by
  pointwise [k0_pay17, k0_pay16, k0_pay3, k0_pay2, Ffn.chunk, Ffn.unit, Ffn.silu]
  simp only [zero_sub]
  rfl

theorem pay19_at : k0_pay19 (F := Ideal) (k0_pay3 X) acc (k0_pay18 (F := Ideal) G) U D G' U' D' (ix2 r j)
      = two X acc G U G' U' D D' r j := by
  pointwise [k0_pay19, k0_pay18, k0_pay3, k0_pay2, Ffn.chunk, Ffn.unit, Ffn.silu]
  simp only [zero_sub]
  rfl

end chunks

/-- What the body leaves in the result's block, at a row and a column. -/
theorem out_at (x0 : Vec Ideal S1x512x1024 .f32) (x1 : Vec Ideal S1024x5632 .bf16) (x2 : Vec Ideal S2816x1024 .bf16)
    (x3 x4 : Vec Ideal S1x1024 .f32) (r : Fin 512) (j : Fin 1024) :
    out0_5 (F := Ideal) x0 x1 x2 x3 x4 (ix3 0 r j)
      = Ffn.step (row x0 r) (mat (φ := .bf16) x1) (mat (φ := .bf16) x2) (mat (φ := .f32) x3 0) (mat (φ := .f32) x4 0) j := by
  have h : k0_pay20 (F := Ideal) x0 x1 x2 x3 x4 = k0_pay3 x0 := by
    unfold k0_pay20
    exact congrArg k0_pay3 (funext fun i => View.ld_unit_apply_of _ _ _ _ _ _ (by intro a; fin_cases a <;> simp))
  frame_out
  rw [h, pay1_at, Ffn.step]
  congr 1
  funext k
  rw [pay19_at, two, pay17_at, two, pay15_at, two, pay12_at, two, pay8_at, two, pay4_at, Ffn.pre, Ffn.down_eq,
    Ffn.sum_eleven]
  refine congrArg (Ffn.alpha * row x0 r k + ·) ?_
  iterate 10 refine congrArg₂ (· + ·) ?_ ?_
  all_goals
    exact Cert.KernelIdeal.Block.chunk_part _ _ _ _ _ _ _
      (fun i k => View.ld_unit_apply_of _ _ _ _ _ _ (by intro a; fin_cases a <;> simp <;> omega))
      (fun i k => View.ld_unit_apply_of _ _ _ _ _ _ (by intro a; fin_cases a <;> simp <;> omega))
      (fun k j => View.ld_unit_apply_of _ _ _ _ _ _ (by intro a; fin_cases a <;> simp <;> omega)) _

end Cert.Kernel3Ideal.Block

end
-- ==== Proof.Ffn.Value3.lean ====
/- The result array of the other layers' feed-forward call as a function of its arguments. -/
module

public import proofs.«01_k».proof.Proof.Gen.Kernel3Ideal.Frame
public import proofs.«01_k».proof.Proof.Ffn.Block3
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Block

open Cert.Kernel3Ideal Cert.Kernel3Ideal.Gen
open Cert.KernelIdeal.Block (mat)

/-- The rows of all sequences in one list: row `n` is row `n % 4224` of sequence `n / 4224`. -/
abbrev result (X : FVec Ideal S8x4224x1024 .f32) (W : FVec Ideal S1024x5632 .f32) (V : FVec Ideal S2816x1024 .f32)
    (g b : FVec Ideal S1024 .f32) : FVec Ideal S1x33792x1024 .f32 := fun i =>
  Ffn.step (fun k => X (ix3 ⟨(i 1).val / 4224, by have := (i 1).isLt; simp at this; omega⟩
    ⟨(i 1).val % 4224, by omega⟩ k)) (fun a b => W (ix2 a b)) (fun a b => V (ix2 a b))
    (fun k => g (ix1 k)) (fun k => b (ix1 k)) (i 2)

variable (m : (ℓ : Loc nD τ sig) → Buf (Elt Ideal) ℓ)

/-- The windows' index maps. -/
theorem idx : ∀ t : Fin cfg0.N,
    win0_0.index t = ![0, (grid0.coords t 1).val, 0]
    ∧ win0_1.index t = ![0, 0] ∧ win0_2.index t = ![0, 0]
    ∧ win0_3.index t = ![0, 0] ∧ win0_4.index t = ![0, 0]
    ∧ win0_5.index t = ![0, (grid0.coords t 1).val, 0] :=
  (by decide +kernel : ∀ t : Fin grid0.N, _)

/-- The rows of a point's block are rows of the argument. -/
theorem rows_at (c : Dev nD) (t : Fin cfg0.N) (r : Fin 512) (k : Fin 1024) (n : Fin 33792)
    (h : n.val = (grid0.coords t 1).val * 512 + r.val) :
    iblk m c 0 t (ix3 0 r k) = m ((c : Thread nD τ).loc main_arg0)
      (ix3 ⟨n.val / 4224, by omega⟩ ⟨n.val % 4224, by omega⟩ k) := by
  have e : ((cfg0.win 0).blk t).view.emb (ix3 0 r k) = ix3 0 n k := by blk_ext [idx t, h]
  blk_simp [iblk, e]
  entry_read
  simp only [List.flatten_cons, List.flatten_nil, List.append_nil]
  entry_read
  pointwise []

/-- The wide weights' block is the weights. -/
theorem wide_at (c : Dev nD) (t : Fin cfg0.N) (i : Fin 1024) (k : Fin 5632) :
    iblk m c 1 t (ix2 i k) = m ((c : Thread nD τ).loc main_arg1) (ix2 i k) := by
  have e : ((cfg0.win 1).blk t).view.emb (ix2 i k) = ix2 i k := by blk_ext [idx t]
  blk_simp [iblk, e]
  entry_read
  simp only [List.flatten_cons, List.flatten_nil, List.append_nil]
  entry_read
  pointwise []

/-- The down weights' block is the weights. -/
theorem down_at (c : Dev nD) (t : Fin cfg0.N) (k : Fin 2816) (j : Fin 1024) :
    iblk m c 2 t (ix2 k j) = m ((c : Thread nD τ).loc main_arg2) (ix2 k j) := by
  have e : ((cfg0.win 2).blk t).view.emb (ix2 k j) = ix2 k j := by blk_ext [idx t]
  blk_simp [iblk, e]
  entry_read
  simp only [List.flatten_cons, List.flatten_nil, List.append_nil]
  entry_read
  pointwise []

/-- The gain's block is the gain. -/
theorem gain_at (c : Dev nD) (t : Fin cfg0.N) (k : Fin 1024) :
    iblk m c 3 t (ix2 0 k) = m ((c : Thread nD τ).loc main_arg3) (ix1 k) := by
  have e : ((cfg0.win 3).blk t).view.emb (ix2 0 k) = ix2 0 k := by blk_ext [idx t]
  blk_simp [iblk, e]
  entry_read
  simp only [List.flatten_cons, List.flatten_nil, List.append_nil]
  entry_read
  pointwise []

/-- The offset's block is the offset. -/
theorem offset_at (c : Dev nD) (t : Fin cfg0.N) (k : Fin 1024) :
    iblk m c 4 t (ix2 0 k) = m ((c : Thread nD τ).loc main_arg4) (ix1 k) := by
  have e : ((cfg0.win 4).blk t).view.emb (ix2 0 k) = ix2 0 k := by blk_ext [idx t]
  blk_simp [iblk, e]
  entry_read
  simp only [List.flatten_cons, List.flatten_nil, List.append_nil]
  entry_read
  pointwise []

/-- The result array after the run. -/
theorem final (c : Dev nD) : (dats m 0 c).arrAt 5 (cfgs 0).N
    = result (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 5 _ (by decide +kernel) fun t _ y => ?_
  blk_simp
  rw [after0_5]
  idx_vars y
  obtain rfl : y0 = 0 := Subsingleton.elim _ _
  refine (out_at _ _ _ _ _ _ _).trans ?_
  have hq : (grid0.coords t 1).val < 66 := (grid0.coords t 1).isLt
  have e : ((cfg0.win 5).blk t).view.emb (ix3 0 y1 y2)
      = ix3 0 (⟨(grid0.coords t 1).val * 512 + y1.val, by omega⟩ : Fin 33792) y2 := by
    blk_ext [idx t]
  refine Eq.trans ?_ (congrArg (result _ _ _ _ _) e).symm
  have e0 : row (iblk m c 0 t) y1 = fun k => m ((c : Thread nD τ).loc main_arg0)
      (ix3 ⟨((grid0.coords t 1).val * 512 + y1.val) / 4224, by omega⟩
        ⟨((grid0.coords t 1).val * 512 + y1.val) % 4224, by omega⟩ k) :=
    funext fun k => rows_at m c t y1 k ⟨(grid0.coords t 1).val * 512 + y1.val, by omega⟩ rfl
  have e1 : mat (φ := .bf16) (iblk m c 1 t) = fun i k => m ((c : Thread nD τ).loc main_arg1) (ix2 i k) :=
    funext fun i => funext fun k => wide_at m c t i k
  have e2 : mat (φ := .bf16) (iblk m c 2 t) = fun i k => m ((c : Thread nD τ).loc main_arg2) (ix2 i k) :=
    funext fun i => funext fun k => down_at m c t i k
  have e3 : mat (φ := .f32) (iblk m c 3 t) 0 = fun k => m ((c : Thread nD τ).loc main_arg3) (ix1 k) :=
    funext fun k => gain_at m c t k
  have e4 : mat (φ := .f32) (iblk m c 4 t) 0 = fun k => m ((c : Thread nD τ).loc main_arg4) (ix1 k) :=
    funext fun k => offset_at m c t k
  rw [e0, e1, e2, e3, e4]
  rfl

/-- The rows of a sequence after the last reshape. -/
abbrev cut (X : FVec Ideal S1x33792x1024 .f32) : FVec Ideal S8x4224x1024 .f32 :=
  shapeCast S8x4224x1024 X shapeCasts_S1x33792x1024_S8x4224x1024

/-- The result, at a sequence, a row and a column. -/
theorem cut_at (X : FVec Ideal S8x4224x1024 .f32) (W : FVec Ideal S1024x5632 .f32) (V : FVec Ideal S2816x1024 .f32)
    (g b : FVec Ideal S1024 .f32) (s : Fin 8) (n : Fin 4224) (j : Fin 1024) :
    cut (result X W V g b) (ix3 s n j) = Ffn.step (fun k => X (ix3 s n k)) (fun a b => W (ix2 a b)) (fun a b => V (ix2 a b))
      (fun k => g (ix1 k)) (fun k => b (ix1 k)) j := by
  pointwise []
  have e0 : (⟨(s.val * 4224 + n.val) / 4224, by omega⟩ : Fin 8) = s := Fin.ext (by simp <;> omega)
  have e1 : (⟨(s.val * 4224 + n.val) % 4224, by omega⟩ : Fin 4224) = n := Fin.ext (by simp <;> omega)
  refine Eq.trans (b := Ffn.step (fun k => X (ix3 (⟨(s.val * 4224 + n.val) / 4224, by omega⟩ : Fin 8)
    (⟨(s.val * 4224 + n.val) % 4224, by omega⟩ : Fin 4224) k)) (fun a b => W (ix2 a b)) (fun a b => V (ix2 a b))
      (fun k => g (ix1 k)) (fun k => b (ix1 k)) j) rfl ?_
  rw [e0, e1]

/-- The whole run: the result array is the reshaped rows, the arguments end as they began. -/
theorem run (g : Dev nD → PrngReg) : θ_run defs (onTc (τ := τ) (main (F := Ideal))) ⟨m, fun _ => 0, g⟩ (fun r => ∀ c : Dev nD,
      r.2.mem ((c.tc : Thread nD τ).loc main_v6) = cut (result (m ((c : Thread nD τ).loc main_arg0))
        (m ((c : Thread nD τ).loc main_arg1)) (m ((c : Thread nD τ).loc main_arg2)) (m ((c : Thread nD τ).loc main_arg3))
        (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, h.2 c⟩) (θ_run_and (run_main m g) (unchanged m g))
  refine ((h.1 c).2 main_v6 (by decide)).trans ?_
  unfold Pipeline.afterTail₀
  simp only [List.flatten_cons, List.flatten_nil, List.append_nil]
  simp only [StableHlo.after_cons, StableHlo.after_nil]
  rw [StableHlo.reshape_result]
  refine congrArg cut (Eq.trans ?_ (final m c))
  exact Pipeline.withArrays_arr spec0 launch0.win.arr_inj c _ _ 5

end Cert.Kernel3Ideal.Block

end
-- ==== Proof.Ffn.Plain3.lean ====
/- The plain program's result, read at an index: the feed-forward step of the rows it keeps. -/
module

public import proofs.«01_k».proof.Proof.Gen.Reference3Ideal.Run
public import proofs.«01_k».proof.Proof.Ffn.Math

@[expose] public section

set_option maxRecDepth 16384

noncomputable section

open Idealize.ShloMosaic Idealize.ShloMosaic.TcCoe Idealize.SL.Sem

namespace Cert.Reference3Ideal.Plain

open Cert.Reference3Ideal

variable (m : (ℓ : Loc nD τ sig) → Buf (Elt Ideal) ℓ)

theorem result_at (c : Dev nD) (b : Fin 8) (n : Fin 4224) (j : Fin 1024) :
    Cert.Reference3Ideal.Value.res_main_v30 m c (ix3 b n j)
      = Ffn.step (fun k => m ((c : Thread nD τ).loc main_arg0) (ix3 b n k))
        (fun i k => m ((c : Thread nD τ).loc main_arg1) (ix2 i k))
        (fun i k => m ((c : Thread nD τ).loc main_arg2) (ix2 i k))
        (fun k => m ((c : Thread nD τ).loc main_arg3) (ix1 k))
        (fun k => m ((c : Thread nD τ).loc main_arg4) (ix1 k)) j := by
  pointwise [Cert.Reference3Ideal.Value.res_main_v30]
  rfl

end Cert.Reference3Ideal.Plain

end
-- ==== Proof.Proj.Math.lean ====
/- The mathematics of a projection of one row, and of a projection added to the weighted residual and normalised,
   over the extended reals. Nothing here speaks of a program. -/
module

public import proofs.«01_k».proof.Proof.Ffn.Math

@[expose] public section

set_option maxRecDepth 16384

noncomputable section

open Idealize.ShloMosaic

namespace Ffn

/-- A row times a matrix, at output column `j`. -/
def prod {a b : ℕ} (x : Fin a → EReal) (W : Fin a → Fin b → EReal) (j : Fin b) : EReal := ∑ i, x i * W i j

/-- The layer normalisation of the weighted residual `x` plus the row `y`. -/
def added (x y g b : Fin 1024 → EReal) (j : Fin 1024) : EReal := lnorm (fun k => alpha * x k + y k) g b j

end Ffn

end
-- ==== Proof.Proj.InProj.lean ====
/- The recurrent mixer's input projection: its result as a function of its arguments. -/
module

public import proofs.«01_k».proof.Proof.Gen.Kernel4Ideal.Frame
public import proofs.«01_k».proof.Proof.Proj.Math
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Rows

open Cert.Kernel4Ideal Cert.Kernel4Ideal.Gen

/-- What the body leaves in the result's block, at a row and a column. -/
theorem out_at (x0 : Vec Ideal S1x512x1024 .f32) (x1 : Vec Ideal S1024x5120 .bf16) (r : Fin 512) (j : Fin 5120) :
    out0_2 (F := Ideal) x0 x1 (ix3 0 r j) = Ffn.prod (fun k => x0 (ix3 0 r k)) (fun i k => x1 (ix2 i k)) j := by
  frame_out
  pointwise [k0_pay1, Ffn.prod]
  try rfl

/-- The rows of all sequences in one list: row `n` is row `n % 4224` of sequence `n / 4224`. -/
abbrev result (a0 : FVec Ideal S8x4224x1024 .f32) (a1 : FVec Ideal S1024x5120 .f32) : FVec Ideal S1x33792x5120 .f32 := fun i =>
  Ffn.prod (fun k => a0 (ix3 ⟨(i 1).val / 4224, by have := (i 1).isLt; simp at this; omega⟩ ⟨(i 1).val % 4224, by omega⟩ k)) (fun i k => a1 (ix2 i k)) (i 2)

variable (m : (ℓ : Loc nD τ sig) → Buf (Elt Ideal) ℓ)

/-- The windows' index maps. -/
theorem idx : ∀ t : Fin cfg0.N,
    win0_0.index t = ![0, (grid0.coords t 1).val, 0]
    ∧ win0_1.index t = ![0, 0]
    ∧ win0_2.index t = ![0, (grid0.coords t 1).val, 0] :=
  (by decide +kernel : ∀ t : Fin grid0.N, _)

/-- The rows of a point's block 0 are rows of the argument. -/
theorem rows0_at (c : Dev nD) (t : Fin cfg0.N) (r : Fin 512) (k : Fin 1024) (n : Fin 33792)
    (h : n.val = (grid0.coords t 1).val * 512 + r.val) :
    iblk m c 0 t (ix3 0 r k) = m ((c : Thread nD τ).loc main_arg0)
      (ix3 ⟨n.val / 4224, by omega⟩ ⟨n.val % 4224, by omega⟩ k) := by
  have e : ((cfg0.win 0).blk t).view.emb (ix3 0 r k) = ix3 0 n k := by blk_ext [idx t, h]
  blk_simp [iblk, e]
  entry_read
  simp only [List.flatten_cons, List.flatten_nil, List.append_nil]
  entry_read
  pointwise []

/-- Block 1 is the whole weights. -/
theorem mat1_at (c : Dev nD) (t : Fin cfg0.N) (i : Fin 1024) (k : Fin 5120) :
    iblk m c 1 t (ix2 i k) = m ((c : Thread nD τ).loc main_arg1) (ix2 i k) := by
  have e : ((cfg0.win 1).blk t).view.emb (ix2 i k) = ix2 i k := by blk_ext [idx t]
  blk_simp [iblk, e]
  entry_read
  simp only [List.flatten_cons, List.flatten_nil, List.append_nil]
  entry_read
  pointwise []

/-- The result array after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]
  idx_vars y
  obtain rfl : y0 = 0 := Subsingleton.elim _ _
  refine (out_at _ _  y1 y2).trans ?_
  have hq : (grid0.coords t 1).val < 66 := (grid0.coords t 1).isLt
  have e : ((cfg0.win 2).blk t).view.emb (ix3 0 y1 y2)
      = ix3 0 (⟨(grid0.coords t 1).val * 512 + y1.val, by omega⟩ : Fin 33792) y2 := by
    blk_ext [idx t]
  refine Eq.trans ?_ (congrArg (result _ _ ) e).symm
  have e0 : (fun k : Fin 1024 => iblk m c 0 t (ix3 0 y1 k)) = fun k => m ((c : Thread nD τ).loc main_arg0)
      (ix3 ⟨((grid0.coords t 1).val * 512 + y1.val) / 4224, by omega⟩
        ⟨((grid0.coords t 1).val * 512 + y1.val) % 4224, by omega⟩ k) :=
    funext fun k => rows0_at m c t y1 k ⟨(grid0.coords t 1).val * 512 + y1.val, by omega⟩ rfl
  have e1 : (fun (i : Fin 1024) (k : Fin 5120) => iblk m c 1 t (ix2 i k)) = fun i k => m ((c : Thread nD τ).loc main_arg1) (ix2 i k) :=
    funext fun i => funext fun k => mat1_at m c t i k
  rw [e0, e1]
  rfl

/-- The rows of a sequence after the last reshape. -/
abbrev cut (X : FVec Ideal S1x33792x5120 .f32) : FVec Ideal S8x4224x5120 .f32 :=
  shapeCast S8x4224x5120 X shapeCasts_S1x33792x5120_S8x4224x5120

/-- The result, at a sequence, a row and a column. -/
theorem cut_at (a0 : FVec Ideal S8x4224x1024 .f32) (a1 : FVec Ideal S1024x5120 .f32) (s : Fin 8) (n : Fin 4224) (j : Fin 5120) :
    cut (result a0 a1) (ix3 s n j) = Ffn.prod (fun k => a0 (ix3 s n k)) (fun i k => a1 (ix2 i k)) j := by
  pointwise []
  have e0 : (⟨(s.val * 4224 + n.val) / 4224, by omega⟩ : Fin 8) = s := Fin.ext (by simp; omega)
  have e1 : (⟨(s.val * 4224 + n.val) % 4224, by omega⟩ : Fin 4224) = n := Fin.ext (by simp <;> omega)
  refine Eq.trans (b := Ffn.prod (fun k => a0 (ix3 (⟨(s.val * 4224 + n.val) / 4224, by omega⟩ : Fin 8) (⟨(s.val * 4224 + n.val) % 4224, by omega⟩ : Fin 4224) k)) (fun i k => a1 (ix2 i k)) j) rfl ?_
  rw [e0, e1]

/-- The whole run: the result array is the reshaped rows, the arguments end as they began. -/
theorem run (g : Dev nD → PrngReg) : θ_run defs (onTc (τ := τ) (main (F := Ideal))) ⟨m, fun _ => 0, g⟩ (fun r => ∀ c : Dev nD,
      r.2.mem ((c.tc : Thread nD τ).loc main_v3) = cut (result (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, h.2 c⟩) (θ_run_and (run_main m g) (unchanged m g))
  refine ((h.1 c).2 main_v3 (by decide)).trans ?_
  unfold Pipeline.afterTail₀
  simp only [List.flatten_cons, List.flatten_nil, List.append_nil]
  simp only [StableHlo.after_cons, StableHlo.after_nil]
  rw [StableHlo.reshape_result]
  refine congrArg cut (Eq.trans ?_ (final m c))
  exact Pipeline.withArrays_arr spec0 launch0.win.arr_inj c _ _ 2

end Cert.Kernel4Ideal.Rows

end
-- ==== Proof.Proj.OutProj.lean ====
/- The latent attention's output projection with its normalisation: its result as a function of its arguments. -/
module

public import proofs.«01_k».proof.Proof.Gen.Kernel5Ideal.Frame
public import proofs.«01_k».proof.Proof.Proj.Math
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Rows

open Cert.Kernel5Ideal Cert.Kernel5Ideal.Gen

/-- What the body leaves in the result's block, at a row and a column. -/
theorem out_at (x0 : Vec Ideal S1x512x2048 .bf16) (x1 : Vec Ideal S2048x1024 .bf16) (x2 : Vec Ideal S1x512x1024 .f32) (x3 : Vec Ideal S1x1024 .f32) (x4 : Vec Ideal S1x1024 .f32) (r : Fin 512) (j : Fin 1024) :
    out0_5 (F := Ideal) x0 x1 x2 x3 x4 (ix3 0 r j) = Ffn.added (fun k => x2 (ix3 0 r k)) (Ffn.prod (fun k => x0 (ix3 0 r k)) (fun i k => x1 (ix2 i k))) (fun k => x3 (ix2 0 k)) (fun k => x4 (ix2 0 k)) j := by
  frame_out
  pointwise [k0_pay1, k0_pay2, Ffn.prod, Ffn.added, Ffn.lnorm, Ffn.mean]
  try rfl

/-- The rows of all sequences in one list: row `n` is row `n % 4224` of sequence `n / 4224`. -/
abbrev result (a0 : FVec Ideal S8x4224x2048 .bf16) (a1 : FVec Ideal S2048x1024 .f32) (a2 : FVec Ideal S8x4224x1024 .f32) (a3 : FVec Ideal S1024 .f32) (a4 : FVec Ideal S1024 .f32) : FVec Ideal S1x33792x1024 .f32 := fun i =>
  Ffn.added (fun k => a2 (ix3 ⟨(i 1).val / 4224, by have := (i 1).isLt; simp at this; omega⟩ ⟨(i 1).val % 4224, by omega⟩ k)) (Ffn.prod (fun k => a0 (ix3 ⟨(i 1).val / 4224, by have := (i 1).isLt; simp at this; omega⟩ ⟨(i 1).val % 4224, by omega⟩ k)) (fun i k => a1 (ix2 i k))) (fun k => a3 (ix1 k)) (fun k => a4 (ix1 k)) (i 2)

variable (m : (ℓ : Loc nD τ sig) → Buf (Elt Ideal) ℓ)

/-- The windows' index maps. -/
theorem idx : ∀ t : Fin cfg0.N,
    win0_0.index t = ![0, (grid0.coords t 1).val, 0]
    ∧ win0_1.index t = ![0, 0]
    ∧ win0_2.index t = ![0, (grid0.coords t 1).val, 0]
    ∧ win0_3.index t = ![0, 0]
    ∧ win0_4.index t = ![0, 0]
    ∧ win0_5.index t = ![0, (grid0.coords t 1).val, 0] :=
  (by decide +kernel : ∀ t : Fin grid0.N, _)

/-- The rows of a point's block 0 are rows of the argument. -/
theorem rows0_at (c : Dev nD) (t : Fin cfg0.N) (r : Fin 512) (k : Fin 2048) (n : Fin 33792)
    (h : n.val = (grid0.coords t 1).val * 512 + r.val) :
    iblk m c 0 t (ix3 0 r k) = m ((c : Thread nD τ).loc main_arg0)
      (ix3 ⟨n.val / 4224, by omega⟩ ⟨n.val % 4224, by omega⟩ k) := by
  have e : ((cfg0.win 0).blk t).view.emb (ix3 0 r k) = ix3 0 n k := by blk_ext [idx t, h]
  blk_simp [iblk, e]
  entry_read
  simp only [List.flatten_cons, List.flatten_nil, List.append_nil]
  entry_read
  pointwise []

/-- Block 1 is the whole weights. -/
theorem mat1_at (c : Dev nD) (t : Fin cfg0.N) (i : Fin 2048) (k : Fin 1024) :
    iblk m c 1 t (ix2 i k) = m ((c : Thread nD τ).loc main_arg1) (ix2 i k) := by
  have e : ((cfg0.win 1).blk t).view.emb (ix2 i k) = ix2 i k := by blk_ext [idx t]
  blk_simp [iblk, e]
  entry_read
  simp only [List.flatten_cons, List.flatten_nil, List.append_nil]
  entry_read
  pointwise []

/-- The rows of a point's block 2 are rows of the argument. -/
theorem rows2_at (c : Dev nD) (t : Fin cfg0.N) (r : Fin 512) (k : Fin 1024) (n : Fin 33792)
    (h : n.val = (grid0.coords t 1).val * 512 + r.val) :
    iblk m c 2 t (ix3 0 r k) = m ((c : Thread nD τ).loc main_arg2)
      (ix3 ⟨n.val / 4224, by omega⟩ ⟨n.val % 4224, by omega⟩ k) := by
  have e : ((cfg0.win 2).blk t).view.emb (ix3 0 r k) = ix3 0 n k := by blk_ext [idx t, h]
  blk_simp [iblk, e]
  entry_read
  simp only [List.flatten_cons, List.flatten_nil, List.append_nil]
  entry_read
  pointwise []

/-- Block 3 is the whole vector. -/
theorem vec3_at (c : Dev nD) (t : Fin cfg0.N) (k : Fin 1024) :
    iblk m c 3 t (ix2 0 k) = m ((c : Thread nD τ).loc main_arg3) (ix1 k) := by
  have e : ((cfg0.win 3).blk t).view.emb (ix2 0 k) = ix2 0 k := by blk_ext [idx t]
  blk_simp [iblk, e]
  entry_read
  simp only [List.flatten_cons, List.flatten_nil, List.append_nil]
  entry_read
  pointwise []

/-- Block 4 is the whole vector. -/
theorem vec4_at (c : Dev nD) (t : Fin cfg0.N) (k : Fin 1024) :
    iblk m c 4 t (ix2 0 k) = m ((c : Thread nD τ).loc main_arg4) (ix1 k) := by
  have e : ((cfg0.win 4).blk t).view.emb (ix2 0 k) = ix2 0 k := by blk_ext [idx t]
  blk_simp [iblk, e]
  entry_read
  simp only [List.flatten_cons, List.flatten_nil, List.append_nil]
  entry_read
  pointwise []

/-- The result array after the run. -/
theorem final (c : Dev nD) : (dats m 0 c).arrAt 5 (cfgs 0).N
    = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  idx_vars y
  obtain rfl : y0 = 0 := Subsingleton.elim _ _
  refine (out_at _ _ _ _ _  y1 y2).trans ?_
  have hq : (grid0.coords t 1).val < 66 := (grid0.coords t 1).isLt
  have e : ((cfg0.win 5).blk t).view.emb (ix3 0 y1 y2)
      = ix3 0 (⟨(grid0.coords t 1).val * 512 + y1.val, by omega⟩ : Fin 33792) y2 := by
    blk_ext [idx t]
  refine Eq.trans ?_ (congrArg (result _ _ _ _ _ ) e).symm
  have e0 : (fun k : Fin 2048 => iblk m c 0 t (ix3 0 y1 k)) = fun k => m ((c : Thread nD τ).loc main_arg0)
      (ix3 ⟨((grid0.coords t 1).val * 512 + y1.val) / 4224, by omega⟩
        ⟨((grid0.coords t 1).val * 512 + y1.val) % 4224, by omega⟩ k) :=
    funext fun k => rows0_at m c t y1 k ⟨(grid0.coords t 1).val * 512 + y1.val, by omega⟩ rfl
  have e1 : (fun (i : Fin 2048) (k : Fin 1024) => iblk m c 1 t (ix2 i k)) = fun i k => m ((c : Thread nD τ).loc main_arg1) (ix2 i k) :=
    funext fun i => funext fun k => mat1_at m c t i k
  have e2 : (fun k : Fin 1024 => iblk m c 2 t (ix3 0 y1 k)) = fun k => m ((c : Thread nD τ).loc main_arg2)
      (ix3 ⟨((grid0.coords t 1).val * 512 + y1.val) / 4224, by omega⟩
        ⟨((grid0.coords t 1).val * 512 + y1.val) % 4224, by omega⟩ k) :=
    funext fun k => rows2_at m c t y1 k ⟨(grid0.coords t 1).val * 512 + y1.val, by omega⟩ rfl
  have e3 : (fun k : Fin 1024 => iblk m c 3 t (ix2 0 k)) = fun k => m ((c : Thread nD τ).loc main_arg3) (ix1 k) :=
    funext fun k => vec3_at m c t k
  have e4 : (fun k : Fin 1024 => iblk m c 4 t (ix2 0 k)) = fun k => m ((c : Thread nD τ).loc main_arg4) (ix1 k) :=
    funext fun k => vec4_at m c t k
  rw [e0, e1, e2, e3, e4]
  rfl

/-- The rows of a sequence after the last reshape. -/
abbrev cut (X : FVec Ideal S1x33792x1024 .f32) : FVec Ideal S8x4224x1024 .f32 :=
  shapeCast S8x4224x1024 X shapeCasts_S1x33792x1024_S8x4224x1024

/-- The result, at a sequence, a row and a column. -/
theorem cut_at (a0 : FVec Ideal S8x4224x2048 .bf16) (a1 : FVec Ideal S2048x1024 .f32) (a2 : FVec Ideal S8x4224x1024 .f32) (a3 : FVec Ideal S1024 .f32) (a4 : FVec Ideal S1024 .f32) (s : Fin 8) (n : Fin 4224) (j : Fin 1024) :
    cut (result a0 a1 a2 a3 a4) (ix3 s n j) = Ffn.added (fun k => a2 (ix3 s n k)) (Ffn.prod (fun k => a0 (ix3 s n k)) (fun i k => a1 (ix2 i k))) (fun k => a3 (ix1 k)) (fun k => a4 (ix1 k)) j := by
  pointwise []
  have e0 : (⟨(s.val * 4224 + n.val) / 4224, by omega⟩ : Fin 8) = s := Fin.ext (by simp; omega)
  have e1 : (⟨(s.val * 4224 + n.val) % 4224, by omega⟩ : Fin 4224) = n := Fin.ext (by simp <;> omega)
  refine Eq.trans (b := Ffn.added (fun k => a2 (ix3 (⟨(s.val * 4224 + n.val) / 4224, by omega⟩ : Fin 8) (⟨(s.val * 4224 + n.val) % 4224, by omega⟩ : Fin 4224) k)) (Ffn.prod (fun k => a0 (ix3 (⟨(s.val * 4224 + n.val) / 4224, by omega⟩ : Fin 8) (⟨(s.val * 4224 + n.val) % 4224, by omega⟩ : Fin 4224) k)) (fun i k => a1 (ix2 i k))) (fun k => a3 (ix1 k)) (fun k => a4 (ix1 k)) j) rfl ?_
  rw [e0, e1]

/-- The whole run: the result array is the reshaped rows, the arguments end as they began. -/
theorem run (g : Dev nD → PrngReg) : θ_run defs (onTc (τ := τ) (main (F := Ideal))) ⟨m, fun _ => 0, g⟩ (fun r => ∀ c : Dev nD,
      r.2.mem ((c.tc : Thread nD τ).loc main_v6) = cut (result (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, h.2 c⟩) (θ_run_and (run_main m g) (unchanged m g))
  refine ((h.1 c).2 main_v6 (by decide)).trans ?_
  unfold Pipeline.afterTail₀
  simp only [List.flatten_cons, List.flatten_nil, List.append_nil]
  simp only [StableHlo.after_cons, StableHlo.after_nil]
  rw [StableHlo.reshape_result]
  refine congrArg cut (Eq.trans ?_ (final m c))
  exact Pipeline.withArrays_arr spec0 launch0.win.arr_inj c _ _ 5

end Cert.Kernel5Ideal.Rows

end
-- ==== Proof.Proj.Gated.lean ====
/- Heads of a row normalised by their root mean squares and gated, over the extended reals. Nothing here speaks of a
   program. -/
module

public import proofs.«01_k».proof.Proof.Proj.Math

@[expose] public section

noncomputable section

open Idealize.ShloMosaic

namespace Proj

/-- The width of a head, 128, and the small constant under its root. -/
def headWidth : EReal := Ideal.ofBits .f32 0x43000000#32
def headEps : EReal := Ideal.ofBits .f32 0x358637BD#32

/-- A head `z` normalised by its root mean square, with gain `g`. -/
def headNorm (z g : Fin 128 → EReal) (i : Fin 128) : EReal :=
  z i * Ideal.rsqrt (Ideal.div (∑ k, z k * z k) headWidth + headEps) * g i

/-- Column `k` of the row `z` after its eight heads are normalised. -/
def heads (z : Fin 1024 → EReal) (g : Fin 128 → EReal) (k : Fin 1024) : EReal :=
  headNorm (fun i => z ⟨k.val / 128 * 128 + i.val, by omega⟩) g ⟨k.val % 128, by omega⟩

/-- The head that begins at column `128 * n`. -/
theorem heads_eq (z : Fin 1024 → EReal) (g : Fin 128 → EReal) (n : ℕ) (hn : n < 8) (i : Fin 128) :
    headNorm (fun k => z ⟨128 * n + k.val, by omega⟩) g i = heads z g ⟨128 * n + i.val, by omega⟩ := by
  have hz : (fun k : Fin 128 => z ⟨128 * n + k.val, by omega⟩)
      = fun k : Fin 128 => z ⟨(128 * n + i.val) / 128 * 128 + k.val, by omega⟩ :=
    funext fun k => congrArg z (Fin.ext (show 128 * n + k.val = _ by simp only; omega))
  have hi : i = ⟨(128 * n + i.val) % 128, by omega⟩ := Fin.ext (by simp only; omega)
  unfold heads
  exact (congrArg (fun w => headNorm w g i) hz).trans (congrArg (headNorm _ g) hi)

/-- Column `k` of the row `z`, its heads normalised and the row gated by `u`. -/
def gated (z u : Fin 1024 → EReal) (g : Fin 128 → EReal) (k : Fin 1024) : EReal :=
  heads z g k * Ffn.silu (u k)

end Proj

end
-- ==== Proof.Proj.HgrnOut.lean ====
/- The recurrent mixer's output projection: its result as a function of its arguments. -/
module

public import proofs.«01_k».proof.Proof.Gen.Kernel7Ideal.Frame
public import proofs.«01_k».proof.Proof.Proj.Gated
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Rows

open Cert.Kernel7Ideal Cert.Kernel7Ideal.Gen

/-- A row of the two scans' sum. -/
abbrev both (x0 x1 : Vec Ideal S1x512x1024 .f32) (r : Fin 512) (k : Fin 1024) : EReal := x0 (ix3 0 r k) + x1 (ix3 0 r k)

/-- Head 0 of a block's row. -/
theorem head0_at (x0 x1 : Vec Ideal S1x512x1024 .f32) (x3 : Vec Ideal S1x128 .f32) (r : Fin 512) (i : Fin 128) :
    k0_pay3 (F := Ideal) (View.ld x0 r0_0) (View.ld x1 r0_0) (View.ld x3 r0_1) (ix2 r i)
      = Proj.headNorm (fun k => both x0 x1 r ⟨128 * 0 + k.val, by omega⟩) (fun k => x3 (ix2 0 k)) i := by
  simp (disch := decide) only [View.ld_unit_lit']
  pointwise [k0_pay3, k0_pay2, Proj.headNorm, Proj.headWidth, Proj.headEps, both]
  try simp only [Nat.add_comm]
  try rfl

/-- Head 1 of a block's row. -/
theorem head1_at (x0 x1 : Vec Ideal S1x512x1024 .f32) (x3 : Vec Ideal S1x128 .f32) (r : Fin 512) (i : Fin 128) :
    k0_pay4 (F := Ideal) (View.ld x0 r0_0) (View.ld x1 r0_0) (View.ld x3 r0_1) (ix2 r i)
      = Proj.headNorm (fun k => both x0 x1 r ⟨128 * 1 + k.val, by omega⟩) (fun k => x3 (ix2 0 k)) i := by
  simp (disch := decide) only [View.ld_unit_lit']
  pointwise [k0_pay4, k0_pay2, Proj.headNorm, Proj.headWidth, Proj.headEps, both]
  try simp only [Nat.add_comm]
  try rfl

/-- Head 2 of a block's row. -/
theorem head2_at (x0 x1 : Vec Ideal S1x512x1024 .f32) (x3 : Vec Ideal S1x128 .f32) (r : Fin 512) (i : Fin 128) :
    k0_pay8 (F := Ideal) (k0_pay5 (View.ld x0 r0_0) (View.ld x1 r0_0)) (k0_pay6 (View.ld x3 r0_1)) (k0_pay7 (View.ld x0 r0_0) (View.ld x1 r0_0)) (ix2 r i)
      = Proj.headNorm (fun k => both x0 x1 r ⟨128 * 2 + k.val, by omega⟩) (fun k => x3 (ix2 0 k)) i := by
  simp (disch := decide) only [View.ld_unit_lit']
  pointwise [k0_pay8, k0_pay5, k0_pay6, k0_pay7, k0_pay2, Proj.headNorm, Proj.headWidth, Proj.headEps, both]
  try simp only [Nat.add_comm]
  try rfl

/-- Head 3 of a block's row. -/
theorem head3_at (x0 x1 : Vec Ideal S1x512x1024 .f32) (x3 : Vec Ideal S1x128 .f32) (r : Fin 512) (i : Fin 128) :
    k0_pay9 (F := Ideal) (k0_pay2 (View.ld x0 r0_0) (View.ld x1 r0_0)) (View.ld x3 r0_1) (ix2 r i)
      = Proj.headNorm (fun k => both x0 x1 r ⟨128 * 3 + k.val, by omega⟩) (fun k => x3 (ix2 0 k)) i := by
  simp (disch := decide) only [View.ld_unit_lit']
  pointwise [k0_pay9, k0_pay2, Proj.headNorm, Proj.headWidth, Proj.headEps, both]
  try simp only [Nat.add_comm]
  try rfl

/-- Head 4 of a block's row. -/
theorem head4_at (x0 x1 : Vec Ideal S1x512x1024 .f32) (x3 : Vec Ideal S1x128 .f32) (r : Fin 512) (i : Fin 128) :
    k0_pay10 (F := Ideal) (k0_pay2 (View.ld x0 r0_0) (View.ld x1 r0_0)) (View.ld x3 r0_1) (ix2 r i)
      = Proj.headNorm (fun k => both x0 x1 r ⟨128 * 4 + k.val, by omega⟩) (fun k => x3 (ix2 0 k)) i := by
  simp (disch := decide) only [View.ld_unit_lit']
  pointwise [k0_pay10, k0_pay2, Proj.headNorm, Proj.headWidth, Proj.headEps, both]
  try simp only [Nat.add_comm]
  try rfl

/-- Eight heads side by side, read at a row and a column. -/
theorem join_at (Y0 Y1 Y2 Y3 Y4 Y5 Y6 Y7 : FVec Ideal S512x128 .f32) (r : Fin 512) (k : Fin 1024) (f : Fin 1024 → EReal)
    (h0 : ∀ i : Fin 128, Y0 (ix2 r i) = f ⟨128 * 0 + i.val, by omega⟩)
    (h1 : ∀ i : Fin 128, Y1 (ix2 r i) = f ⟨128 * 1 + i.val, by omega⟩)
    (h2 : ∀ i : Fin 128, Y2 (ix2 r i) = f ⟨128 * 2 + i.val, by omega⟩)
    (h3 : ∀ i : Fin 128, Y3 (ix2 r i) = f ⟨128 * 3 + i.val, by omega⟩)
    (h4 : ∀ i : Fin 128, Y4 (ix2 r i) = f ⟨128 * 4 + i.val, by omega⟩)
    (h5 : ∀ i : Fin 128, Y5 (ix2 r i) = f ⟨128 * 5 + i.val, by omega⟩)
    (h6 : ∀ i : Fin 128, Y6 (ix2 r i) = f ⟨128 * 6 + i.val, by omega⟩)
    (h7 : ∀ i : Fin 128, Y7 (ix2 r i) = f ⟨128 * 7 + i.val, by omega⟩)
    : concatenate S512x1024 1 [⟨S512x128, Y0⟩, ⟨S512x128, Y1⟩, ⟨S512x128, Y2⟩, ⟨S512x128, Y3⟩, ⟨S512x128, Y4⟩, ⟨S512x128, Y5⟩, ⟨S512x128, Y6⟩, ⟨S512x128, Y7⟩] concatenates_S512x128_S512x128_S512x128_S512x128_S512x128_S512x128_S512x128_S512x128_S512x1024_d1 (ix2 r k) = f k := by
  have hk := k.isLt
  pointwise []
  by_cases c0 : k.val < 128
  · rw [dif_pos c0]
    exact (h0 _).trans (congrArg f (Fin.ext (by simp only; omega)))
  rw [dif_neg c0]
  by_cases c1 : k.val - 128 < 128
  · rw [dif_pos c1]
    exact (h1 _).trans (congrArg f (Fin.ext (by simp only; omega)))
  rw [dif_neg c1]
  by_cases c2 : k.val - 128 - 128 < 128
  · rw [dif_pos c2]
    exact (h2 _).trans (congrArg f (Fin.ext (by simp only; omega)))
  rw [dif_neg c2]
  by_cases c3 : k.val - 128 - 128 - 128 < 128
  · rw [dif_pos c3]
    exact (h3 _).trans (congrArg f (Fin.ext (by simp only; omega)))
  rw [dif_neg c3]
  by_cases c4 : k.val - 128 - 128 - 128 - 128 < 128
  · rw [dif_pos c4]
    exact (h4 _).trans (congrArg f (Fin.ext (by simp only; omega)))
  rw [dif_neg c4]
  by_cases c5 : k.val - 128 - 128 - 128 - 128 - 128 < 128
  · rw [dif_pos c5]
    exact (h5 _).trans (congrArg f (Fin.ext (by simp only; omega)))
  rw [dif_neg c5]
  by_cases c6 : k.val - 128 - 128 - 128 - 128 - 128 - 128 < 128
  · rw [dif_pos c6]
    exact (h6 _).trans (congrArg f (Fin.ext (by simp only; omega)))
  rw [dif_neg c6]
  exact (h7 _).trans (congrArg f (Fin.ext (by simp only; omega)))

/-- All heads of a block's row. -/
theorem heads_at (x0 x1 : Vec Ideal S1x512x1024 .f32) (x3 : Vec Ideal S1x128 .f32) (r : Fin 512) (k : Fin 1024) :
    k0_pay14 (F := Ideal) (k0_pay2 (View.ld x0 r0_0) (View.ld x1 r0_0)) (k0_pay3 (F := Ideal) (View.ld x0 r0_0) (View.ld x1 r0_0) (View.ld x3 r0_1)) (k0_pay4 (F := Ideal) (View.ld x0 r0_0) (View.ld x1 r0_0) (View.ld x3 r0_1)) (k0_pay8 (F := Ideal) (k0_pay5 (View.ld x0 r0_0) (View.ld x1 r0_0)) (k0_pay6 (View.ld x3 r0_1)) (k0_pay7 (View.ld x0 r0_0) (View.ld x1 r0_0))) (k0_pay9 (F := Ideal) (k0_pay2 (View.ld x0 r0_0) (View.ld x1 r0_0)) (View.ld x3 r0_1)) (k0_pay10 (F := Ideal) (k0_pay2 (View.ld x0 r0_0) (View.ld x1 r0_0)) (View.ld x3 r0_1)) (k0_pay11 (k0_pay2 (View.ld x0 r0_0) (View.ld x1 r0_0))) (k0_pay12 (View.ld x3 r0_1)) (k0_pay13 (k0_pay2 (View.ld x0 r0_0) (View.ld x1 r0_0))) (View.ld x3 r0_1) (View.ld x3 r0_1) (ix2 r k)
      = Proj.heads (both x0 x1 r) (fun k => x3 (ix2 0 k)) k := by
  refine join_at _ _ _ _ _ _ _ _ r k (Proj.heads (both x0 x1 r) (fun k => x3 (ix2 0 k))) ?_ ?_ ?_ ?_ ?_ ?_ ?_ ?_
  · exact fun i => (head0_at x0 x1 x3 r i).trans (Proj.heads_eq (both x0 x1 r) _ 0 (by decide) i)
  · exact fun i => (head1_at x0 x1 x3 r i).trans (Proj.heads_eq (both x0 x1 r) _ 1 (by decide) i)
  · exact fun i => (head2_at x0 x1 x3 r i).trans (Proj.heads_eq (both x0 x1 r) _ 2 (by decide) i)
  · exact fun i => (head3_at x0 x1 x3 r i).trans (Proj.heads_eq (both x0 x1 r) _ 3 (by decide) i)
  · exact fun i => (head4_at x0 x1 x3 r i).trans (Proj.heads_eq (both x0 x1 r) _ 4 (by decide) i)
  · intro i
    refine Eq.trans ?_ (Proj.heads_eq (both x0 x1 r) (fun k => x3 (ix2 0 k)) 5 (by decide) i)
    simp (disch := decide) only [View.ld_unit_lit']
    pointwise [k0_pay11, k0_pay12, k0_pay13, k0_pay2, Proj.headNorm, Proj.headWidth, Proj.headEps, both]
    try simp only [Nat.add_comm]
    try rfl
  · intro i
    refine Eq.trans ?_ (Proj.heads_eq (both x0 x1 r) (fun k => x3 (ix2 0 k)) 6 (by decide) i)
    simp (disch := decide) only [View.ld_unit_lit']
    pointwise [k0_pay11, k0_pay12, k0_pay13, k0_pay2, Proj.headNorm, Proj.headWidth, Proj.headEps, both]
    try simp only [Nat.add_comm]
    try rfl
  · intro i
    refine Eq.trans ?_ (Proj.heads_eq (both x0 x1 r) (fun k => x3 (ix2 0 k)) 7 (by decide) i)
    simp (disch := decide) only [View.ld_unit_lit']
    pointwise [k0_pay11, k0_pay12, k0_pay13, k0_pay2, Proj.headNorm, Proj.headWidth, Proj.headEps, both]
    try simp only [Nat.add_comm]
    try rfl

/-- The gate, the product and the normalisation of a block's row. -/
theorem tail_at (z : FVec Ideal S512x1024 .f32) (x2 : Vec Ideal S1x512x1024 .f32) (x4 : Vec Ideal S1024x1024 .bf16) (x5 : Vec Ideal S1x512x1024 .f32) (x6 x7 : Vec Ideal S1x1024 .f32) (r : Fin 512) (j : Fin 1024) :
    k0_pay16 (F := Ideal) z (k0_pay15 (View.ld x2 r0_0)) (Scalar.ofBits .f32 0x00000000#32) (View.ld x4 r0_2) (View.ld x5 r0_0) (View.ld x6 r0_3) (View.ld x7 r0_3) (ix2 r j)
      = Ffn.added (fun k => x5 (ix3 0 r k)) (Ffn.prod (fun k => z (ix2 r k) * Ffn.silu (x2 (ix3 0 r k)))
        (fun i k => x4 (ix2 i k))) (fun k => x6 (ix2 0 k)) (fun k => x7 (ix2 0 k)) j := by
  simp (disch := decide) only [View.ld_unit_lit']
  pointwise [k0_pay16, k0_pay15, Ffn.prod, Ffn.added, Ffn.lnorm, Ffn.mean, Ffn.silu]
  simp only [zero_sub]
  rfl

/-- What the body leaves in the result's block, at a row and a column. -/
theorem out_at (x0 : Vec Ideal S1x512x1024 .f32) (x1 : Vec Ideal S1x512x1024 .f32) (x2 : Vec Ideal S1x512x1024 .f32) (x3 : Vec Ideal S1x128 .f32) (x4 : Vec Ideal S1024x1024 .bf16) (x5 : Vec Ideal S1x512x1024 .f32) (x6 x7 : Vec Ideal S1x1024 .f32) (r : Fin 512) (j : Fin 1024) :
    out0_8 (F := Ideal) x0 x1 x2 x3 x4 x5 x6 x7 (ix3 0 r j) = Ffn.added (fun k => x5 (ix3 0 r k)) (Ffn.prod (Proj.gated (fun k => x0 (ix3 0 r k) + x1 (ix3 0 r k)) (fun k => x2 (ix3 0 r k)) (fun k => x3 (ix2 0 k))) (fun i k => x4 (ix2 i k))) (fun k => x6 (ix2 0 k)) (fun k => x7 (ix2 0 k)) j := by
  have hz : (fun k : Fin 1024 => k0_pay14 (F := Ideal) (k0_pay2 (View.ld x0 r0_0) (View.ld x1 r0_0)) (k0_pay3 (F := Ideal) (View.ld x0 r0_0) (View.ld x1 r0_0) (View.ld x3 r0_1)) (k0_pay4 (F := Ideal) (View.ld x0 r0_0) (View.ld x1 r0_0) (View.ld x3 r0_1)) (k0_pay8 (F := Ideal) (k0_pay5 (View.ld x0 r0_0) (View.ld x1 r0_0)) (k0_pay6 (View.ld x3 r0_1)) (k0_pay7 (View.ld x0 r0_0) (View.ld x1 r0_0))) (k0_pay9 (F := Ideal) (k0_pay2 (View.ld x0 r0_0) (View.ld x1 r0_0)) (View.ld x3 r0_1)) (k0_pay10 (F := Ideal) (k0_pay2 (View.ld x0 r0_0) (View.ld x1 r0_0)) (View.ld x3 r0_1)) (k0_pay11 (k0_pay2 (View.ld x0 r0_0) (View.ld x1 r0_0))) (k0_pay12 (View.ld x3 r0_1)) (k0_pay13 (k0_pay2 (View.ld x0 r0_0) (View.ld x1 r0_0))) (View.ld x3 r0_1) (View.ld x3 r0_1) (ix2 r k) * Ffn.silu (x2 (ix3 0 r k)))
      = Proj.gated (fun k => x0 (ix3 0 r k) + x1 (ix3 0 r k)) (fun k => x2 (ix3 0 r k)) (fun k => x3 (ix2 0 k)) :=
    funext fun k => congrArg (· * Ffn.silu (x2 (ix3 0 r k))) (heads_at x0 x1 x3 r k)
  rw [← hz]
  refine Eq.trans ?_ (tail_at _ x2 x4 x5 x6 x7 r j)
  frame_out
  pointwise [k0_pay1, k0_pay17]
  simp (disch := decide) only [View.ld_unit_lit']

/-- The rows of all sequences in one list: row `n` is row `n % 4224` of sequence `n / 4224`. -/
abbrev result (a0 : FVec Ideal S8x4224x1024 .f32) (a1 : FVec Ideal S8x4224x1024 .f32) (a2 : FVec Ideal S8x4224x5120 .f32) (a3 : FVec Ideal S128 .f32) (a4 : FVec Ideal S1024x1024 .f32) (a5 : FVec Ideal S8x4224x1024 .f32) (a6 : FVec Ideal S1024 .f32) (a7 : FVec Ideal S1024 .f32) : FVec Ideal S1x33792x1024 .f32 := fun i =>
  Ffn.added (fun k => a5 (ix3 ⟨(i 1).val / 4224, by have := (i 1).isLt; simp at this; omega⟩ ⟨(i 1).val % 4224, by omega⟩ k)) (Ffn.prod (Proj.gated (fun k => a0 (ix3 ⟨(i 1).val / 4224, by have := (i 1).isLt; simp at this; omega⟩ ⟨(i 1).val % 4224, by omega⟩ k) + a1 (ix3 ⟨(i 1).val / 4224, by have := (i 1).isLt; simp at this; omega⟩ ⟨(i 1).val % 4224, by omega⟩ k)) (fun k => a2 (ix3 ⟨(i 1).val / 4224, by have := (i 1).isLt; simp at this; omega⟩ ⟨(i 1).val % 4224, by omega⟩ ⟨4096 + k.val, by omega⟩)) (fun k => a3 (ix1 k))) (fun i k => a4 (ix2 i k))) (fun k => a6 (ix1 k)) (fun k => a7 (ix1 k)) (i 2)

variable (m : (ℓ : Loc nD τ sig) → Buf (Elt Ideal) ℓ)

/-- The windows' index maps. -/
theorem idx : ∀ t : Fin cfg0.N,
    win0_0.index t = ![0, (grid0.coords t 1).val, 0]
    ∧ win0_1.index t = ![0, (grid0.coords t 1).val, 0]
    ∧ win0_2.index t = ![0, (grid0.coords t 1).val, 4]
    ∧ win0_3.index t = ![0, 0]
    ∧ win0_4.index t = ![0, 0]
    ∧ win0_5.index t = ![0, (grid0.coords t 1).val, 0]
    ∧ win0_6.index t = ![0, 0]
    ∧ win0_7.index t = ![0, 0]
    ∧ win0_8.index t = ![0, (grid0.coords t 1).val, 0] :=
  (by decide +kernel : ∀ t : Fin grid0.N, _)

/-- The rows of a point's block 0 are rows of the argument. -/
theorem rows0_at (c : Dev nD) (t : Fin cfg0.N) (r : Fin 512) (k : Fin 1024) (n : Fin 33792)
    (h : n.val = (grid0.coords t 1).val * 512 + r.val) :
    iblk m c 0 t (ix3 0 r k) = m ((c : Thread nD τ).loc main_arg0)
      (ix3 ⟨n.val / 4224, by omega⟩ ⟨n.val % 4224, by omega⟩ k) := by
  have e : ((cfg0.win 0).blk t).view.emb (ix3 0 r k) = ix3 0 n k := by blk_ext [idx t, h]
  blk_simp [iblk, e]
  entry_read
  simp only [List.flatten_cons, List.flatten_nil, List.append_nil]
  entry_read
  pointwise []

/-- The rows of a point's block 1 are rows of the argument. -/
theorem rows1_at (c : Dev nD) (t : Fin cfg0.N) (r : Fin 512) (k : Fin 1024) (n : Fin 33792)
    (h : n.val = (grid0.coords t 1).val * 512 + r.val) :
    iblk m c 1 t (ix3 0 r k) = m ((c : Thread nD τ).loc main_arg1)
      (ix3 ⟨n.val / 4224, by omega⟩ ⟨n.val % 4224, by omega⟩ k) := by
  have e : ((cfg0.win 1).blk t).view.emb (ix3 0 r k) = ix3 0 n k := by blk_ext [idx t, h]
  blk_simp [iblk, e]
  entry_read
  simp only [List.flatten_cons, List.flatten_nil, List.append_nil]
  entry_read
  pointwise []

/-- The rows of a point's block 2 are rows of the argument. -/
theorem rows2_at (c : Dev nD) (t : Fin cfg0.N) (r : Fin 512) (k : Fin 1024) (n : Fin 33792)
    (h : n.val = (grid0.coords t 1).val * 512 + r.val) :
    iblk m c 2 t (ix3 0 r k) = m ((c : Thread nD τ).loc main_arg2)
      (ix3 ⟨n.val / 4224, by omega⟩ ⟨n.val % 4224, by omega⟩ ⟨4096 + k.val, by omega⟩) := by
  have e : ((cfg0.win 2).blk t).view.emb (ix3 0 r k) = ix3 0 n (⟨4096 + k.val, by omega⟩ : Fin 5120) := by blk_ext [idx t, h]
  blk_simp [iblk, e]
  entry_read
  simp only [List.flatten_cons, List.flatten_nil, List.append_nil]
  entry_read
  pointwise []

/-- The rows of a point's block 5 are rows of the argument. -/
theorem rows5_at (c : Dev nD) (t : Fin cfg0.N) (r : Fin 512) (k : Fin 1024) (n : Fin 33792)
    (h : n.val = (grid0.coords t 1).val * 512 + r.val) :
    iblk m c 5 t (ix3 0 r k) = m ((c : Thread nD τ).loc main_arg5)
      (ix3 ⟨n.val / 4224, by omega⟩ ⟨n.val % 4224, by omega⟩ k) := by
  have e : ((cfg0.win 5).blk t).view.emb (ix3 0 r k) = ix3 0 n k := by blk_ext [idx t, h]
  blk_simp [iblk, e]
  entry_read
  simp only [List.flatten_cons, List.flatten_nil, List.append_nil]
  entry_read
  pointwise []

/-- Block 4 is the whole weights. -/
theorem mat4_at (c : Dev nD) (t : Fin cfg0.N) (i : Fin 1024) (k : Fin 1024) :
    iblk m c 4 t (ix2 i k) = m ((c : Thread nD τ).loc main_arg4) (ix2 i k) := by
  have e : ((cfg0.win 4).blk t).view.emb (ix2 i k) = ix2 i k := by blk_ext [idx t]
  blk_simp [iblk, e]
  entry_read
  simp only [List.flatten_cons, List.flatten_nil, List.append_nil]
  entry_read
  pointwise []

/-- Block 3 is the whole vector. -/
theorem vec3_at (c : Dev nD) (t : Fin cfg0.N) (k : Fin 128) :
    iblk m c 3 t (ix2 0 k) = m ((c : Thread nD τ).loc main_arg3) (ix1 k) := by
  have e : ((cfg0.win 3).blk t).view.emb (ix2 0 k) = ix2 0 k := by blk_ext [idx t]
  blk_simp [iblk, e]
  entry_read
  simp only [List.flatten_cons, List.flatten_nil, List.append_nil]
  entry_read
  pointwise []

/-- Block 6 is the whole vector. -/
theorem vec6_at (c : Dev nD) (t : Fin cfg0.N) (k : Fin 1024) :
    iblk m c 6 t (ix2 0 k) = m ((c : Thread nD τ).loc main_arg6) (ix1 k) := by
  have e : ((cfg0.win 6).blk t).view.emb (ix2 0 k) = ix2 0 k := by blk_ext [idx t]
  blk_simp [iblk, e]
  entry_read
  simp only [List.flatten_cons, List.flatten_nil, List.append_nil]
  entry_read
  pointwise []

/-- Block 7 is the whole vector. -/
theorem vec7_at (c : Dev nD) (t : Fin cfg0.N) (k : Fin 1024) :
    iblk m c 7 t (ix2 0 k) = m ((c : Thread nD τ).loc main_arg7) (ix1 k) := by
  have e : ((cfg0.win 7).blk t).view.emb (ix2 0 k) = ix2 0 k := by blk_ext [idx t]
  blk_simp [iblk, e]
  entry_read
  simp only [List.flatten_cons, List.flatten_nil, List.append_nil]
  entry_read
  pointwise []

/-- The result array after the run. -/
theorem final (c : Dev nD) : (dats m 0 c).arrAt 8 (cfgs 0).N
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  idx_vars y
  obtain rfl : y0 = 0 := Subsingleton.elim _ _
  refine (out_at _ _ _ _ _ _ _ _ y1 y2).trans ?_
  have hq : (grid0.coords t 1).val < 66 := (grid0.coords t 1).isLt
  have e : ((cfg0.win 8).blk t).view.emb (ix3 0 y1 y2)
      = ix3 0 (⟨(grid0.coords t 1).val * 512 + y1.val, by omega⟩ : Fin 33792) y2 := by
    blk_ext [idx t]
  refine Eq.trans ?_ (congrArg (result _ _ _ _ _ _ _ _) e).symm
  have e2 : (fun k : Fin 1024 => iblk m c 2 t (ix3 0 y1 k)) = fun k => m ((c : Thread nD τ).loc main_arg2)
      (ix3 ⟨((grid0.coords t 1).val * 512 + y1.val) / 4224, by omega⟩ ⟨((grid0.coords t 1).val * 512 + y1.val) % 4224, by omega⟩ ⟨4096 + k.val, by omega⟩) :=
    funext fun k => rows2_at m c t y1 k ⟨(grid0.coords t 1).val * 512 + y1.val, by omega⟩ rfl
  have e5 : (fun k : Fin 1024 => iblk m c 5 t (ix3 0 y1 k)) = fun k => m ((c : Thread nD τ).loc main_arg5)
      (ix3 ⟨((grid0.coords t 1).val * 512 + y1.val) / 4224, by omega⟩ ⟨((grid0.coords t 1).val * 512 + y1.val) % 4224, by omega⟩ k) :=
    funext fun k => rows5_at m c t y1 k ⟨(grid0.coords t 1).val * 512 + y1.val, by omega⟩ rfl
  have e0 (k : Fin 1024) := rows0_at m c t y1 k ⟨(grid0.coords t 1).val * 512 + y1.val, by omega⟩ rfl
  have e1 (k : Fin 1024) := rows1_at m c t y1 k ⟨(grid0.coords t 1).val * 512 + y1.val, by omega⟩ rfl
  have e3 : (fun k : Fin 128 => iblk m c 3 t (ix2 0 k)) = fun k => m ((c : Thread nD τ).loc main_arg3) (ix1 k) :=
    funext fun k => vec3_at m c t k
  have e6 : (fun k : Fin 1024 => iblk m c 6 t (ix2 0 k)) = fun k => m ((c : Thread nD τ).loc main_arg6) (ix1 k) :=
    funext fun k => vec6_at m c t k
  have e7 : (fun k : Fin 1024 => iblk m c 7 t (ix2 0 k)) = fun k => m ((c : Thread nD τ).loc main_arg7) (ix1 k) :=
    funext fun k => vec7_at m c t k
  have e4 : (fun (i : Fin 1024) (k : Fin 1024) => iblk m c 4 t (ix2 i k)) = fun i k => m ((c : Thread nD τ).loc main_arg4) (ix2 i k) :=
    funext fun i => funext fun k => mat4_at m c t i k
  rw [e2, e3, e4, e5, e6, e7]
  refine Eq.trans ?_ rfl
  exact congrArg₂ (fun z w : Fin 1024 → EReal => Ffn.added _ (Ffn.prod (Proj.gated (fun k => z k + w k) _ _) _) _ _ y2)
    (funext e0) (funext e1)

/-- The rows of a sequence after the last reshape. -/
abbrev cut (X : FVec Ideal S1x33792x1024 .f32) : FVec Ideal S8x4224x1024 .f32 :=
  shapeCast S8x4224x1024 X shapeCasts_S1x33792x1024_S8x4224x1024

/-- The result, at a sequence, a row and a column. -/
theorem cut_at (a0 : FVec Ideal S8x4224x1024 .f32) (a1 : FVec Ideal S8x4224x1024 .f32) (a2 : FVec Ideal S8x4224x5120 .f32) (a3 : FVec Ideal S128 .f32) (a4 : FVec Ideal S1024x1024 .f32) (a5 : FVec Ideal S8x4224x1024 .f32) (a6 : FVec Ideal S1024 .f32) (a7 : FVec Ideal S1024 .f32) (s : Fin 8) (n : Fin 4224) (j : Fin 1024) :
    cut (result a0 a1 a2 a3 a4 a5 a6 a7) (ix3 s n j) = Ffn.added (fun k => a5 (ix3 s n k)) (Ffn.prod (Proj.gated (fun k => a0 (ix3 s n k) + a1 (ix3 s n k)) (fun k => a2 (ix3 s n ⟨4096 + k.val, by omega⟩)) (fun k => a3 (ix1 k))) (fun i k => a4 (ix2 i k))) (fun k => a6 (ix1 k)) (fun k => a7 (ix1 k)) j := by
  pointwise []
  have e0 : (⟨(s.val * 4224 + n.val) / 4224, by omega⟩ : Fin 8) = s := Fin.ext (by simp; omega)
  have e1 : (⟨(s.val * 4224 + n.val) % 4224, by omega⟩ : Fin 4224) = n := Fin.ext (by simp <;> omega)
  refine Eq.trans (b := Ffn.added (fun k => a5 (ix3 (⟨(s.val * 4224 + n.val) / 4224, by omega⟩ : Fin 8) (⟨(s.val * 4224 + n.val) % 4224, by omega⟩ : Fin 4224) k)) (Ffn.prod (Proj.gated (fun k => a0 (ix3 (⟨(s.val * 4224 + n.val) / 4224, by omega⟩ : Fin 8) (⟨(s.val * 4224 + n.val) % 4224, by omega⟩ : Fin 4224) k) + a1 (ix3 (⟨(s.val * 4224 + n.val) / 4224, by omega⟩ : Fin 8) (⟨(s.val * 4224 + n.val) % 4224, by omega⟩ : Fin 4224) k)) (fun k => a2 (ix3 (⟨(s.val * 4224 + n.val) / 4224, by omega⟩ : Fin 8) (⟨(s.val * 4224 + n.val) % 4224, by omega⟩ : Fin 4224) ⟨4096 + k.val, by omega⟩)) (fun k => a3 (ix1 k))) (fun i k => a4 (ix2 i k))) (fun k => a6 (ix1 k)) (fun k => a7 (ix1 k)) j) rfl ?_
  rw [e0, e1]

/-- The whole run: the result array is the reshaped rows, the arguments end as they began. -/
theorem run (g : Dev nD → PrngReg) : θ_run defs (onTc (τ := τ) (main (F := Ideal))) ⟨m, fun _ => 0, g⟩ (fun r => ∀ c : Dev nD,
      r.2.mem ((c.tc : Thread nD τ).loc main_v9) = cut (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨?_, h.2 c⟩) (θ_run_and (run_main m g) (unchanged m g))
  refine ((h.1 c).2 main_v9 (by decide)).trans ?_
  unfold Pipeline.afterTail₀
  simp only [List.flatten_cons, List.flatten_nil, List.append_nil]
  simp only [StableHlo.after_cons, StableHlo.after_nil]
  rw [StableHlo.reshape_result]
  refine congrArg cut (Eq.trans ?_ (final m c))
  exact Pipeline.withArrays_arr spec0 launch0.win.arr_inj c _ _ 8

end Cert.Kernel7Ideal.Rows

end
-- ==== Proof.Proj.HgrnPlain.lean ====
/- The plain output projection of the recurrent mixer: its result as a function of the arguments. -/
module

public import proofs.«01_k».proof.Proof.Gen.Reference7Ideal.Run
public import proofs.«01_k».proof.Proof.Proj.Gated
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Reference7Ideal.Rows

open Cert.Reference7Ideal Cert.Reference7Ideal.Facts₀ Cert.Reference7Ideal.Facts

/-- The two scans' sum, head by head. -/
def sums (a0 a1 : FVec Ideal S8x4224x1024 .f32) : FVec Ideal S8x4224x8x128 .f32 :=
  shapeCast S8x4224x8x128 (addf a0 a1) shapeCasts_S8x4224x1024_S8x4224x8x128

theorem sums_at (a0 a1 : FVec Ideal S8x4224x1024 .f32) (s : Fin 8) (n : Fin 4224) (h : Fin 8) (j : Fin 128) :
    sums a0 a1 (ix4 s n h j) = a0 (ix3 s n ⟨h.val * 128 + j.val, by omega⟩) + a1 (ix3 s n ⟨h.val * 128 + j.val, by omega⟩) := by
  pointwise [sums]
  try rfl

/-- The gate's columns, head by head. -/
def gates (a2 : FVec Ideal S8x4224x5120 .f32) : FVec Ideal S8x4224x8x128 .f32 :=
  shapeCast S8x4224x8x128 (extractStridedSlice S8x4224x1024 ![0, 0, 4096] a2 slices_S8x4224x5120_S8x4224x1024_0_0_4096) shapeCasts_S8x4224x1024_S8x4224x8x128

theorem gates_at (a2 : FVec Ideal S8x4224x5120 .f32) (s : Fin 8) (n : Fin 4224) (h : Fin 8) (j : Fin 128) :
    gates a2 (ix4 s n h j) = a2 (ix3 s n ⟨4096 + (h.val * 128 + j.val), by omega⟩) := by
  pointwise [gates]

/-- The reciprocal roots of the heads' mean squares. -/
def roots (Z : FVec Ideal S8x4224x8x128 .f32) : FVec Ideal S8x4224x8x1 .f32 :=
  Host.rsqrt (addf (Host.divf (broadcastInDim S8x4224x8x1 ![0, 1, 2] bcast_S8x4224x8_S8x4224x8x1_0_1_2 (Host.reduceAdd (mulf Z Z) (constant S_ .f32 0x00000000#32) reducesTo_S8x4224x8x128_S8x4224x8_d3 h_S_)) (broadcastInDim S8x4224x8x1 ![] bcast_S_S8x4224x8x1 (constant S_ .f32 0x43000000#32))) (broadcastInDim S8x4224x8x1 ![] bcast_S_S8x4224x8x1 (constant S_ .f32 0x358637BD#32)))

theorem roots_at (Z : FVec Ideal S8x4224x8x128 .f32) (s : Fin 8) (n : Fin 4224) (h : Fin 8) :
    roots Z (ix4 s n h 0) = Ideal.rsqrt (Ideal.div (∑ k : Fin 128, Z (ix4 s n h k) * Z (ix4 s n h k)) Proj.headWidth + Proj.headEps) := by
  pointwise [roots]
  try rfl

/-- The heads times the roots `R` and the gain. -/
def scaled (Z : FVec Ideal S8x4224x8x128 .f32) (R : FVec Ideal S8x4224x8x1 .f32) (a3 : FVec Ideal S128 .f32) : FVec Ideal S8x4224x8x128 .f32 :=
  mulf (mulf Z (broadcastInDim S8x4224x8x128 ![0, 1, 2, 3] bcast_S8x4224x8x1_S8x4224x8x128_0_1_2_3 R)) (broadcastInDim S8x4224x8x128 ![0, 1, 2, 3] bcast_S1x1x1x128_S8x4224x8x128_0_1_2_3 (broadcastInDim S1x1x1x128 ![3] bcast_S128_S1x1x1x128_3 a3))

theorem scaled_at (Z : FVec Ideal S8x4224x8x128 .f32) (R : FVec Ideal S8x4224x8x1 .f32) (a3 : FVec Ideal S128 .f32) (s : Fin 8) (n : Fin 4224) (h : Fin 8) (j : Fin 128) :
    scaled Z R a3 (ix4 s n h j) = Z (ix4 s n h j) * R (ix4 s n h 0) * a3 (ix1 j) := by
  pointwise [scaled]
  try rfl

/-- The gate's columns through the logistic function and times themselves. -/
def opened (U : FVec Ideal S8x4224x8x128 .f32) : FVec Ideal S8x4224x8x128 .f32 :=
  mulf U (Host.divf (broadcastInDim S8x4224x8x128 ![] bcast_S_S8x4224x8x128 (constant S_ .f32 0x3F800000#32)) (addf (broadcastInDim S8x4224x8x128 ![] bcast_S_S8x4224x8x128 (constant S_ .f32 0x3F800000#32)) (Host.exp (Host.negf U))))

theorem opened_at (U : FVec Ideal S8x4224x8x128 .f32) (s : Fin 8) (n : Fin 4224) (h : Fin 8) (j : Fin 128) :
    opened U (ix4 s n h j) = Ffn.silu (U (ix4 s n h j)) := by
  pointwise [opened, Ffn.silu]
  try rfl

/-- The product of two arrays of heads, as rows. -/
def joined (N G : FVec Ideal S8x4224x8x128 .f32) : FVec Ideal S8x4224x1024 .f32 :=
  shapeCast S8x4224x1024 (mulf N G) shapeCasts_S8x4224x8x128_S8x4224x1024

theorem joined_at (N G : FVec Ideal S8x4224x8x128 .f32) (s : Fin 8) (n : Fin 4224) (k : Fin 1024) :
    joined N G (ix3 s n k) = N (ix4 s n ⟨k.val / 128, by omega⟩ ⟨k.val % 128, by omega⟩) * G (ix4 s n ⟨k.val / 128, by omega⟩ ⟨k.val % 128, by omega⟩) := by
  pointwise [joined]
  try rfl

/-- The gated rows. -/
def rows (a0 a1 : FVec Ideal S8x4224x1024 .f32) (a2 : FVec Ideal S8x4224x5120 .f32) (a3 : FVec Ideal S128 .f32) : FVec Ideal S8x4224x1024 .f32 :=
  joined (scaled (sums a0 a1) (roots (sums a0 a1)) a3) (opened (gates a2))

theorem rows_at (a0 a1 : FVec Ideal S8x4224x1024 .f32) (a2 : FVec Ideal S8x4224x5120 .f32) (a3 : FVec Ideal S128 .f32) (s : Fin 8) (n : Fin 4224) (k : Fin 1024) :
    rows a0 a1 a2 a3 (ix3 s n k) = Proj.gated (fun k => a0 (ix3 s n k) + a1 (ix3 s n k)) (fun k => a2 (ix3 s n ⟨4096 + k.val, by omega⟩)) (fun k => a3 (ix1 k)) k := by
  have hk : (⟨k.val / 128 * 128 + k.val % 128, by omega⟩ : Fin 1024) = k := Fin.ext (by simp only; omega)
  unfold rows
  rw [joined_at, scaled_at, roots_at, opened_at, gates_at]
  simp only [sums_at]
  unfold Proj.gated Proj.heads Proj.headNorm
  exact congrArg (_ * Ffn.silu ·) (congrArg (fun k : Fin 1024 => a2 (ix3 s n ⟨4096 + k.val, by omega⟩)) hk)

/-- The rows' product with the weights. -/
def product (X : FVec Ideal S8x4224x1024 .f32) (a4 : FVec Ideal S1024x1024 .f32) : FVec Ideal S8x4224x1024 .f32 :=
  Host.dotGeneral dot_S8x4224x1024_S1024x1024_S8x4224x1024_2_0_01_1_n_n none X a4

theorem product_at (X : FVec Ideal S8x4224x1024 .f32) (a4 : FVec Ideal S1024x1024 .f32) (s : Fin 8) (n : Fin 4224) (j : Fin 1024) :
    product X a4 (ix3 s n j) = Ffn.prod (fun k => X (ix3 s n k)) (fun i k => a4 (ix2 i k)) j := by
  pointwise [product, Ffn.prod]
  try rfl

/-- The normalisation of the weighted residual plus the product. -/
def normed (Y a5 : FVec Ideal S8x4224x1024 .f32) (a6 a7 : FVec Ideal S1024 .f32) : FVec Ideal S8x4224x1024 .f32 :=
  addf (mulf (mulf (subf (addf (mulf (broadcastInDim S8x4224x1024 ![] bcast_S_S8x4224x1024 (constant S_ .f32 0x3FD744FD#32)) a5) Y) (broadcastInDim S8x4224x1024 ![0, 1, 2] bcast_S8x4224x1_S8x4224x1024_0_1_2 (Host.divf (broadcastInDim S8x4224x1 ![0, 1] bcast_S8x4224_S8x4224x1_0_1 (Host.reduceAdd (addf (mulf (broadcastInDim S8x4224x1024 ![] bcast_S_S8x4224x1024 (constant S_ .f32 0x3FD744FD#32)) a5) Y) (constant S_ .f32 0x00000000#32) reducesTo_S8x4224x1024_S8x4224_d2 h_S_)) (broadcastInDim S8x4224x1 ![] bcast_S_S8x4224x1 (constant S_ .f32 0x44800000#32))))) (broadcastInDim S8x4224x1024 ![0, 1, 2] bcast_S8x4224x1_S8x4224x1024_0_1_2 (Host.rsqrt (addf (Host.divf (broadcastInDim S8x4224x1 ![0, 1] bcast_S8x4224_S8x4224x1_0_1 (Host.reduceAdd (mulf (subf (addf (mulf (broadcastInDim S8x4224x1024 ![] bcast_S_S8x4224x1024 (constant S_ .f32 0x3FD744FD#32)) a5) Y) (broadcastInDim S8x4224x1024 ![0, 1, 2] bcast_S8x4224x1_S8x4224x1024_0_1_2 (Host.divf (broadcastInDim S8x4224x1 ![0, 1] bcast_S8x4224_S8x4224x1_0_1 (Host.reduceAdd (addf (mulf (broadcastInDim S8x4224x1024 ![] bcast_S_S8x4224x1024 (constant S_ .f32 0x3FD744FD#32)) a5) Y) (constant S_ .f32 0x00000000#32) reducesTo_S8x4224x1024_S8x4224_d2 h_S_)) (broadcastInDim S8x4224x1 ![] bcast_S_S8x4224x1 (constant S_ .f32 0x44800000#32))))) (subf (addf (mulf (broadcastInDim S8x4224x1024 ![] bcast_S_S8x4224x1024 (constant S_ .f32 0x3FD744FD#32)) a5) Y) (broadcastInDim S8x4224x1024 ![0, 1, 2] bcast_S8x4224x1_S8x4224x1024_0_1_2 (Host.divf (broadcastInDim S8x4224x1 ![0, 1] bcast_S8x4224_S8x4224x1_0_1 (Host.reduceAdd (addf (mulf (broadcastInDim S8x4224x1024 ![] bcast_S_S8x4224x1024 (constant S_ .f32 0x3FD744FD#32)) a5) Y) (constant S_ .f32 0x00000000#32) reducesTo_S8x4224x1024_S8x4224_d2 h_S_)) (broadcastInDim S8x4224x1 ![] bcast_S_S8x4224x1 (constant S_ .f32 0x44800000#32)))))) (constant S_ .f32 0x00000000#32) reducesTo_S8x4224x1024_S8x4224_d2 h_S_)) (broadcastInDim S8x4224x1 ![] bcast_S_S8x4224x1 (constant S_ .f32 0x44800000#32))) (broadcastInDim S8x4224x1 ![] bcast_S_S8x4224x1 (constant S_ .f32 0x3727C5AC#32)))))) (broadcastInDim S8x4224x1024 ![0, 1, 2] bcast_S1x1x1024_S8x4224x1024_0_1_2 (broadcastInDim S1x1x1024 ![2] bcast_S1024_S1x1x1024_2 a6))) (broadcastInDim S8x4224x1024 ![0, 1, 2] bcast_S1x1x1024_S8x4224x1024_0_1_2 (broadcastInDim S1x1x1024 ![2] bcast_S1024_S1x1x1024_2 a7))

theorem normed_at (Y a5 : FVec Ideal S8x4224x1024 .f32) (a6 a7 : FVec Ideal S1024 .f32) (s : Fin 8) (n : Fin 4224) (j : Fin 1024) :
    normed Y a5 a6 a7 (ix3 s n j) = Ffn.added (fun k => a5 (ix3 s n k)) (fun k => Y (ix3 s n k)) (fun k => a6 (ix1 k)) (fun k => a7 (ix1 k)) j := by
  pointwise [normed, Ffn.added, Ffn.lnorm, Ffn.mean]
  try rfl

/-- The result. -/
def result (a0 : FVec Ideal S8x4224x1024 .f32) (a1 : FVec Ideal S8x4224x1024 .f32) (a2 : FVec Ideal S8x4224x5120 .f32) (a3 : FVec Ideal S128 .f32) (a4 : FVec Ideal S1024x1024 .f32) (a5 : FVec Ideal S8x4224x1024 .f32) (a6 : FVec Ideal S1024 .f32) (a7 : FVec Ideal S1024 .f32) : FVec Ideal S8x4224x1024 .f32 :=
  normed (product (rows a0 a1 a2 a3) a4) a5 a6 a7

theorem result_at (a0 : FVec Ideal S8x4224x1024 .f32) (a1 : FVec Ideal S8x4224x1024 .f32) (a2 : FVec Ideal S8x4224x5120 .f32) (a3 : FVec Ideal S128 .f32) (a4 : FVec Ideal S1024x1024 .f32) (a5 : FVec Ideal S8x4224x1024 .f32) (a6 : FVec Ideal S1024 .f32) (a7 : FVec Ideal S1024 .f32) (s : Fin 8) (n : Fin 4224) (j : Fin 1024) :
    result a0 a1 a2 a3 a4 a5 a6 a7 (ix3 s n j) = Ffn.added (fun k => a5 (ix3 s n k)) (Ffn.prod (Proj.gated (fun k => a0 (ix3 s n k) + a1 (ix3 s n k)) (fun k => a2 (ix3 s n ⟨4096 + k.val, by omega⟩)) (fun k => a3 (ix1 k))) (fun i k => a4 (ix2 i k))) (fun k => a6 (ix1 k)) (fun k => a7 (ix1 k)) j := by
  refine (normed_at _ a5 a6 a7 s n j).trans ?_
  refine congrArg (fun y => Ffn.added (fun k => a5 (ix3 s n k)) y (fun k => a6 (ix1 k)) (fun k => a7 (ix1 k)) j) (funext fun k => ?_)
  refine (product_at _ a4 s n k).trans ?_
  exact congrArg (fun x => Ffn.prod x (fun i k => a4 (ix2 i k)) k) (funext fun i => rows_at a0 a1 a2 a3 s n i)

/-- The result the program leaves is this one. -/
theorem plain (m : (ℓ : Loc nD τ sig) → Buf (Elt Ideal) ℓ) (c : Dev nD) : Value.res_main_v45 m c
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Value.res_main_v45 result normed product rows joined scaled roots opened gates sums
  rfl

end Cert.Reference7Ideal.Rows

end
-- ==== Proof.Proj.HgrnSame.lean ====
/- The two outputs of the recurrent mixer's projection agree. -/
module

public import proofs.«01_k».proof.Proof.Proj.HgrnOut
public import proofs.«01_k».proof.Proof.Proj.HgrnPlain

@[expose] public section

noncomputable section

open Idealize.ShloMosaic Idealize.ShloMosaic.TcCoe Idealize.SL.Sem

namespace Cert.HgrnSame

/-- The plain program's rows are the kernel's. -/
theorem same (a0 a1 : FVec Ideal Cert.Reference7Ideal.S8x4224x1024 .f32) (a2 : FVec Ideal Cert.Reference7Ideal.S8x4224x5120 .f32)
    (a3 : FVec Ideal Cert.Reference7Ideal.S128 .f32) (a4 : FVec Ideal Cert.Reference7Ideal.S1024x1024 .f32)
    (a5 : FVec Ideal Cert.Reference7Ideal.S8x4224x1024 .f32) (a6 a7 : FVec Ideal Cert.Reference7Ideal.S1024 .f32) :
    Cert.Reference7Ideal.Rows.result a0 a1 a2 a3 a4 a5 a6 a7
      = Cert.Kernel7Ideal.Rows.cut (Cert.Kernel7Ideal.Rows.result a0 a1 a2 a3 a4 a5 a6 a7) := by
  funext i
  idx_vars i
  exact (Cert.Reference7Ideal.Rows.result_at a0 a1 a2 a3 a4 a5 a6 a7 i0 i1 i2).trans
    (Cert.Kernel7Ideal.Rows.cut_at a0 a1 a2 a3 a4 a5 a6 a7 i0 i1 i2).symm

end Cert.HgrnSame

end
-- ==== Proof.Proj.Turn.lean ====
/- Rotary positions of one row, over the extended reals. Nothing here speaks of a program. -/
module

public import proofs.«01_k».proof.Proof.Proj.Math
public import Mathlib.Data.EReal.Operations

@[expose] public section

noncomputable section

open Idealize.ShloMosaic

namespace Proj

/-- Heads of `2 * d` columns, each turned by the angles `a`: in its first half a column less the other half's,
    in its second half a column and the first half's. -/
def turned (d : ℕ) (P : ℕ → EReal) (a : ℕ → EReal) (j : ℕ) : EReal :=
  if j % (2 * d) < d then P j * Ideal.cos (a (j % d)) - P (j + d) * Ideal.sin (a (j % d))
  else P j * Ideal.cos (a (j % d)) + P (j - d) * Ideal.sin (a (j % d))

/-- The angle of row `n` (112 rows stand before position 0) at frequency `j`, `w` the single-precision head width. -/
def angle (w : BitVec 32) (n j : ℕ) : EReal :=
  FloatOps.sitofp (F := Ideal) FTy.f32 (IntOp.subi (BitVec.ofNat 32 n) 112#32) *
    Ideal.div 1 (Ideal.pow (Ideal.ofBits FTy.f32 1176256512#32)
      (Ideal.div (Ideal.ofBits FTy.f32 1073741824#32 * FloatOps.sitofp (F := Ideal) FTy.f32 (BitVec.ofNat 32 j)) (Ideal.ofBits FTy.f32 w)))

/-- The turn as one sum: the sine of a first half taken negative, the other half's column read at `p`. -/
theorem turned_eq (d : ℕ) (P a : ℕ → EReal) (j p : ℕ) (hp : p = if j % (2 * d) < d then j + d else j - d) :
    P j * Ideal.cos (a (j % d)) + P p * (if j % (2 * d) < d then -Ideal.sin (a (j % d)) else Ideal.sin (a (j % d)))
      = turned d P a j := by
  unfold turned
  by_cases h : j % (2 * d) < d
  · rw [if_pos h] at hp
    rw [if_pos h, if_pos h, hp, sub_eq_add_neg, mul_neg]
  · rw [if_neg h] at hp
    rw [if_neg h, if_neg h, hp]

/-- Only the angle of its own column counts. -/
theorem turned_congr (d : ℕ) (P a b : ℕ → EReal) (j : ℕ) (h : a (j % d) = b (j % d)) : turned d P a j = turned d P b j := by
  unfold turned
  rw [h]

end Proj

end
-- ==== Proof.Proj.Swa.lean ====
/- The local attention's input projections: their results as functions of the arguments. -/
module

public import proofs.«01_k».proof.Proof.Gen.Kernel8Ideal.Frame
public import proofs.«01_k».proof.Proof.Proj.Turn
public import Idealize.ShloMosaic.Lib.Pipeline.ValueKit
public import Idealize.ShloMosaic.Lib.Pipeline.ValueKit.Tiles
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Rows

open Cert.Kernel8Ideal Cert.Kernel8Ideal.Gen

variable (x0 : Vec Ideal S1x384x1024 .f32) (x1 : Vec Ideal S1024x1536 .bf16) (x2 x3 : Vec Ideal S384x128 .f32)

/-- A row of the projection of a block, at a column. -/
def proj (r : Fin 384) (k : ℕ) : EReal := Ffn.prod (fun i => x0 (ix3 0 r i)) (fun i j => x1 (ix2 i j)) (Fin.ofNat 1536 k)

theorem proj_at (r : Fin 384) (k : ℕ) (j : Fin 1536) (h : j.val = k) :
    k0_pay16 (F := Ideal) x0 x1 x2 x3 (ix2 r j) = proj x0 x1 r k := by
  have e : Fin.ofNat 1536 k = j := Fin.ext (by simp [Fin.ofNat, ← h, Nat.mod_eq_of_lt j.isLt])
  unfold proj
  rw [e]
  unfold k0_pay16
  simp (disch := decide) only [View.ld_unit_lit']
  pointwise [k0_pay5, Ffn.prod]
  try rfl

/-- One column of a turned head, from the places of its two products. -/
theorem seam (r : Fin 384) (j : ℕ) (c : Fin 128) (k k' : Fin 1536) (hk : k.val = j) (hk' : k'.val = j / 128 * 128 + (j + 64) % 128)
    (hc : c.val = j % 128) :
    (∑ i, x0 (ix3 0 r i) * x1 (ix2 i k)) * x2 (ix2 r c) + (∑ i, x0 (ix3 0 r i) * x1 (ix2 i k')) * x3 (ix2 r c)
      = proj x0 x1 r j * x2 (ix2 r (Fin.ofNat 128 j)) + proj x0 x1 r (j / 128 * 128 + (j + 64) % 128) * x3 (ix2 r (Fin.ofNat 128 j)) := by
  have e : Fin.ofNat 1536 j = k := Fin.ext (by simp [Fin.ofNat, ← hk, Nat.mod_eq_of_lt k.isLt])
  have e' : Fin.ofNat 1536 (j / 128 * 128 + (j + 64) % 128) = k' := Fin.ext (by simp [Fin.ofNat, ← hk', Nat.mod_eq_of_lt k'.isLt])
  have ec : Fin.ofNat 128 j = c := Fin.ext (by simp [Fin.ofNat, hc])
  unfold proj Ffn.prod
  rw [e, e', ec]

/-- The body's first result, at a row and a column. -/
theorem out4_at (r : Fin 384) (j : Fin 1024) :
    out0_4 (F := Ideal) x0 x1 x2 x3 (ix3 0 r j) = proj x0 x1 r j.val * x2 (ix2 r (Fin.ofNat 128 j.val))
      + proj x0 x1 r (j.val / 128 * 128 + (j.val + 64) % 128) * x3 (ix2 r (Fin.ofNat 128 j.val)) := by
  canon_tiles x h using cover0_4 _ _ _ _ _ _ _ _ _
  all_goals
    have hr : x 1 = r := Fin.ext h1.symm
    have hj := h2
    change j.val = _ at hj
    open_payloads
    pointwise
    rw [hr]
    exact seam x0 x1 x2 x3 r j.val (x 2) _ _ (by dsimp only; omega) (by dsimp only; omega) (by omega)

/-- The body's second result, at a row and a column. -/
theorem out5_at (r : Fin 384) (j : Fin 256) :
    out0_5 (F := Ideal) x0 x1 x2 x3 (ix3 0 r j) = proj x0 x1 r (1024 + j.val) * x2 (ix2 r (Fin.ofNat 128 (1024 + j.val)))
      + proj x0 x1 r ((1024 + j.val) / 128 * 128 + ((1024 + j.val) + 64) % 128) * x3 (ix2 r (Fin.ofNat 128 (1024 + j.val))) := by
  canon_tiles x h using cover0_5 _ _ _
  all_goals
    have hr : x 1 = r := Fin.ext h1.symm
    have hj := h2
    change j.val = _ at hj
    open_payloads
    pointwise
    rw [hr]
    exact seam x0 x1 x2 x3 r (1024 + j.val) (x 2) _ _ (by dsimp only; omega) (by dsimp only; omega) (by omega)

/-- The body's third result, at a row and a column. -/
theorem out6_at (r : Fin 384) (j : Fin 256) :
    out0_6 (F := Ideal) x0 x1 x2 x3 (ix3 0 r j) = proj x0 x1 r (1280 + j.val) := by
  refine Eq.trans ?_ (proj_at x0 x1 x2 x3 r (1280 + j.val) ⟨1280 + j.val, by omega⟩ rfl)
  frame_out
  pointwise [k0_pay4, k0_pay16]

variable (m : (ℓ : Loc nD τ sig) → Buf (Elt Ideal) ℓ)

/-- The windows' index maps. -/
theorem idx : ∀ t : Fin cfg0.N,
    win0_0.index t = ![(grid0.coords t 0).val, (grid0.coords t 1).val, 0]
    ∧ win0_1.index t = ![0, 0]
    ∧ win0_2.index t = ![(grid0.coords t 1).val, 0]
    ∧ win0_3.index t = ![(grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0] :=
  (by decide +kernel : ∀ t : Fin grid0.N, _)

/-- The rows of a point's block 0 are rows of the argument. -/
theorem rows0_at (c : Dev nD) (t : Fin cfg0.N) (r : Fin 384) (k : Fin 1024) (s : Fin 8) (n : Fin 4224)
    (hs : s.val = (grid0.coords t 0).val) (h : n.val = (grid0.coords t 1).val * 384 + r.val) :
    iblk m c 0 t (ix3 0 r k) = m ((c : Thread nD τ).loc main_arg0) (ix3 s n k) := by
  have e : ((cfg0.win 0).blk t).view.emb (ix3 0 r k) = ix3 s n k := by blk_ext [idx t, h, hs]
  blk_simp [iblk, e]
  entry_read
  try rfl

/-- Block 1 is the whole weights. -/
theorem mat1_at (c : Dev nD) (t : Fin cfg0.N) (i : Fin 1024) (k : Fin 1536) :
    iblk m c 1 t (ix2 i k) = m ((c : Thread nD τ).loc main_arg1) (ix2 i k) := by
  have e : ((cfg0.win 1).blk t).view.emb (ix2 i k) = ix2 i k := by blk_ext [idx t]
  blk_simp [iblk, e]
  entry_read
  pointwise []

/-- The angle of a row at a frequency. -/
abbrev angle (n j : ℕ) : EReal := Proj.angle 1124073472#32 n j

/-- The rows of block 2 are rows of the table of cosines. -/
theorem cos_at (c : Dev nD) (t : Fin cfg0.N) (r : Fin 384) (k : Fin 128) (n : Fin 4224)
    (h : n.val = (grid0.coords t 1).val * 384 + r.val) :
    iblk m c 2 t (ix2 r k) = Ideal.cos (angle n.val (k.val % 64)) := by
  have e : ((cfg0.win 2).blk t).view.emb (ix2 r k) = ix2 n k := by blk_ext [idx t, h]
  blk_simp [iblk, e]
  entry_read
  pointwise []
  by_cases hk : k.val < 64
  · rw [dif_pos hk, Nat.mod_eq_of_lt hk]; rfl
  · rw [dif_neg hk, show k.val % 64 = k.val - 64 by omega]; rfl

/-- The rows of block 3 are rows of the table of sines, negative in its first half. -/
theorem sin_at (c : Dev nD) (t : Fin cfg0.N) (r : Fin 384) (k : Fin 128) (n : Fin 4224)
    (h : n.val = (grid0.coords t 1).val * 384 + r.val) :
    iblk m c 3 t (ix2 r k) = if k.val < 64 then -Ideal.sin (angle n.val (k.val % 64)) else Ideal.sin (angle n.val (k.val % 64)) := by
  have e : ((cfg0.win 3).blk t).view.emb (ix2 r k) = ix2 n k := by blk_ext [idx t, h]
  blk_simp [iblk, e]
  entry_read
  pointwise []
  by_cases hk : k.val < 64
  · rw [dif_pos hk, if_pos hk, Nat.mod_eq_of_lt hk]; rfl
  · rw [dif_neg hk, if_neg hk, show k.val % 64 = k.val - 64 by omega]; rfl

variable (a0 : FVec Ideal S8x4224x1024 .f32) (a1 : FVec Ideal S1024x1536 .f32)

/-- The projection of a row of a sequence, at a column. -/
def full (s : Fin 8) (n : Fin 4224) (k : ℕ) : EReal :=
  Ffn.prod (fun i => a0 (ix3 s n i)) (fun i j => a1 (ix2 i j)) (Fin.ofNat 1536 k)

/-- The queries, the keys and the values. -/
abbrev queries : FVec Ideal S8x4224x1024 .bf16 := fun i =>
  Proj.turned 64 (full a0 a1 (i 0) (i 1)) (angle (i 1).val) (i 2).val
abbrev keys : FVec Ideal S8x4224x256 .bf16 := fun i =>
  Proj.turned 64 (full a0 a1 (i 0) (i 1)) (angle (i 1).val) (1024 + (i 2).val)
abbrev values : FVec Ideal S8x4224x256 .bf16 := fun i => full a0 a1 (i 0) (i 1) (1280 + (i 2).val)

/-- A row of the projection of a point's block is the projection of its row of the argument. -/
theorem proj_row (c : Dev nD) (t : Fin cfg0.N) (r : Fin 384) (k : ℕ) (s : Fin 8) (n : Fin 4224)
    (hs : s.val = (grid0.coords t 0).val) (h : n.val = (grid0.coords t 1).val * 384 + r.val) :
    proj (iblk m c 0 t) (iblk m c 1 t) r k = full (m ((c : Thread nD τ).loc main_arg0)) (m ((c : Thread nD τ).loc main_arg1)) s n k := by
  have e0 : (fun i : Fin 1024 => iblk m c 0 t (ix3 0 r i)) = fun i => m ((c : Thread nD τ).loc main_arg0) (ix3 s n i) :=
    funext fun i => rows0_at m c t r i s n hs h
  have e1 : (fun (i : Fin 1024) (k : Fin 1536) => iblk m c 1 t (ix2 i k)) = fun i k => m ((c : Thread nD τ).loc main_arg1) (ix2 i k) :=
    funext fun i => funext fun k => mat1_at m c t i k
  exact congrArg₂ (fun x W => Ffn.prod x W (Fin.ofNat 1536 k)) e0 e1

/-- A turned column of a point's rows. -/
theorem turn_row (c : Dev nD) (t : Fin cfg0.N) (r : Fin 384) (j : ℕ) (s : Fin 8) (n : Fin 4224)
    (hs : s.val = (grid0.coords t 0).val) (h : n.val = (grid0.coords t 1).val * 384 + r.val) :
    proj (iblk m c 0 t) (iblk m c 1 t) r j * iblk m c 2 t (ix2 r (Fin.ofNat 128 j))
      + proj (iblk m c 0 t) (iblk m c 1 t) r (j / 128 * 128 + (j + 64) % 128) * iblk m c 3 t (ix2 r (Fin.ofNat 128 j))
      = Proj.turned 64 (full (m ((c : Thread nD τ).loc main_arg0)) (m ((c : Thread nD τ).loc main_arg1)) s n) (angle n.val) j := by
  have em : (Fin.ofNat 128 j).val % 64 = j % 64 := by simp only [Fin.ofNat]; omega
  rw [proj_row m c t r j s n hs h, proj_row m c t r _ s n hs h, cos_at m c t r _ n h, sin_at m c t r _ n h, em]
  refine Eq.trans ?_ (Proj.turned_eq 64 _ _ j (j / 128 * 128 + (j + 64) % 128) (by split_ifs <;> omega))
  rfl

/-- The first result array after the run. -/
theorem final4 (c : Dev nD) : (dats m 0 c).arrAt 4 (cfgs 0).N
    = queries (m ((c : Thread nD τ).loc main_arg0)) (m ((c : Thread nD τ).loc main_arg1)) := by
  refine (dats m 0 c).arrAt_eq_of_covers 4 _ (by decide +kernel) fun t _ y => ?_
  blk_simp
  rw [after0_4]
  idx_vars y
  obtain rfl : y0 = 0 := Subsingleton.elim _ _
  refine (out4_at _ _ _ _ y1 y2).trans ?_
  have hp : (grid0.coords t 0).val < 8 := (grid0.coords t 0).isLt
  have hq : (grid0.coords t 1).val < 11 := (grid0.coords t 1).isLt
  have e : ((cfg0.win 4).blk t).view.emb (ix3 0 y1 y2)
      = ix3 (⟨(grid0.coords t 0).val, hp⟩ : Fin 8) (⟨(grid0.coords t 1).val * 384 + y1.val, by omega⟩ : Fin 4224) y2 := by
    blk_ext [idx t]
  exact (turn_row m c t y1 y2.val ⟨_, hp⟩ ⟨_, by omega⟩ rfl rfl).trans (congrArg (queries _ _) e).symm

/-- The second result array after the run. -/
theorem final5 (c : Dev nD) : (dats m 0 c).arrAt 5 (cfgs 0).N
    = keys (m ((c : Thread nD τ).loc main_arg0)) (m ((c : Thread nD τ).loc main_arg1)) := by
  refine (dats m 0 c).arrAt_eq_of_covers 5 _ (by decide +kernel) fun t _ y => ?_
  blk_simp
  rw [after0_5]
  idx_vars y
  obtain rfl : y0 = 0 := Subsingleton.elim _ _
  refine (out5_at _ _ _ _ y1 y2).trans ?_
  have hp : (grid0.coords t 0).val < 8 := (grid0.coords t 0).isLt
  have hq : (grid0.coords t 1).val < 11 := (grid0.coords t 1).isLt
  have e : ((cfg0.win 5).blk t).view.emb (ix3 0 y1 y2)
      = ix3 (⟨(grid0.coords t 0).val, hp⟩ : Fin 8) (⟨(grid0.coords t 1).val * 384 + y1.val, by omega⟩ : Fin 4224) y2 := by
    blk_ext [idx t]
  exact (turn_row m c t y1 (1024 + y2.val) ⟨_, hp⟩ ⟨_, by omega⟩ rfl rfl).trans (congrArg (keys _ _) e).symm

/-- The third result array after the run. -/
theorem final6 (c : Dev nD) : (dats m 0 c).arrAt 6 (cfgs 0).N
    = values (m ((c : Thread nD τ).loc main_arg0)) (m ((c : Thread nD τ).loc main_arg1)) := by
  refine (dats m 0 c).arrAt_eq_of_covers 6 _ (by decide +kernel) fun t _ y => ?_
  blk_simp
  rw [after0_6]
  idx_vars y
  obtain rfl : y0 = 0 := Subsingleton.elim _ _
  refine (out6_at _ _ _ _ y1 y2).trans ?_
  have hp : (grid0.coords t 0).val < 8 := (grid0.coords t 0).isLt
  have hq : (grid0.coords t 1).val < 11 := (grid0.coords t 1).isLt
  have e : ((cfg0.win 6).blk t).view.emb (ix3 0 y1 y2)
      = ix3 (⟨(grid0.coords t 0).val, hp⟩ : Fin 8) (⟨(grid0.coords t 1).val * 384 + y1.val, by omega⟩ : Fin 4224) y2 := by
    blk_ext [idx t]
  exact (proj_row m c t y1 (1280 + y2.val) ⟨_, hp⟩ ⟨_, by omega⟩ rfl rfl).trans (congrArg (values _ _) e).symm

end Cert.Kernel8Ideal.Rows

end
-- ==== Proof.Proj.SwaPlain.lean ====
/- The plain projections of the local attention: their results as functions of the arguments. -/
module

public import proofs.«01_k».proof.Proof.Gen.Reference8Ideal.Run
public import proofs.«01_k».proof.Proof.Proj.Turn
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Reference8Ideal.Rows

open Cert.Reference8Ideal Cert.Reference8Ideal.Facts₀ Cert.Reference8Ideal.Facts

/-- The angles of all rows at all frequencies. -/
def angles : FVec Ideal S4224x64 .f32 :=
  mulf (broadcastInDim S4224x64 ![0, 1] bcast_S4224x1_S4224x64_0_1 (broadcastInDim S4224x1 ![0] bcast_S4224_S4224x1_0 (sitofp .f32 (subi (iotaInDim S4224 32 0) (broadcastInDim S4224 ![] bcast_S_S4224 (constantI S_ 32 112#32)))))) (broadcastInDim S4224x64 ![0, 1] bcast_S1x64_S4224x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32)))))))

theorem angles_at (n : Fin 4224) (k : Fin 64) : angles (ix2 n k) = Proj.angle 1124073472#32 n.val k.val := by
  pointwise [angles]
  rfl

/-- Narrowing changes nothing over the extended reals. -/
theorem narrow {s : Shape} (Y : FVec Ideal s .f32) (i : s.Idx) : truncf .bf16 Y bitsLt_bf16_f32 i = Y i := rfl

theorem sub_at {s : Shape} (a t b u : FVec Ideal s .f32) (i : s.Idx) : subf (mulf a t) (mulf b u) i = a i * t i - b i * u i := rfl
theorem add_at {s : Shape} (a t b u : FVec Ideal s .f32) (i : s.Idx) : addf (mulf a t) (mulf b u) i = a i * t i + b i * u i := rfl

/-- The turned queries before the turn, head by head. -/
def queriesHeads (X : FVec Ideal S8x4224x1536 .f32) : FVec Ideal S8x4224x8x128 .f32 :=
  shapeCast S8x4224x8x128 (extractStridedSlice S8x4224x1024 ![0, 0, 0] X slices_S8x4224x1536_S8x4224x1024_0_0_0) shapeCasts_S8x4224x1024_S8x4224x8x128

theorem queriesHeads_at (X : FVec Ideal S8x4224x1536 .f32) (s : Fin 8) (n : Fin 4224) (h : Fin 8) (j : Fin 128) :
    queriesHeads X (ix4 s n h j) = X (ix3 s n ⟨h.val * 128 + j.val, by omega⟩) := by
  pointwise [queriesHeads]
  try rfl

/-- The first and the last half of every head. -/
def queriesLow (X : FVec Ideal S8x4224x1536 .f32) : FVec Ideal S8x4224x8x64 .f32 :=
  extractStridedSlice S8x4224x8x64 ![0, 0, 0, 0] (queriesHeads X) slices_S8x4224x8x128_S8x4224x8x64_0_0_0_0
def queriesHigh (X : FVec Ideal S8x4224x1536 .f32) : FVec Ideal S8x4224x8x64 .f32 :=
  extractStridedSlice S8x4224x8x64 ![0, 0, 0, 64] (queriesHeads X) slices_S8x4224x8x128_S8x4224x8x64_0_0_0_64

theorem queriesLow_at (X : FVec Ideal S8x4224x1536 .f32) (s : Fin 8) (n : Fin 4224) (h : Fin 8) (j : Fin 64) :
    queriesLow X (ix4 s n h j) = X (ix3 s n ⟨h.val * 128 + j.val, by omega⟩) := by
  refine Eq.trans ?_ (queriesHeads_at X s n h ⟨j.val, by omega⟩)
  generalize hY : queriesHeads X = Y
  unfold queriesLow
  rw [hY]
  pointwise []

theorem queriesHigh_at (X : FVec Ideal S8x4224x1536 .f32) (s : Fin 8) (n : Fin 4224) (h : Fin 8) (j : Fin 64) :
    queriesHigh X (ix4 s n h j) = X (ix3 s n ⟨h.val * 128 + (64 + j.val), by omega⟩) := by
  refine Eq.trans ?_ (queriesHeads_at X s n h ⟨64 + j.val, by omega⟩)
  generalize hY : queriesHeads X = Y
  unfold queriesHigh
  rw [hY]
  pointwise []

/-- A table of rows and frequencies, the same for every sequence and head. -/
def queriesTable (B : FVec Ideal S4224x64 .f32) : FVec Ideal S8x4224x8x64 .f32 :=
  broadcastInDim S8x4224x8x64 ![0, 1, 2, 3] bcast_S1x4224x1x64_S8x4224x8x64_0_1_2_3 (broadcastInDim S1x4224x1x64 ![1, 2, 3] bcast_S4224x1x64_S1x4224x1x64_1_2_3 (broadcastInDim S4224x1x64 ![0, 2] bcast_S4224x64_S4224x1x64_0_2 B))

theorem queriesTable_at (B : FVec Ideal S4224x64 .f32) (s : Fin 8) (n : Fin 4224) (h : Fin 8) (j : Fin 64) :
    queriesTable B (ix4 s n h j) = B (ix2 n j) := by
  pointwise [queriesTable]

/-- Two halves put side by side in every head, read at a column. -/
theorem queriesJoin_at (Y Z : FVec Ideal S8x4224x8x64 .f32) (s : Fin 8) (n : Fin 4224) (j : Fin 1024) :
    (shapeCast S8x4224x1024 (concatenate S8x4224x8x128 3 [⟨S8x4224x8x64, Y⟩, ⟨S8x4224x8x64, Z⟩] concatenates_S8x4224x8x64_S8x4224x8x64_S8x4224x8x128_d3 : FVec Ideal S8x4224x8x128 .f32) shapeCasts_S8x4224x8x128_S8x4224x1024 : FVec Ideal S8x4224x1024 .f32) (ix3 s n j)
      = if h : j.val % 128 < 64 then Y (ix4 s n ⟨j.val / 128, by omega⟩ ⟨j.val % 128, h⟩)
        else Z (ix4 s n ⟨j.val / 128, by omega⟩ ⟨j.val % 128 - 64, by omega⟩) := by
  generalize hU : (concatenate S8x4224x8x128 3 [⟨S8x4224x8x64, Y⟩, ⟨S8x4224x8x64, Z⟩] concatenates_S8x4224x8x64_S8x4224x8x64_S8x4224x8x128_d3 : FVec Ideal S8x4224x8x128 .f32) = U
  have e : (shapeCast S8x4224x1024 U shapeCasts_S8x4224x8x128_S8x4224x1024 : FVec Ideal S8x4224x1024 .f32) (ix3 s n j)
      = U (ix4 s n ⟨j.val / 128, by omega⟩ ⟨j.val % 128, by omega⟩) := by
    pointwise []
  refine e.trans ?_
  rw [← hU]
  pointwise []
  try rfl

/-- The turned queries, from the projected rows and the angles. -/
def queries (X : FVec Ideal S8x4224x1536 .f32) (A : FVec Ideal S4224x64 .f32) : FVec Ideal S8x4224x1024 .bf16 :=
  truncf .bf16 (shapeCast S8x4224x1024 (concatenate S8x4224x8x128 3
    [⟨S8x4224x8x64, subf (mulf (queriesLow X) (queriesTable (Host.cos A))) (mulf (queriesHigh X) (queriesTable (Host.sin A)))⟩,
    ⟨S8x4224x8x64, addf (mulf (queriesHigh X) (queriesTable (Host.cos A))) (mulf (queriesLow X) (queriesTable (Host.sin A)))⟩] concatenates_S8x4224x8x64_S8x4224x8x64_S8x4224x8x128_d3) shapeCasts_S8x4224x8x128_S8x4224x1024) bitsLt_bf16_f32

theorem queries_at (X : FVec Ideal S8x4224x1536 .f32) (A : FVec Ideal S4224x64 .f32) (s : Fin 8) (n : Fin 4224) (j : Fin 1024) :
    queries X A (ix3 s n j) = Proj.turned 64 (fun k => X (ix3 s n (Fin.ofNat 1536 k))) (fun k => A (ix2 n (Fin.ofNat 64 k))) (j.val) := by
  unfold queries
  refine (narrow _ _).trans ((queriesJoin_at _ _ s n j).trans ?_)
  have key : ∀ (k : Fin 1536) (p : ℕ), k.val = p → X (ix3 s n k) = X (ix3 s n (Fin.ofNat 1536 p)) := fun k p e =>
    congrArg (fun q => X (ix3 s n q)) (Fin.ext (by simp [Fin.ofNat, ← e, Nat.mod_eq_of_lt k.isLt]))
  have key' : ∀ (k : Fin 64) (p : ℕ), k.val = p → A (ix2 n k) = A (ix2 n (Fin.ofNat 64 p)) := fun k p e =>
    congrArg (fun q => A (ix2 n q)) (Fin.ext (by simp [Fin.ofNat, ← e, Nat.mod_eq_of_lt k.isLt]))
  unfold Proj.turned
  by_cases h : j.val % 128 < 64
  · rw [dif_pos h, if_pos (by omega)]
    refine (sub_at _ _ _ _ _).trans (congrArg₂ (· - ·)
      (congrArg₂ (· * ·) ((queriesLow_at X s n _ _).trans (key _ _ ?_)) ((queriesTable_at (Host.cos A) s n _ _).trans (congrArg Ideal.cos (key' _ _ ?_))))
      (congrArg₂ (· * ·) ((queriesHigh_at X s n _ _).trans (key _ _ ?_)) ((queriesTable_at (Host.sin A) s n _ _).trans (congrArg Ideal.sin (key' _ _ ?_)))))
    all_goals dsimp only
    all_goals omega
  · rw [dif_neg h, if_neg (by omega)]
    refine (add_at _ _ _ _ _).trans (congrArg₂ (· + ·)
      (congrArg₂ (· * ·) ((queriesHigh_at X s n _ _).trans (key _ _ ?_)) ((queriesTable_at (Host.cos A) s n _ _).trans (congrArg Ideal.cos (key' _ _ ?_))))
      (congrArg₂ (· * ·) ((queriesLow_at X s n _ _).trans (key _ _ ?_)) ((queriesTable_at (Host.sin A) s n _ _).trans (congrArg Ideal.sin (key' _ _ ?_)))))
    all_goals dsimp only
    all_goals omega

/-- The turned keys before the turn, head by head. -/
def keysHeads (X : FVec Ideal S8x4224x1536 .f32) : FVec Ideal S8x4224x2x128 .f32 :=
  shapeCast S8x4224x2x128 (extractStridedSlice S8x4224x256 ![0, 0, 1024] X slices_S8x4224x1536_S8x4224x256_0_0_1024) shapeCasts_S8x4224x256_S8x4224x2x128

theorem keysHeads_at (X : FVec Ideal S8x4224x1536 .f32) (s : Fin 8) (n : Fin 4224) (h : Fin 2) (j : Fin 128) :
    keysHeads X (ix4 s n h j) = X (ix3 s n ⟨1024 + h.val * 128 + j.val, by omega⟩) := by
  pointwise [keysHeads]
  simp only [Nat.add_assoc]

/-- The first and the last half of every head. -/
def keysLow (X : FVec Ideal S8x4224x1536 .f32) : FVec Ideal S8x4224x2x64 .f32 :=
  extractStridedSlice S8x4224x2x64 ![0, 0, 0, 0] (keysHeads X) slices_S8x4224x2x128_S8x4224x2x64_0_0_0_0
def keysHigh (X : FVec Ideal S8x4224x1536 .f32) : FVec Ideal S8x4224x2x64 .f32 :=
  extractStridedSlice S8x4224x2x64 ![0, 0, 0, 64] (keysHeads X) slices_S8x4224x2x128_S8x4224x2x64_0_0_0_64

theorem keysLow_at (X : FVec Ideal S8x4224x1536 .f32) (s : Fin 8) (n : Fin 4224) (h : Fin 2) (j : Fin 64) :
    keysLow X (ix4 s n h j) = X (ix3 s n ⟨1024 + h.val * 128 + j.val, by omega⟩) := by
  refine Eq.trans ?_ (keysHeads_at X s n h ⟨j.val, by omega⟩)
  generalize hY : keysHeads X = Y
  unfold keysLow
  rw [hY]
  pointwise []

theorem keysHigh_at (X : FVec Ideal S8x4224x1536 .f32) (s : Fin 8) (n : Fin 4224) (h : Fin 2) (j : Fin 64) :
    keysHigh X (ix4 s n h j) = X (ix3 s n ⟨1024 + h.val * 128 + (64 + j.val), by omega⟩) := by
  refine Eq.trans ?_ (keysHeads_at X s n h ⟨64 + j.val, by omega⟩)
  generalize hY : keysHeads X = Y
  unfold keysHigh
  rw [hY]
  pointwise []

/-- A table of rows and frequencies, the same for every sequence and head. -/
def keysTable (B : FVec Ideal S4224x64 .f32) : FVec Ideal S8x4224x2x64 .f32 :=
  broadcastInDim S8x4224x2x64 ![0, 1, 2, 3] bcast_S1x4224x1x64_S8x4224x2x64_0_1_2_3 (broadcastInDim S1x4224x1x64 ![1, 2, 3] bcast_S4224x1x64_S1x4224x1x64_1_2_3 (broadcastInDim S4224x1x64 ![0, 2] bcast_S4224x64_S4224x1x64_0_2 B))

theorem keysTable_at (B : FVec Ideal S4224x64 .f32) (s : Fin 8) (n : Fin 4224) (h : Fin 2) (j : Fin 64) :
    keysTable B (ix4 s n h j) = B (ix2 n j) := by
  pointwise [keysTable]

/-- Two halves put side by side in every head, read at a column. -/
theorem keysJoin_at (Y Z : FVec Ideal S8x4224x2x64 .f32) (s : Fin 8) (n : Fin 4224) (j : Fin 256) :
    (shapeCast S8x4224x256 (concatenate S8x4224x2x128 3 [⟨S8x4224x2x64, Y⟩, ⟨S8x4224x2x64, Z⟩] concatenates_S8x4224x2x64_S8x4224x2x64_S8x4224x2x128_d3 : FVec Ideal S8x4224x2x128 .f32) shapeCasts_S8x4224x2x128_S8x4224x256 : FVec Ideal S8x4224x256 .f32) (ix3 s n j)
      = if h : j.val % 128 < 64 then Y (ix4 s n ⟨j.val / 128, by omega⟩ ⟨j.val % 128, h⟩)
        else Z (ix4 s n ⟨j.val / 128, by omega⟩ ⟨j.val % 128 - 64, by omega⟩) := by
  generalize hU : (concatenate S8x4224x2x128 3 [⟨S8x4224x2x64, Y⟩, ⟨S8x4224x2x64, Z⟩] concatenates_S8x4224x2x64_S8x4224x2x64_S8x4224x2x128_d3 : FVec Ideal S8x4224x2x128 .f32) = U
  have e : (shapeCast S8x4224x256 U shapeCasts_S8x4224x2x128_S8x4224x256 : FVec Ideal S8x4224x256 .f32) (ix3 s n j)
      = U (ix4 s n ⟨j.val / 128, by omega⟩ ⟨j.val % 128, by omega⟩) := by
    pointwise []
  refine e.trans ?_
  rw [← hU]
  pointwise []
  try rfl

/-- The turned keys, from the projected rows and the angles. -/
def keys (X : FVec Ideal S8x4224x1536 .f32) (A : FVec Ideal S4224x64 .f32) : FVec Ideal S8x4224x256 .bf16 :=
  truncf .bf16 (shapeCast S8x4224x256 (concatenate S8x4224x2x128 3
    [⟨S8x4224x2x64, subf (mulf (keysLow X) (keysTable (Host.cos A))) (mulf (keysHigh X) (keysTable (Host.sin A)))⟩,
    ⟨S8x4224x2x64, addf (mulf (keysHigh X) (keysTable (Host.cos A))) (mulf (keysLow X) (keysTable (Host.sin A)))⟩] concatenates_S8x4224x2x64_S8x4224x2x64_S8x4224x2x128_d3) shapeCasts_S8x4224x2x128_S8x4224x256) bitsLt_bf16_f32

theorem keys_at (X : FVec Ideal S8x4224x1536 .f32) (A : FVec Ideal S4224x64 .f32) (s : Fin 8) (n : Fin 4224) (j : Fin 256) :
    keys X A (ix3 s n j) = Proj.turned 64 (fun k => X (ix3 s n (Fin.ofNat 1536 k))) (fun k => A (ix2 n (Fin.ofNat 64 k))) (1024 + j.val) := by
  unfold keys
  refine (narrow _ _).trans ((keysJoin_at _ _ s n j).trans ?_)
  have key : ∀ (k : Fin 1536) (p : ℕ), k.val = p → X (ix3 s n k) = X (ix3 s n (Fin.ofNat 1536 p)) := fun k p e =>
    congrArg (fun q => X (ix3 s n q)) (Fin.ext (by simp [Fin.ofNat, ← e, Nat.mod_eq_of_lt k.isLt]))
  have key' : ∀ (k : Fin 64) (p : ℕ), k.val = p → A (ix2 n k) = A (ix2 n (Fin.ofNat 64 p)) := fun k p e =>
    congrArg (fun q => A (ix2 n q)) (Fin.ext (by simp [Fin.ofNat, ← e, Nat.mod_eq_of_lt k.isLt]))
  unfold Proj.turned
  by_cases h : j.val % 128 < 64
  · rw [dif_pos h, if_pos (by omega)]
    refine (sub_at _ _ _ _ _).trans (congrArg₂ (· - ·)
      (congrArg₂ (· * ·) ((keysLow_at X s n _ _).trans (key _ _ ?_)) ((keysTable_at (Host.cos A) s n _ _).trans (congrArg Ideal.cos (key' _ _ ?_))))
      (congrArg₂ (· * ·) ((keysHigh_at X s n _ _).trans (key _ _ ?_)) ((keysTable_at (Host.sin A) s n _ _).trans (congrArg Ideal.sin (key' _ _ ?_)))))
    all_goals dsimp only
    all_goals omega
  · rw [dif_neg h, if_neg (by omega)]
    refine (add_at _ _ _ _ _).trans (congrArg₂ (· + ·)
      (congrArg₂ (· * ·) ((keysHigh_at X s n _ _).trans (key _ _ ?_)) ((keysTable_at (Host.cos A) s n _ _).trans (congrArg Ideal.cos (key' _ _ ?_))))
      (congrArg₂ (· * ·) ((keysLow_at X s n _ _).trans (key _ _ ?_)) ((keysTable_at (Host.sin A) s n _ _).trans (congrArg Ideal.sin (key' _ _ ?_)))))
    all_goals dsimp only
    all_goals omega

/-- The projected rows. -/
def rows (a0 : FVec Ideal S8x4224x1024 .f32) (a1 : FVec Ideal S1024x1536 .f32) : FVec Ideal S8x4224x1536 .f32 :=
  Host.dotGeneral dot_S8x4224x1024_S1024x1536_S8x4224x1536_2_0_01_1_n_n none a0 a1

theorem rows_at (a0 : FVec Ideal S8x4224x1024 .f32) (a1 : FVec Ideal S1024x1536 .f32) (s : Fin 8) (n : Fin 4224) (j : Fin 1536) :
    rows a0 a1 (ix3 s n j) = Ffn.prod (fun i => a0 (ix3 s n i)) (fun i k => a1 (ix2 i k)) j := by
  pointwise [rows, Ffn.prod]
  try rfl

/-- The values, from the projected rows. -/
def values (X : FVec Ideal S8x4224x1536 .f32) : FVec Ideal S8x4224x256 .bf16 :=
  truncf .bf16 (extractStridedSlice S8x4224x256 ![0, 0, 1280] X slices_S8x4224x1536_S8x4224x256_0_0_1280) bitsLt_bf16_f32

theorem values_at (X : FVec Ideal S8x4224x1536 .f32) (s : Fin 8) (n : Fin 4224) (j : Fin 256) :
    values X (ix3 s n j) = X (ix3 s n (Fin.ofNat 1536 (1280 + j.val))) := by
  have e : (⟨1280 + j.val, by omega⟩ : Fin 1536) = Fin.ofNat 1536 (1280 + j.val) :=
    Fin.ext (by simp only [Fin.ofNat]; omega)
  rw [← e]
  pointwise [values]

end Cert.Reference8Ideal.Rows

end
-- ==== Proof.Proj.SwaSame.lean ====
/- The local attention's projections and the plain ones are the same functions of the arguments. -/
module

public import proofs.«01_k».proof.Proof.Proj.Swa
public import proofs.«01_k».proof.Proof.Proj.SwaPlain

@[expose] public section

set_option maxRecDepth 16384

noncomputable section

open Idealize.ShloMosaic Idealize.ShloMosaic.TcCoe Idealize.SL.Sem

namespace Cert.SwaSame

theorem queries_same (a0 : FVec Ideal Kernel8Ideal.S8x4224x1024 .f32) (a1 : FVec Ideal Kernel8Ideal.S1024x1536 .f32) :
    Reference8Ideal.Rows.queries (Reference8Ideal.Rows.rows a0 a1) Reference8Ideal.Rows.angles = Kernel8Ideal.Rows.queries a0 a1 := by
  funext i
  idx_vars i
  refine (Reference8Ideal.Rows.queries_at _ _ i0 i1 i2).trans ?_
  refine (Proj.turned_congr 64 _ _ (Kernel8Ideal.Rows.angle i1.val) _ ?_).trans ?_
  · exact (Reference8Ideal.Rows.angles_at i1 _).trans (congrArg (Kernel8Ideal.Rows.angle i1.val) (Nat.mod_eq_of_lt (Nat.mod_lt _ (by decide))))
  · exact congrArg (fun P => Proj.turned 64 P (Kernel8Ideal.Rows.angle i1.val) (i2.val)) (funext fun k => Reference8Ideal.Rows.rows_at a0 a1 i0 i1 _)

theorem keys_same (a0 : FVec Ideal Kernel8Ideal.S8x4224x1024 .f32) (a1 : FVec Ideal Kernel8Ideal.S1024x1536 .f32) :
    Reference8Ideal.Rows.keys (Reference8Ideal.Rows.rows a0 a1) Reference8Ideal.Rows.angles = Kernel8Ideal.Rows.keys a0 a1 := by
  funext i
  idx_vars i
  refine (Reference8Ideal.Rows.keys_at _ _ i0 i1 i2).trans ?_
  refine (Proj.turned_congr 64 _ _ (Kernel8Ideal.Rows.angle i1.val) _ ?_).trans ?_
  · exact (Reference8Ideal.Rows.angles_at i1 _).trans (congrArg (Kernel8Ideal.Rows.angle i1.val) (Nat.mod_eq_of_lt (Nat.mod_lt _ (by decide))))
  · exact congrArg (fun P => Proj.turned 64 P (Kernel8Ideal.Rows.angle i1.val) (1024 + i2.val)) (funext fun k => Reference8Ideal.Rows.rows_at a0 a1 i0 i1 _)

theorem values_same (a0 : FVec Ideal Kernel8Ideal.S8x4224x1024 .f32) (a1 : FVec Ideal Kernel8Ideal.S1024x1536 .f32) :
    Reference8Ideal.Rows.values (Reference8Ideal.Rows.rows a0 a1) = Kernel8Ideal.Rows.values a0 a1 := by
  funext i
  idx_vars i
  refine (Reference8Ideal.Rows.values_at _ i0 i1 i2).trans ?_
  exact Reference8Ideal.Rows.rows_at a0 a1 i0 i1 _

variable (m : (ℓ : Loc Reference8Ideal.nD Reference8Ideal.τ Reference8Ideal.sig) → Buf (Elt Ideal) ℓ) (c : Dev Reference8Ideal.nD)

/-- The plain program's first two results. -/
theorem plain0 : Reference8Ideal.Value.res_main_v87 (F := Ideal) m c
    = Kernel8Ideal.Rows.queries (m ((c.tc : Thread Reference8Ideal.nD Reference8Ideal.τ).loc Reference8Ideal.main_arg0)) (m ((c.tc : Thread Reference8Ideal.nD Reference8Ideal.τ).loc Reference8Ideal.main_arg1)) := by
  refine Eq.trans ?_ (queries_same _ _)
  unfold Reference8Ideal.Value.res_main_v87 Reference8Ideal.Rows.queries Reference8Ideal.Rows.queriesLow Reference8Ideal.Rows.queriesHigh
    Reference8Ideal.Rows.queriesHeads Reference8Ideal.Rows.queriesTable Reference8Ideal.Rows.rows Reference8Ideal.Rows.angles
  rfl

theorem plain1 : Reference8Ideal.Value.res_main_v88 (F := Ideal) m c
    = Kernel8Ideal.Rows.keys (m ((c.tc : Thread Reference8Ideal.nD Reference8Ideal.τ).loc Reference8Ideal.main_arg0)) (m ((c.tc : Thread Reference8Ideal.nD Reference8Ideal.τ).loc Reference8Ideal.main_arg1)) := by
  refine Eq.trans ?_ (keys_same _ _)
  unfold Reference8Ideal.Value.res_main_v88 Reference8Ideal.Rows.keys Reference8Ideal.Rows.keysLow Reference8Ideal.Rows.keysHigh
    Reference8Ideal.Rows.keysHeads Reference8Ideal.Rows.keysTable Reference8Ideal.Rows.rows Reference8Ideal.Rows.angles
  rfl

end Cert.SwaSame

end
-- ==== Proof.Proj.Latent.lean ====
/- The latent attention's rows: a rank-256 row normalised by its root mean square, and a head of 256 columns put together
   from a plain part, a turned part and a marked column, over the extended reals. Nothing here speaks of a program. -/
module

public import proofs.«01_k».proof.Proof.Proj.Turn

@[expose] public section

noncomputable section

open Idealize.ShloMosaic

namespace Proj

/-- A row of 256 numbers normalised by its root mean square, with gain `g`. -/
def rms (z g : Fin 256 → EReal) (i : Fin 256) : EReal :=
  z i * Ideal.rsqrt (Ideal.div (∑ k, z k * z k) (Ideal.ofBits .f32 0x43800000#32) + Ideal.ofBits .f32 0x358637BD#32) * g i

/-- The product of a row's low-rank projection, normalised, with the weights `V`. -/
def lifted {b : ℕ} (z g : Fin 256 → EReal) (V : Fin 256 → Fin b → EReal) (j : Fin b) : EReal := Ffn.prod (rms z g) V j

theorem lifted_zero {b : ℕ} (z g : Fin 256 → EReal) (V : Fin 256 → Fin b → EReal) (j : Fin b) (h : ∀ i, V i j = 0) : lifted z g V j = 0 := by
  unfold lifted Ffn.prod
  simp [h]

theorem prod_zero {a b : ℕ} (x : Fin a → EReal) (W : Fin a → Fin b → EReal) (j : Fin b) (h : ∀ i, W i j = 0) : Ffn.prod x W j = 0 := by
  unfold Ffn.prod
  simp [h]

/-- Only the column of the weights that is read counts. -/
theorem prod_at {a b b' : ℕ} (x : Fin a → EReal) (W : Fin a → Fin b → EReal) (W' : Fin a → Fin b' → EReal) (j : Fin b) (j' : Fin b')
    (h : ∀ i, W i j = W' i j') : Ffn.prod x W j = Ffn.prod x W' j' := by
  unfold Ffn.prod
  simp [h]

theorem lifted_at {b b' : ℕ} (z g : Fin 256 → EReal) (V : Fin 256 → Fin b → EReal) (V' : Fin 256 → Fin b' → EReal) (j : Fin b) (j' : Fin b')
    (h : ∀ i, V i j = V' i j') : lifted z g V j = lifted z g V' j' := prod_at (rms z g) V V' j j' h

/-- Column `j` of heads of 256 columns: 128 plain ones, here `v`; 64 turned ones, of `P` by the angles `a`; one marked
    column, here `e`; and zeros. -/
def head (v : EReal) (P a : ℕ → EReal) (e : EReal) (j : ℕ) : EReal :=
  if j % 256 < 128 then v else if j % 256 < 192 then turned 32 P a (j % 256 - 128) else if j % 256 = 192 then e else 0

/-- The mark of row `n` among the keys: a large negative number for the rows that stand before position 0. -/
def mark (n : ℕ) : EReal :=
  if IntOp.cmpi .slt (IntOp.subi (BitVec.ofNat 32 n) 112#32) 0#32 = 1#1 then Ideal.ofBits .f32 0xF149F2CA#32 else 0

/-- Only the angles below 32 count. -/
theorem head_congr (v w : EReal) (P Q a b : ℕ → EReal) (e f : EReal) (j : ℕ) (hv : j % 256 < 128 → v = w)
    (hP : ∀ k, k < 64 → P k = Q k) (h : ∀ k, k < 32 → a k = b k) (he : e = f) : head v P a e j = head w Q b f j := by
  unfold head turned
  by_cases h1 : j % 256 < 128
  · rw [if_pos h1, if_pos h1, hv h1]
  · rw [if_neg h1, if_neg h1]
    by_cases h2 : j % 256 < 192
    · rw [if_pos h2, if_pos h2, h _ (Nat.mod_lt _ (by decide)), hP (j % 256 - 128) (by omega)]
      by_cases h3 : (j % 256 - 128) % (2 * 32) < 32
      · rw [if_pos h3, if_pos h3, hP (j % 256 - 128 + 32) (by omega)]
      · rw [if_neg h3, if_neg h3, hP (j % 256 - 128 - 32) (by omega)]
    · rw [if_neg h2, if_neg h2, he]

end Proj

end
-- ==== Proof.Proj.MlaTile.lean ====
/- The latent attention's input projections: what the body leaves in its blocks, from its input blocks. -/
module

public import proofs.«01_k».proof.Proof.Gen.Kernel9Ideal.Frame
public import proofs.«01_k».proof.Proof.Proj.Latent
public import Idealize.ShloMosaic.Lib.Pipeline.ValueKit
public import Idealize.ShloMosaic.Lib.Pipeline.ValueKit.Tiles
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Rows

open Cert.Kernel9Ideal Cert.Kernel9Ideal.Gen

/-- The first halves of the turned columns. -/
theorem low_at (r : Fin 384) (l : Fin 128) : k0_pay14 (ix2 r l) = if l.val % 64 < 32 then 1#1 else 0#1 := by
  pointwise [k0_pay14]
  revert l
  decide +kernel

/-- The marked column. -/
theorem spare_at (r : Fin 384) (l : Fin 128) : k0_pay15 (ix2 r l) = if l.val = 64 then 1#1 else 0#1 := by
  pointwise [k0_pay15]
  revert l
  decide +kernel

/-- The rows before position 0. -/
theorem filler_at : ∀ (t : Fin 11) (r : Fin 384), k0_pay16 (BitVec.ofNat 32 t.val) (ix2 r 0)
    = IntOp.cmpi .slt (IntOp.subi (BitVec.ofNat 32 (t.val * 384 + r.val)) 112#32) 0#32 := by
  intro t r
  pointwise [k0_pay16]
  revert t r
  decide +kernel

variable (i : grid0.Coords) (x0 : Vec Ideal S1x384x1024 .f32) (x1 : Vec Ideal S1024x256 .bf16) (x2 : Vec Ideal S1x256 .f32)
  (x3 : Vec Ideal S256x4096 .bf16) (x4 : Vec Ideal S1024x384 .bf16) (x5 : Vec Ideal S1x256 .f32) (x6 : Vec Ideal S256x4096 .bf16)
  (x7 x8 : Vec Ideal S384x128 .f32)

/-- A row of the queries' product. -/
theorem pay92_at (r : Fin 384) (k : Fin 4096) : k0_pay92 (F := Ideal) i x0 x1 x2 x3 x4 x5 x6 x7 x8 (ix2 r k)
    = Proj.lifted (Ffn.prod (fun i => x0 (ix3 0 r i)) (fun i j => x1 (ix2 i j))) (fun j => x2 (ix2 0 j)) (fun i j => x3 (ix2 i j)) k := by
  unfold k0_pay92
  simp (disch := decide) only [View.ld_unit_lit']
  pointwise [k0_pay5, k0_pay4, Proj.lifted, Proj.rms, Ffn.prod]
  try rfl

/-- A row of the latent product. -/
theorem pay93_at (r : Fin 384) (k : Fin 384) : k0_pay93 (F := Ideal) i x0 x1 x2 x3 x4 x5 x6 x7 x8 (ix2 r k)
    = Ffn.prod (fun i => x0 (ix3 0 r i)) (fun i j => x4 (ix2 i j)) k := by
  unfold k0_pay93
  simp (disch := decide) only [View.ld_unit_lit']
  pointwise [k0_pay6, k0_pay4, Ffn.prod]
  try rfl

/-- A row of the widened product. -/
theorem pay94_at (r : Fin 384) (k : Fin 4096) : k0_pay94 (F := Ideal) i x0 x1 x2 x3 x4 x5 x6 x7 x8 (ix2 r k)
    = Proj.lifted (fun j => Ffn.prod (fun i => x0 (ix3 0 r i)) (fun i j => x4 (ix2 i j)) ⟨j.val, by omega⟩) (fun j => x5 (ix2 0 j)) (fun i j => x6 (ix2 i j)) k := by
  unfold k0_pay94
  simp (disch := decide) only [View.ld_unit_lit']
  pointwise [k0_pay11, k0_pay10, k0_pay9, k0_pay8, k0_pay7, k0_pay6, k0_pay4, Proj.lifted, Proj.rms, Ffn.prod]
  try rfl

theorem pay95_at (r : Fin 384) (l : Fin 128) : k0_pay95 (F := Ideal) i x0 x1 x2 x3 x4 x5 x6 x7 x8 (ix2 r l) = x7 (ix2 r l) := by
  unfold k0_pay95
  simp (disch := decide) only [View.ld_unit_lit']
  pointwise [k0_pay12]
theorem pay96_at (r : Fin 384) (l : Fin 128) : k0_pay96 (F := Ideal) i x0 x1 x2 x3 x4 x5 x6 x7 x8 (ix2 r l) = x8 (ix2 r l) := by
  unfold k0_pay96
  simp (disch := decide) only [View.ld_unit_lit']
  pointwise [k0_pay13]

/-- Columns of one head from 128 on: column 64 among them is `e`, the others are turned by the tables `c` and `s`. -/
def rest (V c s : ℕ → EReal) (e : EReal) (l : ℕ) : EReal :=
  if l = 64 then e else V l * c l + V (if l % 64 < 32 then l + 32 else l - 32) * s l

theorem rest_eq (V c s : ℕ → EReal) (e v v' v'' w w' : EReal) (m n : BitVec 1) (l : Fin 128) (hm : m = if l.val % 64 < 32 then 1#1 else 0#1)
    (hn : n = if l.val = 64 then 1#1 else 0#1) (h : v = V l.val) (h' : v' = V ((l.val + 128 - 96) % 128)) (h'' : v'' = V ((l.val + 128 - 32) % 128))
    (hw : w = c l.val) (hw' : w' = s l.val) :
    Scalar.select n e (v * w + Scalar.select m v' v'' * w') = rest V c s e l.val := by
  subst hm hn h h' h'' hw hw'
  unfold rest Scalar.select
  by_cases h1 : l.val = 64
  · simp [h1]
  · by_cases h2 : l.val % 64 < 32
    · rw [if_pos h2, if_pos h2, if_neg h1, if_neg h1, show (l.val + 128 - 96) % 128 = l.val + 32 by omega]
      simp
    · rw [if_neg h2, if_neg h2, if_neg h1, if_neg h1, show (l.val + 128 - 32) % 128 = l.val - 32 by omega]
      simp

/-- The shared columns of the keys. -/
theorem pay100_at (r : Fin 384) (l : Fin 128) : k0_pay100 (F := Ideal) i x0 x1 x2 x3 x4 x5 x6 x7 x8 (ix2 r l)
    = rest (fun k => k0_pay93 (F := Ideal) i x0 x1 x2 x3 x4 x5 x6 x7 x8 (ix2 r (Fin.ofNat 384 (256 + k)))) (fun k => x7 (ix2 r (Fin.ofNat 128 k))) (fun k => x8 (ix2 r (Fin.ofNat 128 k)))
      (Proj.mark ((i 1).val * 384 + r.val)) l.val := by
  have key : ∀ (k : Fin 384) (p : ℕ), k.val = p → k0_pay93 (F := Ideal) i x0 x1 x2 x3 x4 x5 x6 x7 x8 (ix2 r k) = k0_pay93 (F := Ideal) i x0 x1 x2 x3 x4 x5 x6 x7 x8 (ix2 r (Fin.ofNat 384 p)) :=
    fun k p e => congrArg (fun q => k0_pay93 (F := Ideal) i x0 x1 x2 x3 x4 x5 x6 x7 x8 (ix2 r q)) (Fin.ext (by simp [Fin.ofNat, ← e, Nat.mod_eq_of_lt k.isLt]))
  have el : Fin.ofNat 128 l.val = l := Fin.ext (by simp [Fin.ofNat, Nat.mod_eq_of_lt l.isLt])
  have em : Scalar.select (k0_pay99 (F := Ideal) i x0 x1 x2 x3 x4 x5 x6 x7 x8 (ix2 r 0)) (Ideal.ofBits FTy.f32 0xF149F2CA#32) 0 = Proj.mark ((i 1).val * 384 + r.val) := by
    unfold Proj.mark k0_pay99
    rw [filler_at (i 1) r]
    rfl
  rw [← em]
  unfold k0_pay100
  pointwise [k0_pay17]
  refine rest_eq (fun k => k0_pay93 (F := Ideal) i x0 x1 x2 x3 x4 x5 x6 x7 x8 (ix2 r (Fin.ofNat 384 (256 + k)))) (fun k => x7 (ix2 r (Fin.ofNat 128 k))) (fun k => x8 (ix2 r (Fin.ofNat 128 k))) _ _ _ _ _ _ _ _ l
    (low_at r l) (spare_at r l) (key _ _ rfl) (key _ _ rfl) (key _ _ rfl) ?_ ?_
  · rw [el]
    exact pay95_at i x0 x1 x2 x3 x4 x5 x6 x7 x8 r l
  · rw [el]
    exact pay96_at i x0 x1 x2 x3 x4 x5 x6 x7 x8 r l

/-- The first store of the shared columns is the same value, computed where it is stored. -/
theorem first_at (y : S1x384x128.Idx) : k0_pay21 (F := Ideal) (k0_pay93 i x0 x1 x2 x3 x4 x5 x6 x7 x8) (k0_pay95 i x0 x1 x2 x3 x4 x5 x6 x7 x8)
      (k0_pay96 i x0 x1 x2 x3 x4 x5 x6 x7 x8) (k0_pay97 i x0 x1 x2 x3 x4 x5 x6 x7 x8)
      (k0_pay98 i x0 x1 x2 x3 x4 x5 x6 x7 x8) (k0_pay99 i x0 x1 x2 x3 x4 x5 x6 x7 x8)
      (FloatOps.ofBits FTy.f32 4048155338#32) (FloatOps.ofBits FTy.f32 0#32) y
    = k0_pay100 (F := Ideal) i x0 x1 x2 x3 x4 x5 x6 x7 x8 (ix2 (y 1) (y 2)) := by
  unfold k0_pay100
  generalize k0_pay93 (F := Ideal) i x0 x1 x2 x3 x4 x5 x6 x7 x8 = R
  generalize k0_pay95 (F := Ideal) i x0 x1 x2 x3 x4 x5 x6 x7 x8 = C
  generalize k0_pay96 (F := Ideal) i x0 x1 x2 x3 x4 x5 x6 x7 x8 = S
  pointwise [k0_pay17, k0_pay21]

/-- The body's second result, at a row and a column. -/
theorem out10_at (r : Fin 384) (j : Fin 4096) :
    out0_10 (F := Ideal) i x0 x1 x2 x3 x4 x5 x6 x7 x8 (ix3 0 r j)
      = if j.val % 256 < 128 then k0_pay94 (F := Ideal) i x0 x1 x2 x3 x4 x5 x6 x7 x8 (ix2 r (Fin.ofNat 4096 (j.val / 256 * 128 + j.val % 256)))
        else k0_pay100 (F := Ideal) i x0 x1 x2 x3 x4 x5 x6 x7 x8 (ix2 r (Fin.ofNat 128 j.val)) := by
  canon_tiles x h using cover0_10 _ _ _ _ _ _ _ _ _ _ _ _ _ _ _ _ _ _ _ _ _ _ _ _ _ _ _ _ _ _ _ _ _
  all_goals
    have hr : x 1 = r := Fin.ext h1.symm
    have hj := h2
    change j.val = _ at hj
    have hx : (x 2).val < 128 := (x 2).isLt
    rw [← hr]
    first
    | rw [if_pos (by omega)]
      pointwise [k0_pay1, k0_pay2, k0_pay18, k0_pay19, k0_pay20, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
      exact congrArg (fun q => k0_pay94 (F := Ideal) i x0 x1 x2 x3 x4 x5 x6 x7 x8 (ix2 (x 1) q)) (Fin.ext (by simp only [Fin.ofNat]; omega))
    | rw [if_neg (by omega)]
      first
      | rw [first_at i x0 x1 x2 x3 x4 x5 x6 x7 x8 x]
      | pointwise [k0_pay1, k0_pay2, k0_pay18, k0_pay19, k0_pay20, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
      exact congrArg (fun q => k0_pay100 (F := Ideal) i x0 x1 x2 x3 x4 x5 x6 x7 x8 (ix2 (x 1) q)) (Fin.ext (by simp only [Fin.ofNat]; omega))

/-- The body's third result, at a row and a column. -/
theorem out11_at (r : Fin 384) (j : Fin 2048) :
    out0_11 (F := Ideal) i x0 x1 x2 x3 x4 x5 x6 x7 x8 (ix3 0 r j)
      = k0_pay94 (F := Ideal) i x0 x1 x2 x3 x4 x5 x6 x7 x8 (ix2 r (Fin.ofNat 4096 (2048 + j.val))) := by
  have e : (⟨2048 + j.val, by omega⟩ : Fin 4096) = Fin.ofNat 4096 (2048 + j.val) := Fin.ext (by simp only [Fin.ofNat]; omega)
  rw [← e]
  frame_out
  pointwise [k0_pay3]
  try rfl

/-- The body's first result, at a row and a column. -/
theorem out9_at (r : Fin 384) (j : Fin 4096) :
    out0_9 (F := Ideal) i x0 x1 x2 x3 x4 x5 x6 x7 x8 (ix3 0 r j)
      = if j.val % 256 < 128 then k0_pay92 (F := Ideal) i x0 x1 x2 x3 x4 x5 x6 x7 x8 (ix2 r (Fin.ofNat 4096 j.val))
        else rest (fun k => k0_pay92 (F := Ideal) i x0 x1 x2 x3 x4 x5 x6 x7 x8 (ix2 r (Fin.ofNat 4096 (j.val / 128 * 128 + k)))) (fun k => x7 (ix2 r (Fin.ofNat 128 k))) (fun k => x8 (ix2 r (Fin.ofNat 128 k))) 1 (j.val % 128) := by
  have key : ∀ (r : Fin 384) (k : Fin 4096) (p : ℕ), k.val = p → k0_pay92 (F := Ideal) i x0 x1 x2 x3 x4 x5 x6 x7 x8 (ix2 r k) = k0_pay92 (F := Ideal) i x0 x1 x2 x3 x4 x5 x6 x7 x8 (ix2 r (Fin.ofNat 4096 p)) :=
    fun r k p e => congrArg (fun q => k0_pay92 (F := Ideal) i x0 x1 x2 x3 x4 x5 x6 x7 x8 (ix2 r q)) (Fin.ext (by simp [Fin.ofNat, ← e, Nat.mod_eq_of_lt k.isLt]))
  canon_tiles x h using cover0_9 _ _ _ _ _ _ _ _ _ _ _ _ _ _ _ _ _ _ _ _ _ _ _ _ _ _ _ _ _ _ _ _ _
  all_goals
    have hr : x 1 = r := Fin.ext h1.symm
    have hj := h2
    change j.val = _ at hj
    have hx : (x 2).val < 128 := (x 2).isLt
    rw [← hr]
    first
    | rw [if_pos (by omega)]
      pointwise [k0_pay1, k0_pay2, k0_pay18, k0_pay19, k0_pay20, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
      exact key _ _ _ (by dsimp only; omega)
    | rw [if_neg (by omega), show j.val % 128 = (x 2).val by omega]
      pointwise [k0_pay1, k0_pay2, k0_pay18, k0_pay19, k0_pay20, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
      refine rest_eq (fun k => k0_pay92 (F := Ideal) i x0 x1 x2 x3 x4 x5 x6 x7 x8 (ix2 (x 1) (Fin.ofNat 4096 (j.val / 128 * 128 + k)))) (fun k => x7 (ix2 (x 1) (Fin.ofNat 128 k))) (fun k => x8 (ix2 (x 1) (Fin.ofNat 128 k))) _ _ _ _ _ _ _ _ (x 2)
        (low_at (x 1) (x 2)) (spare_at (x 1) (x 2)) (key _ _ _ ?_) (key _ _ _ ?_) (key _ _ _ ?_) ?_ ?_
      · dsimp only; omega
      · dsimp only; omega
      · dsimp only; omega
      · refine (pay95_at i x0 x1 x2 x3 x4 x5 x6 x7 x8 (x 1) (x 2)).trans (congrArg (fun q => x7 (ix2 (x 1) q)) (Fin.ext ?_))
        exact (Nat.mod_eq_of_lt hx).symm
      · refine (pay96_at i x0 x1 x2 x3 x4 x5 x6 x7 x8 (x 1) (x 2)).trans (congrArg (fun q => x8 (ix2 (x 1) q)) (Fin.ext ?_))
        exact (Nat.mod_eq_of_lt hx).symm

end Cert.Kernel9Ideal.Rows

end
-- ==== Proof.Proj.MlaBlocks.lean ====
/- The latent attention's input projections: the blocks the body reads, as entries of the arguments. -/
module

public import proofs.«01_k».proof.Proof.Gen.Kernel9Ideal.Frame
public import proofs.«01_k».proof.Proof.Proj.Latent
public import Idealize.ShloMosaic.Lib.Pipeline.ValueKit
public import Idealize.ShloMosaic.Lib.Pipeline.ValueKit.Tiles
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Rows

open Cert.Kernel9Ideal Cert.Kernel9Ideal.Gen

variable (m : (ℓ : Loc nD τ sig) → Buf (Elt Ideal) ℓ)

/-- The windows' index maps. -/
theorem idx : ∀ t : Fin cfg0.N,
    win0_0.index t = ![(grid0.coords t 0).val, (grid0.coords t 1).val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![(grid0.coords t 1).val, 0]
    ∧ win0_8.index t = ![(grid0.coords t 1).val, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0] :=
  (by decide +kernel : ∀ t : Fin grid0.N, _)

/-- The rows of a point's block 0 are rows of the argument. -/
theorem rows0_at (c : Dev nD) (t : Fin cfg0.N) (r : Fin 384) (k : Fin 1024) (s : Fin 8) (n : Fin 4224)
    (hs : s.val = (grid0.coords t 0).val) (h : n.val = (grid0.coords t 1).val * 384 + r.val) :
    iblk m c 0 t (ix3 0 r k) = m ((c : Thread nD τ).loc main_arg0) (ix3 s n k) := by
  have e : ((cfg0.win 0).blk t).view.emb (ix3 0 r k) = ix3 s n k := by blk_ext [idx t, h, hs]
  blk_simp [iblk, e]
  simp only [V, hostOps0, hostOps0_1, hostOps0_2, hostOps0_3, hostOps0_4, List.flatten_cons, List.flatten_nil, List.append_nil, List.cons_append, List.nil_append, StableHlo.TRef.unary, StableHlo.TRef.binary, StableHlo.TRef.of]
  entry_read
  try rfl

/-- Block 1 is the whole weights. -/
theorem mat1_at (c : Dev nD) (t : Fin cfg0.N) (i : Fin 1024) (k : Fin 256) :
    iblk m c 1 t (ix2 i k) = m ((c : Thread nD τ).loc main_arg1) (ix2 i k) := by
  have e : ((cfg0.win 1).blk t).view.emb (ix2 i k) = ix2 i k := by blk_ext [idx t]
  blk_simp [iblk, e]
  simp only [V, hostOps0, hostOps0_1, hostOps0_2, hostOps0_3, hostOps0_4, List.flatten_cons, List.flatten_nil, List.append_nil, List.cons_append, List.nil_append, StableHlo.TRef.unary, StableHlo.TRef.binary, StableHlo.TRef.of]
  entry_read
  pointwise []

/-- Blocks 2 and 5 are the gains. -/
theorem gain2_at (c : Dev nD) (t : Fin cfg0.N) (k : Fin 256) :
    iblk m c 2 t (ix2 0 k) = m ((c : Thread nD τ).loc main_arg2) (ix1 k) := by
  have e : ((cfg0.win 2).blk t).view.emb (ix2 0 k) = ix2 0 k := by blk_ext [idx t]
  blk_simp [iblk, e]
  simp only [V, hostOps0, hostOps0_1, hostOps0_2, hostOps0_3, hostOps0_4, List.flatten_cons, List.flatten_nil, List.append_nil, List.cons_append, List.nil_append, StableHlo.TRef.unary, StableHlo.TRef.binary, StableHlo.TRef.of]
  entry_read
  pointwise []

theorem gain5_at (c : Dev nD) (t : Fin cfg0.N) (k : Fin 256) :
    iblk m c 5 t (ix2 0 k) = m ((c : Thread nD τ).loc main_arg5) (ix1 k) := by
  have e : ((cfg0.win 5).blk t).view.emb (ix2 0 k) = ix2 0 k := by blk_ext [idx t]
  blk_simp [iblk, e]
  simp only [V, hostOps0, hostOps0_1, hostOps0_2, hostOps0_3, hostOps0_4, List.flatten_cons, List.flatten_nil, List.append_nil, List.cons_append, List.nil_append, StableHlo.TRef.unary, StableHlo.TRef.binary, StableHlo.TRef.of]
  entry_read
  pointwise []

/-- The number the padding is made of. -/
theorem padding : FloatOps.sitofp (F := Ideal) FTy.f32 0#32 = (0 : EReal) := by
  have h : (0#32 : BitVec 32).toInt = 0 := by decide
  change ((((0#32 : BitVec 32).toInt : ℤ) : ℝ) : EReal) = 0
  rw [h, Int.cast_zero, EReal.coe_zero]

/-- Block 3 has the weights of the queries, each head's 192 columns followed by 64 zero ones. -/
theorem mat3_at (c : Dev nD) (t : Fin cfg0.N) (i : Fin 256) (k : Fin 4096) :
    iblk m c 3 t (ix2 i k) = if h : k.val % 256 < 192 then m ((c : Thread nD τ).loc main_arg3) (ix2 i ⟨k.val / 256 * 192 + k.val % 256, by omega⟩) else (0 : EReal) := by
  have e : ((cfg0.win 3).blk t).view.emb (ix2 i k) = ix2 i k := by blk_ext [idx t]
  blk_simp [iblk, e]
  simp only [V, hostOps0, hostOps0_1, hostOps0_2, hostOps0_3, hostOps0_4, List.flatten_cons, List.flatten_nil, List.append_nil, List.cons_append, List.nil_append, StableHlo.TRef.unary, StableHlo.TRef.binary, StableHlo.TRef.of]
  entry_read
  simp only [StableHlo.TRef.toBuf, StableHlo.TRef.ofBuf, cast_eq]
  pointwise []
  have hk' : k.val / 256 < 16 := by omega
  simp only [hk', true_and, padding]

/-- Block 4 has the weights of the latent row, its 320 columns followed by 64 zero ones. -/
theorem mat4_at (c : Dev nD) (t : Fin cfg0.N) (i : Fin 1024) (k : Fin 384) :
    iblk m c 4 t (ix2 i k) = if h : k.val < 320 then m ((c : Thread nD τ).loc main_arg4) (ix2 i ⟨k.val, h⟩) else (0 : EReal) := by
  have e : ((cfg0.win 4).blk t).view.emb (ix2 i k) = ix2 i k := by blk_ext [idx t]
  blk_simp [iblk, e]
  simp only [V, hostOps0, hostOps0_1, hostOps0_2, hostOps0_3, hostOps0_4, List.flatten_cons, List.flatten_nil, List.append_nil, List.cons_append, List.nil_append, StableHlo.TRef.unary, StableHlo.TRef.binary, StableHlo.TRef.of]
  entry_read
  simp only [StableHlo.TRef.toBuf, StableHlo.TRef.ofBuf, cast_eq]
  pointwise []
  rw [padding]

/-- Block 6 has the weights of the keys and then the weights of the values, head by head. -/
theorem mat6_at (c : Dev nD) (t : Fin cfg0.N) (i : Fin 256) (k : Fin 4096) :
    iblk m c 6 t (ix2 i k) = m ((c : Thread nD τ).loc main_arg6)
      (ix2 i ⟨k.val % 2048 / 128 * 256 + (k.val / 2048 * 128 + k.val % 128), by omega⟩) := by
  have e : ((cfg0.win 6).blk t).view.emb (ix2 i k) = ix2 i k := by blk_ext [idx t]
  blk_simp [iblk, e]
  simp only [V, hostOps0, hostOps0_1, hostOps0_2, hostOps0_3, hostOps0_4, List.flatten_cons, List.flatten_nil, List.append_nil, List.cons_append, List.nil_append, StableHlo.TRef.unary, StableHlo.TRef.binary, StableHlo.TRef.of]
  entry_read
  pointwise []
  by_cases hk : k.val < 2048
  · rw [dif_pos hk]
    exact congrArg (fun q => m ((c : Thread nD τ).loc main_arg6) (ix2 i q)) (Fin.ext (by simp only; omega))
  · rw [dif_neg hk]
    exact congrArg (fun q => m ((c : Thread nD τ).loc main_arg6) (ix2 i q)) (Fin.ext (by simp only; omega))

/-- The angle of a row at a frequency. -/
abbrev angle (n j : ℕ) : EReal := Proj.angle 1115684864#32 n j

/-- The rows of block 7 are rows of the table of cosines. -/
theorem cos_at (c : Dev nD) (t : Fin cfg0.N) (r : Fin 384) (k : Fin 128) (n : Fin 4224)
    (h : n.val = (grid0.coords t 1).val * 384 + r.val) :
    iblk m c 7 t (ix2 r k) = Ideal.cos (angle n.val (k.val % 32)) := by
  have e : ((cfg0.win 7).blk t).view.emb (ix2 r k) = ix2 n k := by blk_ext [idx t, h]
  blk_simp [iblk, e]
  simp only [V, hostOps0, hostOps0_1, hostOps0_2, hostOps0_3, hostOps0_4, List.flatten_cons, List.flatten_nil, List.append_nil, List.cons_append, List.nil_append, StableHlo.TRef.unary, StableHlo.TRef.binary, StableHlo.TRef.of]
  entry_read
  pointwise []
  by_cases hk : k.val % 64 < 32
  · rw [dif_pos hk, show k.val % 32 = k.val % 64 by omega]; rfl
  · rw [dif_neg hk, show k.val % 32 = k.val % 64 - 32 by omega]; rfl

/-- The rows of block 8 are rows of the table of sines, negative in the first half of each 64 columns. -/
theorem sin_at (c : Dev nD) (t : Fin cfg0.N) (r : Fin 384) (k : Fin 128) (n : Fin 4224)
    (h : n.val = (grid0.coords t 1).val * 384 + r.val) :
    iblk m c 8 t (ix2 r k) = if k.val % 64 < 32 then -Ideal.sin (angle n.val (k.val % 32)) else Ideal.sin (angle n.val (k.val % 32)) := by
  have e : ((cfg0.win 8).blk t).view.emb (ix2 r k) = ix2 n k := by blk_ext [idx t, h]
  blk_simp [iblk, e]
  simp only [V, hostOps0, hostOps0_1, hostOps0_2, hostOps0_3, hostOps0_4, List.flatten_cons, List.flatten_nil, List.append_nil, List.cons_append, List.nil_append, StableHlo.TRef.unary, StableHlo.TRef.binary, StableHlo.TRef.of]
  entry_read
  pointwise []
  by_cases hk : k.val % 64 < 32
  · rw [dif_pos hk, if_pos hk, show k.val % 32 = k.val % 64 by omega]; rfl
  · rw [dif_neg hk, if_neg hk, show k.val % 32 = k.val % 64 - 32 by omega]; rfl

end Cert.Kernel9Ideal.Rows

end
-- ==== Proof.Proj.Mla.lean ====
/- The latent attention's input projections: their results as functions of the arguments. -/
module

public import proofs.«01_k».proof.Proof.Proj.MlaTile
public import proofs.«01_k».proof.Proof.Proj.MlaBlocks

@[expose] public section

set_option maxRecDepth 16384

noncomputable section

open Idealize.ShloMosaic Idealize.ShloMosaic.TcCoe Idealize.SL.Sem
open Idealize.ShloMosaic.Pipeline (Dat)

namespace Cert.Kernel9Ideal.Rows

open Cert.Kernel9Ideal Cert.Kernel9Ideal.Gen

/-- The columns of a head from 128 on, as columns of the head. -/
theorem rest_head (v e : EReal) (V c s P a : ℕ → EReal) (j : ℕ) (hj : ¬ j % 256 < 128) (hV : ∀ k, k < 64 → V k = P k)
    (h0 : ∀ k, 64 ≤ k → k < 128 → V k = 0) (hc : ∀ k, k < 128 → c k = Ideal.cos (a (k % 32)))
    (hs : ∀ k, k < 128 → s k = if k % 64 < 32 then -Ideal.sin (a (k % 32)) else Ideal.sin (a (k % 32))) :
    rest V c s e (j % 128) = Proj.head v P a e j := by
  have hl : j % 256 - 128 = j % 128 := by omega
  unfold Proj.head rest
  rw [if_neg hj]
  by_cases h1 : j % 128 = 64
  · rw [if_pos h1, if_neg (by omega), if_pos (by omega)]
  · rw [if_neg h1, hc _ (by omega), hs _ (by omega)]
    by_cases h2 : j % 256 < 192
    · rw [if_pos h2, hl, ← Proj.turned_eq 32 P a (j % 128) _ rfl, hV _ (by omega)]
      have h3 : j % 128 % (2 * 32) = j % 128 % 64 := rfl
      rw [h3]
      by_cases h4 : j % 128 % 64 < 32
      · rw [if_pos h4, if_pos h4, hV _ (by omega)]
      · rw [if_neg h4, if_neg h4, hV _ (by omega)]
    · rw [if_neg h2, if_neg (show ¬ j % 256 = 192 by omega), h0 (j % 128) (by omega) (by omega), zero_mul, zero_add]
      by_cases h4 : j % 128 % 64 < 32
      · rw [if_pos h4, h0 _ (by omega) (by omega), zero_mul]
      · rw [if_neg h4, h0 _ (by omega) (by omega), zero_mul]

variable (a0 : FVec Ideal S8x4224x1024 .f32) (a1 : FVec Ideal S1024x256 .f32) (a2 : FVec Ideal S256 .f32) (a3 : FVec Ideal S256x3072 .f32)
  (a4 : FVec Ideal S1024x320 .f32) (a5 : FVec Ideal S256 .f32) (a6 : FVec Ideal S256x4096 .f32)

/-- A row's queries before the turn, its latent row, and its widened row, at a column. -/
def asked (s : Fin 8) (n : Fin 4224) (k : ℕ) : EReal :=
  Proj.lifted (Ffn.prod (fun i => a0 (ix3 s n i)) (fun i j => a1 (ix2 i j))) (fun j => a2 (ix1 j)) (fun i j => a3 (ix2 i j)) (Fin.ofNat 3072 k)
def hidden (s : Fin 8) (n : Fin 4224) (k : Fin 320) : EReal := Ffn.prod (fun i => a0 (ix3 s n i)) (fun i j => a4 (ix2 i j)) k
def kept (s : Fin 8) (n : Fin 4224) (k : ℕ) : EReal :=
  Proj.lifted (fun j => hidden a0 a4 s n ⟨j.val, by omega⟩) (fun j => a5 (ix1 j)) (fun i j => a6 (ix2 i j)) (Fin.ofNat 4096 k)

/-- The queries, the keys and the values. -/
abbrev queries : FVec Ideal S8x4224x4096 .bf16 := fun i =>
  Proj.head (asked a0 a1 a2 a3 (i 0) (i 1) ((i 2).val / 256 * 192 + (i 2).val % 256))
    (fun k => asked a0 a1 a2 a3 (i 0) (i 1) ((i 2).val / 256 * 192 + 128 + k % 64)) (angle (i 1).val) 1 (i 2).val
abbrev keys : FVec Ideal S8x4224x4096 .bf16 := fun i =>
  Proj.head (kept a0 a4 a5 a6 (i 0) (i 1) ((i 2).val / 256 * 256 + (i 2).val % 256))
    (fun k => hidden a0 a4 (i 0) (i 1) (Fin.ofNat 320 (256 + k % 64))) (angle (i 1).val) (Proj.mark (i 1).val) (i 2).val
abbrev values : FVec Ideal S8x4224x2048 .bf16 := fun i =>
  kept a0 a4 a5 a6 (i 0) (i 1) ((i 2).val / 128 * 256 + (128 + (i 2).val % 128))

variable (m : (ℓ : Loc nD τ sig) → Buf (Elt Ideal) ℓ)

/-- The queries' product of a point's row. -/
theorem asked_row (c : Dev nD) (t : Fin cfg0.N) (r : Fin 384) (k : Fin 4096) (s : Fin 8) (n : Fin 4224)
    (hs : s.val = (grid0.coords t 0).val) (h : n.val = (grid0.coords t 1).val * 384 + r.val) :
    k0_pay92 (F := Ideal) (grid0.coords t) (iblk m c 0 t) (iblk m c 1 t) (iblk m c 2 t) (iblk m c 3 t) (iblk m c 4 t) (iblk m c 5 t) (iblk m c 6 t) (iblk m c 7 t) (iblk m c 8 t) (ix2 r k)
      = if k.val % 256 < 192 then asked (m ((c : Thread nD τ).loc main_arg0)) (m ((c : Thread nD τ).loc main_arg1)) (m ((c : Thread nD τ).loc main_arg2)) (m ((c : Thread nD τ).loc main_arg3)) s n (k.val / 256 * 192 + k.val % 256) else 0 := by
  have e0 : (fun i : Fin 1024 => iblk m c 0 t (ix3 0 r i)) = fun i => (m ((c : Thread nD τ).loc main_arg0)) (ix3 s n i) :=
    funext fun i => rows0_at m c t r i s n hs h
  have e1 : (fun (i : Fin 1024) (k : Fin 256) => iblk m c 1 t (ix2 i k)) = fun i k => (m ((c : Thread nD τ).loc main_arg1)) (ix2 i k) :=
    funext fun i => funext fun k => mat1_at m c t i k
  have e2 : (fun k : Fin 256 => iblk m c 2 t (ix2 0 k)) = fun k => (m ((c : Thread nD τ).loc main_arg2)) (ix1 k) :=
    funext fun k => gain2_at m c t k
  refine (pay92_at _ _ _ _ _ _ _ _ _ _ r k).trans ?_
  refine (congrArg₂ (fun z g => Proj.lifted z g (fun i j => iblk m c 3 t (ix2 i j)) k) (congrArg₂ (fun x W => Ffn.prod x W) e0 e1) e2).trans ?_
  by_cases hk : k.val % 256 < 192
  · rw [if_pos hk]
    refine Proj.lifted_at _ _ _ _ _ _ fun i => ((mat3_at m c t i k).trans (dif_pos hk)).trans ?_
    exact congrArg (fun q => (m ((c : Thread nD τ).loc main_arg3)) (ix2 i q)) (Fin.ext (by simp only [Fin.ofNat]; omega))
  · rw [if_neg hk]
    exact Proj.lifted_zero _ _ _ _ fun i => (mat3_at m c t i k).trans (dif_neg hk)

/-- The latent product of a point's row. -/
theorem hidden_row (c : Dev nD) (t : Fin cfg0.N) (r : Fin 384) (k : Fin 384) (s : Fin 8) (n : Fin 4224)
    (hs : s.val = (grid0.coords t 0).val) (h : n.val = (grid0.coords t 1).val * 384 + r.val) :
    Ffn.prod (fun i => iblk m c 0 t (ix3 0 r i)) (fun i j => iblk m c 4 t (ix2 i j)) k
      = if h : k.val < 320 then hidden (m ((c : Thread nD τ).loc main_arg0)) (m ((c : Thread nD τ).loc main_arg4)) s n ⟨k.val, h⟩ else 0 := by
  have e0 : (fun i : Fin 1024 => iblk m c 0 t (ix3 0 r i)) = fun i => (m ((c : Thread nD τ).loc main_arg0)) (ix3 s n i) :=
    funext fun i => rows0_at m c t r i s n hs h
  refine (congrArg (fun x => Ffn.prod x (fun i j => iblk m c 4 t (ix2 i j)) k) e0).trans ?_
  by_cases hk : k.val < 320
  · rw [dif_pos hk]
    exact Proj.prod_at _ _ _ _ _ fun i => (mat4_at m c t i k).trans (dif_pos hk)
  · rw [dif_neg hk]
    exact Proj.prod_zero _ _ _ fun i => (mat4_at m c t i k).trans (dif_neg hk)

/-- The widened product of a point's row. -/
theorem kept_row (c : Dev nD) (t : Fin cfg0.N) (r : Fin 384) (k : Fin 4096) (s : Fin 8) (n : Fin 4224)
    (hs : s.val = (grid0.coords t 0).val) (h : n.val = (grid0.coords t 1).val * 384 + r.val) :
    k0_pay94 (F := Ideal) (grid0.coords t) (iblk m c 0 t) (iblk m c 1 t) (iblk m c 2 t) (iblk m c 3 t) (iblk m c 4 t) (iblk m c 5 t) (iblk m c 6 t) (iblk m c 7 t) (iblk m c 8 t) (ix2 r k)
      = kept (m ((c : Thread nD τ).loc main_arg0)) (m ((c : Thread nD τ).loc main_arg4)) (m ((c : Thread nD τ).loc main_arg5)) (m ((c : Thread nD τ).loc main_arg6)) s n (k.val % 2048 / 128 * 256 + (k.val / 2048 * 128 + k.val % 128)) := by
  have e0 : (fun j : Fin 256 => Ffn.prod (fun i => iblk m c 0 t (ix3 0 r i)) (fun i j => iblk m c 4 t (ix2 i j)) (⟨j.val, by omega⟩ : Fin 384))
      = fun j => hidden (m ((c : Thread nD τ).loc main_arg0)) (m ((c : Thread nD τ).loc main_arg4)) s n ⟨j.val, by omega⟩ :=
    funext fun j => (hidden_row m c t r ⟨j.val, by omega⟩ s n hs h).trans (dif_pos (show j.val < 320 by omega))
  have e5 : (fun k : Fin 256 => iblk m c 5 t (ix2 0 k)) = fun k => (m ((c : Thread nD τ).loc main_arg5)) (ix1 k) :=
    funext fun k => gain5_at m c t k
  refine (pay94_at _ _ _ _ _ _ _ _ _ _ r k).trans ?_
  refine (congrArg₂ (fun z g => Proj.lifted z g (fun i j => iblk m c 6 t (ix2 i j)) k) e0 e5).trans ?_
  refine Proj.lifted_at _ _ _ _ _ _ fun i => (mat6_at m c t i k).trans ?_
  exact congrArg (fun q => (m ((c : Thread nD τ).loc main_arg6)) (ix2 i q)) (Fin.ext (by simp only [Fin.ofNat]; omega))

/-- The tables of a point's row. -/
theorem cos_row (c : Dev nD) (t : Fin cfg0.N) (r : Fin 384) (k : ℕ) (hk : k < 128) (s : Fin 8) (n : Fin 4224)
    (hs : s.val = (grid0.coords t 0).val) (h : n.val = (grid0.coords t 1).val * 384 + r.val) :
    iblk m c 7 t (ix2 r (Fin.ofNat 128 k)) = Ideal.cos (angle n.val (k % 32)) := by
  have e : (Fin.ofNat 128 k).val = k := Nat.mod_eq_of_lt hk
  refine (cos_at m c t r _ n h).trans ?_
  rw [e]
theorem sin_row (c : Dev nD) (t : Fin cfg0.N) (r : Fin 384) (k : ℕ) (hk : k < 128) (s : Fin 8) (n : Fin 4224)
    (hs : s.val = (grid0.coords t 0).val) (h : n.val = (grid0.coords t 1).val * 384 + r.val) :
    iblk m c 8 t (ix2 r (Fin.ofNat 128 k)) = if k % 64 < 32 then -Ideal.sin (angle n.val (k % 32)) else Ideal.sin (angle n.val (k % 32)) := by
  have e : (Fin.ofNat 128 k).val = k := Nat.mod_eq_of_lt hk
  refine (sin_at m c t r _ n h).trans ?_
  rw [e]

/-- A point's rows of the queries. -/
theorem queries_row (c : Dev nD) (t : Fin cfg0.N) (r : Fin 384) (j : Fin 4096) (s : Fin 8) (n : Fin 4224)
    (hs : s.val = (grid0.coords t 0).val) (h : n.val = (grid0.coords t 1).val * 384 + r.val) :
    out0_9 (F := Ideal) (grid0.coords t) (iblk m c 0 t) (iblk m c 1 t) (iblk m c 2 t) (iblk m c 3 t) (iblk m c 4 t) (iblk m c 5 t) (iblk m c 6 t) (iblk m c 7 t) (iblk m c 8 t) (ix3 0 r j) = queries (m ((c : Thread nD τ).loc main_arg0)) (m ((c : Thread nD τ).loc main_arg1)) (m ((c : Thread nD τ).loc main_arg2)) (m ((c : Thread nD τ).loc main_arg3)) (ix3 s n j) := by
  refine (out9_at _ _ _ _ _ _ _ _ _ _ r j).trans ?_
  change _ = Proj.head (asked (m ((c : Thread nD τ).loc main_arg0)) (m ((c : Thread nD τ).loc main_arg1)) (m ((c : Thread nD τ).loc main_arg2)) (m ((c : Thread nD τ).loc main_arg3)) s n (j.val / 256 * 192 + j.val % 256))
    (fun k => asked (m ((c : Thread nD τ).loc main_arg0)) (m ((c : Thread nD τ).loc main_arg1)) (m ((c : Thread nD τ).loc main_arg2)) (m ((c : Thread nD τ).loc main_arg3)) s n (j.val / 256 * 192 + 128 + k % 64)) (angle n.val) 1 j.val
  by_cases hj : j.val % 256 < 128
  · have e : (Fin.ofNat 4096 j.val).val = j.val := Nat.mod_eq_of_lt j.isLt
    rw [if_pos hj]
    refine (asked_row m c t r _ s n hs h).trans ?_
    unfold Proj.head
    rw [e, if_pos (by omega), if_pos hj]
  · rw [if_neg hj]
    have ek : ∀ k, k < 128 → (Fin.ofNat 4096 (j.val / 128 * 128 + k)).val = j.val / 128 * 128 + k := fun k hk => Nat.mod_eq_of_lt (by omega)
    refine rest_head _ _ _ _ _ _ _ _ hj (fun k hk => (asked_row m c t r _ s n hs h).trans ?_) (fun k hk hk' => (asked_row m c t r _ s n hs h).trans ?_)
      (fun k hk => cos_row m c t r k hk s n hs h) (fun k hk => sin_row m c t r k hk s n hs h)
    · rw [ek k (by omega), if_pos (by omega)]
      exact congrArg (asked (m ((c : Thread nD τ).loc main_arg0)) (m ((c : Thread nD τ).loc main_arg1)) (m ((c : Thread nD τ).loc main_arg2)) (m ((c : Thread nD τ).loc main_arg3)) s n) (by omega)
    · rw [ek k hk', if_neg (by omega)]

/-- A point's rows of the keys. -/
theorem keys_row (c : Dev nD) (t : Fin cfg0.N) (r : Fin 384) (j : Fin 4096) (s : Fin 8) (n : Fin 4224)
    (hs : s.val = (grid0.coords t 0).val) (h : n.val = (grid0.coords t 1).val * 384 + r.val) :
    out0_10 (F := Ideal) (grid0.coords t) (iblk m c 0 t) (iblk m c 1 t) (iblk m c 2 t) (iblk m c 3 t) (iblk m c 4 t) (iblk m c 5 t) (iblk m c 6 t) (iblk m c 7 t) (iblk m c 8 t) (ix3 0 r j) = keys (m ((c : Thread nD τ).loc main_arg0)) (m ((c : Thread nD τ).loc main_arg4)) (m ((c : Thread nD τ).loc main_arg5)) (m ((c : Thread nD τ).loc main_arg6)) (ix3 s n j) := by
  refine (out10_at _ _ _ _ _ _ _ _ _ _ r j).trans ?_
  change _ = Proj.head (kept (m ((c : Thread nD τ).loc main_arg0)) (m ((c : Thread nD τ).loc main_arg4)) (m ((c : Thread nD τ).loc main_arg5)) (m ((c : Thread nD τ).loc main_arg6)) s n (j.val / 256 * 256 + j.val % 256))
    (fun k => hidden (m ((c : Thread nD τ).loc main_arg0)) (m ((c : Thread nD τ).loc main_arg4)) s n (Fin.ofNat 320 (256 + k % 64))) (angle n.val) (Proj.mark n.val) j.val
  by_cases hj : j.val % 256 < 128
  · have e : (Fin.ofNat 4096 (j.val / 256 * 128 + j.val % 256)).val = j.val / 256 * 128 + j.val % 256 := Nat.mod_eq_of_lt (by omega)
    rw [if_pos hj]
    refine (kept_row m c t r _ s n hs h).trans ?_
    unfold Proj.head
    rw [e, if_pos hj]
    exact congrArg (kept (m ((c : Thread nD τ).loc main_arg0)) (m ((c : Thread nD τ).loc main_arg4)) (m ((c : Thread nD τ).loc main_arg5)) (m ((c : Thread nD τ).loc main_arg6)) s n) (by omega)
  · rw [if_neg hj]
    refine (pay100_at _ _ _ _ _ _ _ _ _ _ r _).trans ?_
    rw [← h]
    have ek : ∀ k, k < 128 → (Fin.ofNat 384 (256 + k)).val = 256 + k := fun k hk => Nat.mod_eq_of_lt (by omega)
    refine rest_head _ _ _ _ _ _ _ _ hj (fun k hk => ((pay93_at _ _ _ _ _ _ _ _ _ _ r _).trans (hidden_row m c t r _ s n hs h)).trans ?_)
      (fun k hk hk' => ((pay93_at _ _ _ _ _ _ _ _ _ _ r _).trans (hidden_row m c t r _ s n hs h)).trans ?_)
      (fun k hk => cos_row m c t r k hk s n hs h) (fun k hk => sin_row m c t r k hk s n hs h)
    · rw [dif_pos (show (Fin.ofNat 384 (256 + k)).val < 320 by rw [ek k (by omega)]; omega)]
      exact congrArg (hidden (m ((c : Thread nD τ).loc main_arg0)) (m ((c : Thread nD τ).loc main_arg4)) s n) (Fin.ext (by simp only [Fin.ofNat]; omega))
    · rw [dif_neg (show ¬ (Fin.ofNat 384 (256 + k)).val < 320 by rw [ek k hk']; omega)]

/-- A point's rows of the values. -/
theorem values_row (c : Dev nD) (t : Fin cfg0.N) (r : Fin 384) (j : Fin 2048) (s : Fin 8) (n : Fin 4224)
    (hs : s.val = (grid0.coords t 0).val) (h : n.val = (grid0.coords t 1).val * 384 + r.val) :
    out0_11 (F := Ideal) (grid0.coords t) (iblk m c 0 t) (iblk m c 1 t) (iblk m c 2 t) (iblk m c 3 t) (iblk m c 4 t) (iblk m c 5 t) (iblk m c 6 t) (iblk m c 7 t) (iblk m c 8 t) (ix3 0 r j) = values (m ((c : Thread nD τ).loc main_arg0)) (m ((c : Thread nD τ).loc main_arg4)) (m ((c : Thread nD τ).loc main_arg5)) (m ((c : Thread nD τ).loc main_arg6)) (ix3 s n j) := by
  refine (out11_at _ _ _ _ _ _ _ _ _ _ r j).trans ?_
  change _ = kept (m ((c : Thread nD τ).loc main_arg0)) (m ((c : Thread nD τ).loc main_arg4)) (m ((c : Thread nD τ).loc main_arg5)) (m ((c : Thread nD τ).loc main_arg6)) s n (j.val / 128 * 256 + (128 + j.val % 128))
  refine (kept_row m c t r _ s n hs h).trans ?_
  have e : (Fin.ofNat 4096 (2048 + j.val)).val = 2048 + j.val := Nat.mod_eq_of_lt (by omega)
  rw [e]
  exact congrArg (kept (m ((c : Thread nD τ).loc main_arg0)) (m ((c : Thread nD τ).loc main_arg4)) (m ((c : Thread nD τ).loc main_arg5)) (m ((c : Thread nD τ).loc main_arg6)) s n) (by omega)

/-- The result arrays after the run. -/
theorem final9 (c : Dev nD) : (dats m 0 c).arrAt 9 (cfgs 0).N = queries (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  idx_vars y
  obtain rfl : y0 = 0 := Subsingleton.elim _ _
  have hp : (grid0.coords t 0).val < 8 := (grid0.coords t 0).isLt
  have hq : (grid0.coords t 1).val < 11 := (grid0.coords t 1).isLt
  have e : ((cfg0.win 9).blk t).view.emb (ix3 0 y1 y2)
      = ix3 (⟨(grid0.coords t 0).val, hp⟩ : Fin 8) (⟨(grid0.coords t 1).val * 384 + y1.val, by omega⟩ : Fin 4224) y2 := by
    blk_ext [idx t]
  exact (queries_row m c t y1 y2 ⟨_, hp⟩ ⟨_, by omega⟩ rfl rfl).trans (congrArg (queries (m ((c : Thread nD τ).loc main_arg0)) (m ((c : Thread nD τ).loc main_arg1)) (m ((c : Thread nD τ).loc main_arg2)) (m ((c : Thread nD τ).loc main_arg3))) e).symm

theorem final10 (c : Dev nD) : (dats m 0 c).arrAt 10 (cfgs 0).N = keys (m ((c : Thread nD τ).loc main_arg0)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  idx_vars y
  obtain rfl : y0 = 0 := Subsingleton.elim _ _
  have hp : (grid0.coords t 0).val < 8 := (grid0.coords t 0).isLt
  have hq : (grid0.coords t 1).val < 11 := (grid0.coords t 1).isLt
  have e : ((cfg0.win 10).blk t).view.emb (ix3 0 y1 y2)
      = ix3 (⟨(grid0.coords t 0).val, hp⟩ : Fin 8) (⟨(grid0.coords t 1).val * 384 + y1.val, by omega⟩ : Fin 4224) y2 := by
    blk_ext [idx t]
  exact (keys_row m c t y1 y2 ⟨_, hp⟩ ⟨_, by omega⟩ rfl rfl).trans (congrArg (keys (m ((c : Thread nD τ).loc main_arg0)) (m ((c : Thread nD τ).loc main_arg4)) (m ((c : Thread nD τ).loc main_arg5)) (m ((c : Thread nD τ).loc main_arg6))) e).symm

theorem final11 (c : Dev nD) : (dats m 0 c).arrAt 11 (cfgs 0).N = values (m ((c : Thread nD τ).loc main_arg0)) (m ((c : Thread nD τ).loc main_arg4)) (m ((c : Thread nD τ).loc main_arg5)) (m ((c : Thread nD τ).loc main_arg6)) := by
  refine (dats m 0 c).arrAt_eq_of_covers 11 _ (by decide +kernel) fun t _ y => ?_
  blk_simp
  rw [after0_11]
  idx_vars y
  obtain rfl : y0 = 0 := Subsingleton.elim _ _
  have hp : (grid0.coords t 0).val < 8 := (grid0.coords t 0).isLt
  have hq : (grid0.coords t 1).val < 11 := (grid0.coords t 1).isLt
  have e : ((cfg0.win 11).blk t).view.emb (ix3 0 y1 y2)
      = ix3 (⟨(grid0.coords t 0).val, hp⟩ : Fin 8) (⟨(grid0.coords t 1).val * 384 + y1.val, by omega⟩ : Fin 4224) y2 := by
    blk_ext [idx t]
  exact (values_row m c t y1 y2 ⟨_, hp⟩ ⟨_, by omega⟩ rfl rfl).trans (congrArg (values (m ((c : Thread nD τ).loc main_arg0)) (m ((c : Thread nD τ).loc main_arg4)) (m ((c : Thread nD τ).loc main_arg5)) (m ((c : Thread nD τ).loc main_arg6))) e).symm

end Cert.Kernel9Ideal.Rows

end
-- ==== Proof.Proj.MlaPlain.lean ====
/- The plain input projections of the latent attention: their results as functions of the arguments. -/
module

public import proofs.«01_k».proof.Proof.Gen.Reference9Ideal.Run
public import proofs.«01_k».proof.Proof.Proj.Latent
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Reference9Ideal.Rows

open Cert.Reference9Ideal Cert.Reference9Ideal.Facts₀ Cert.Reference9Ideal.Facts

/-- The angles of all rows at all frequencies. -/
def angles : FVec Ideal S4224x32 .f32 :=
  mulf (broadcastInDim S4224x32 ![0, 1] bcast_S4224x1_S4224x32_0_1 (broadcastInDim S4224x1 ![0] bcast_S4224_S4224x1_0 (sitofp .f32 (subi (iotaInDim S4224 32 0) (broadcastInDim S4224 ![] bcast_S_S4224 (constantI S_ 32 112#32)))))) (broadcastInDim S4224x32 ![0, 1] bcast_S1x32_S4224x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

theorem angles_at (n : Fin 4224) (k : Fin 32) : angles (ix2 n k) = Proj.angle 1115684864#32 n.val k.val := by
  pointwise [angles]
  rfl

/-- Narrowing changes nothing over the extended reals. -/
theorem narrow {s : Shape} (Y : FVec Ideal s .f32) (i : s.Idx) : truncf .bf16 Y bitsLt_bf16_f32 i = Y i := rfl

theorem sub_at {s : Shape} (a t b u : FVec Ideal s .f32) (i : s.Idx) : subf (mulf a t) (mulf b u) i = a i * t i - b i * u i := rfl
theorem add_at {s : Shape} (a t b u : FVec Ideal s .f32) (i : s.Idx) : addf (mulf a t) (mulf b u) i = a i * t i + b i * u i := rfl

/-- The products of the rows. -/
def down (a0 : FVec Ideal S8x4224x1024 .f32) (a1 : FVec Ideal S1024x256 .f32) : FVec Ideal S8x4224x256 .f32 :=
  Host.dotGeneral dot_S8x4224x1024_S1024x256_S8x4224x256_2_0_01_1_n_n none a0 a1
def latent (a0 : FVec Ideal S8x4224x1024 .f32) (a4 : FVec Ideal S1024x320 .f32) : FVec Ideal S8x4224x320 .f32 :=
  Host.dotGeneral dot_S8x4224x1024_S1024x320_S8x4224x320_2_0_01_1_n_n none a0 a4
def up (Z : FVec Ideal S8x4224x256 .f32) (a3 : FVec Ideal S256x3072 .f32) : FVec Ideal S8x4224x3072 .f32 :=
  Host.dotGeneral dot_S8x4224x256_S256x3072_S8x4224x3072_2_0_01_1_n_n none Z a3
def widened (Z : FVec Ideal S8x4224x256 .f32) (a6 : FVec Ideal S256x4096 .f32) : FVec Ideal S8x4224x4096 .f32 :=
  Host.dotGeneral dot_S8x4224x256_S256x4096_S8x4224x4096_2_0_01_1_n_n none Z a6

theorem down_at (a0 : FVec Ideal S8x4224x1024 .f32) (a1 : FVec Ideal S1024x256 .f32) (s : Fin 8) (n : Fin 4224) (j : Fin 256) :
    down a0 a1 (ix3 s n j) = Ffn.prod (fun i => a0 (ix3 s n i)) (fun i k => a1 (ix2 i k)) j := by
  pointwise [down, Ffn.prod]
  try rfl
theorem latent_at (a0 : FVec Ideal S8x4224x1024 .f32) (a4 : FVec Ideal S1024x320 .f32) (s : Fin 8) (n : Fin 4224) (j : Fin 320) :
    latent a0 a4 (ix3 s n j) = Ffn.prod (fun i => a0 (ix3 s n i)) (fun i k => a4 (ix2 i k)) j := by
  pointwise [latent, Ffn.prod]
  try rfl
theorem up_at (Z : FVec Ideal S8x4224x256 .f32) (a3 : FVec Ideal S256x3072 .f32) (s : Fin 8) (n : Fin 4224) (j : Fin 3072) :
    up Z a3 (ix3 s n j) = Ffn.prod (fun i => Z (ix3 s n i)) (fun i k => a3 (ix2 i k)) j := by
  pointwise [up, Ffn.prod]
  try rfl
theorem widened_at (Z : FVec Ideal S8x4224x256 .f32) (a6 : FVec Ideal S256x4096 .f32) (s : Fin 8) (n : Fin 4224) (j : Fin 4096) :
    widened Z a6 (ix3 s n j) = Ffn.prod (fun i => Z (ix3 s n i)) (fun i k => a6 (ix2 i k)) j := by
  pointwise [widened, Ffn.prod]
  try rfl

/-- Rows normalised by their root mean squares. -/
def normed (Z : FVec Ideal S8x4224x256 .f32) (g : FVec Ideal S256 .f32) : FVec Ideal S8x4224x256 .f32 :=
  mulf (mulf Z (broadcastInDim S8x4224x256 ![0, 1, 2] bcast_S8x4224x1_S8x4224x256_0_1_2 (Host.rsqrt (addf (Host.divf (broadcastInDim S8x4224x1 ![0, 1] bcast_S8x4224_S8x4224x1_0_1 (Host.reduceAdd (mulf Z Z) (constant S_ .f32 0x00000000#32) reducesTo_S8x4224x256_S8x4224_d2 h_S_)) (broadcastInDim S8x4224x1 ![] bcast_S_S8x4224x1 (constant S_ .f32 0x43800000#32))) (broadcastInDim S8x4224x1 ![] bcast_S_S8x4224x1 (constant S_ .f32 0x358637BD#32)))))) (broadcastInDim S8x4224x256 ![0, 1, 2] bcast_S1x1x256_S8x4224x256_0_1_2 (broadcastInDim S1x1x256 ![2] bcast_S256_S1x1x256_2 g))

theorem normed_at (Z : FVec Ideal S8x4224x256 .f32) (g : FVec Ideal S256 .f32) (s : Fin 8) (n : Fin 4224) (j : Fin 256) :
    normed Z g (ix3 s n j) = Proj.rms (fun k => Z (ix3 s n k)) (fun k => g (ix1 k)) j := by
  pointwise [normed, Proj.rms]
  try rfl

/-- The latent rows' first 256 columns. -/
def compressed (K : FVec Ideal S8x4224x320 .f32) : FVec Ideal S8x4224x256 .f32 :=
  extractStridedSlice S8x4224x256 ![0, 0, 0] K slices_S8x4224x320_S8x4224x256_0_0_0

theorem compressed_at (K : FVec Ideal S8x4224x320 .f32) (s : Fin 8) (n : Fin 4224) (j : Fin 256) :
    compressed K (ix3 s n j) = K (ix3 s n ⟨j.val, by omega⟩) := by
  pointwise [compressed]
  try rfl

/-- Heads of four parts side by side, read at a column. -/
theorem join_at (Y : FVec Ideal S8x4224x16x128 .f32) (Z : FVec Ideal S8x4224x16x64 .f32) (U : FVec Ideal S8x4224x16x1 .f32)
    (W : FVec Ideal S8x4224x16x63 .f32) (s : Fin 8) (n : Fin 4224) (j : Fin 4096) :
    (shapeCast S8x4224x4096 (concatenate S8x4224x16x256 3 [⟨S8x4224x16x128, Y⟩, ⟨S8x4224x16x64, Z⟩, ⟨S8x4224x16x1, U⟩, ⟨S8x4224x16x63, W⟩] concatenates_S8x4224x16x128_S8x4224x16x64_S8x4224x16x1_S8x4224x16x63_S8x4224x16x256_d3 : FVec Ideal S8x4224x16x256 .f32) shapeCasts_S8x4224x16x256_S8x4224x4096 : FVec Ideal S8x4224x4096 .f32) (ix3 s n j)
      = if h : j.val % 256 < 128 then Y (ix4 s n ⟨j.val / 256, by omega⟩ ⟨j.val % 256, h⟩)
        else if h' : j.val % 256 < 192 then Z (ix4 s n ⟨j.val / 256, by omega⟩ ⟨j.val % 256 - 128, by omega⟩)
        else if h'' : j.val % 256 = 192 then U (ix4 s n ⟨j.val / 256, by omega⟩ 0)
        else W (ix4 s n ⟨j.val / 256, by omega⟩ ⟨j.val % 256 - 193, by omega⟩) := by
  generalize hV : (concatenate S8x4224x16x256 3 [⟨S8x4224x16x128, Y⟩, ⟨S8x4224x16x64, Z⟩, ⟨S8x4224x16x1, U⟩, ⟨S8x4224x16x63, W⟩] concatenates_S8x4224x16x128_S8x4224x16x64_S8x4224x16x1_S8x4224x16x63_S8x4224x16x256_d3 : FVec Ideal S8x4224x16x256 .f32) = V
  have e : (shapeCast S8x4224x4096 V shapeCasts_S8x4224x16x256_S8x4224x4096 : FVec Ideal S8x4224x4096 .f32) (ix3 s n j)
      = V (ix4 s n ⟨j.val / 256, by omega⟩ ⟨j.val % 256, by omega⟩) := by
    pointwise []
  refine e.trans ?_
  rw [← hV]
  pointwise []
  by_cases h1 : j.val % 256 < 128
  · rw [dif_pos h1, dif_pos h1]
  · rw [dif_neg h1, dif_neg h1]
    by_cases h2 : j.val % 256 < 192
    · rw [dif_pos (by omega), dif_pos h2]
    · rw [dif_neg (by omega), dif_neg h2]
      by_cases h3 : j.val % 256 = 192
      · rw [dif_pos (by omega), dif_pos h3]
        exact congrArg (fun q : Fin 1 => U (ix4 s n ⟨j.val / 256, by omega⟩ q)) (Subsingleton.elim _ _)
      · rw [dif_neg (by omega), dif_neg h3]
        exact congrArg (fun q : Fin 63 => W (ix4 s n ⟨j.val / 256, by omega⟩ q)) (Fin.ext (by simp only; omega))

/-- The queries before the turn, head by head: their plain columns and the two halves of the others. -/
def queriesHeads (X : FVec Ideal S8x4224x3072 .f32) : FVec Ideal S8x4224x16x192 .f32 :=
  shapeCast S8x4224x16x192 X shapeCasts_S8x4224x3072_S8x4224x16x192

theorem queriesHeads_at (X : FVec Ideal S8x4224x3072 .f32) (s : Fin 8) (n : Fin 4224) (h : Fin 16) (j : Fin 192) :
    queriesHeads X (ix4 s n h j) = X (ix3 s n ⟨h.val * 192 + j.val, by omega⟩) := by
  pointwise [queriesHeads]
  try rfl

def queriesPlain (X : FVec Ideal S8x4224x3072 .f32) : FVec Ideal S8x4224x16x128 .f32 :=
  extractStridedSlice S8x4224x16x128 ![0, 0, 0, 0] (queriesHeads X) slices_S8x4224x16x192_S8x4224x16x128_0_0_0_0

theorem queriesPlain_at (X : FVec Ideal S8x4224x3072 .f32) (s : Fin 8) (n : Fin 4224) (h : Fin 16) (j : Fin 128) :
    queriesPlain X (ix4 s n h j) = X (ix3 s n ⟨h.val * 192 + j.val, by omega⟩) := by
  refine Eq.trans ?_ (queriesHeads_at X s n h ⟨j.val, by omega⟩)
  generalize hY : queriesHeads X = Y
  unfold queriesPlain
  rw [hY]
  pointwise []

def queriesRest (X : FVec Ideal S8x4224x3072 .f32) : FVec Ideal S8x4224x16x64 .f32 :=
  extractStridedSlice S8x4224x16x64 ![0, 0, 0, 128] (queriesHeads X) slices_S8x4224x16x192_S8x4224x16x64_0_0_0_128

theorem queriesRest_at (X : FVec Ideal S8x4224x3072 .f32) (s : Fin 8) (n : Fin 4224) (h : Fin 16) (j : Fin 64) :
    queriesRest X (ix4 s n h j) = X (ix3 s n ⟨h.val * 192 + (128 + j.val), by omega⟩) := by
  refine Eq.trans ?_ (queriesHeads_at X s n h ⟨128 + j.val, by omega⟩)
  generalize hY : queriesHeads X = Y
  unfold queriesRest
  rw [hY]
  pointwise []

/-- A half of the rest, from column `0` or `32`. -/
def queriesLow (R : FVec Ideal S8x4224x16x64 .f32) : FVec Ideal S8x4224x16x32 .f32 :=
  extractStridedSlice S8x4224x16x32 ![0, 0, 0, 0] R slices_S8x4224x16x64_S8x4224x16x32_0_0_0_0
def queriesHigh (R : FVec Ideal S8x4224x16x64 .f32) : FVec Ideal S8x4224x16x32 .f32 :=
  extractStridedSlice S8x4224x16x32 ![0, 0, 0, 32] R slices_S8x4224x16x64_S8x4224x16x32_0_0_0_32
def queriesTable (B : FVec Ideal S4224x32 .f32) : FVec Ideal S8x4224x16x32 .f32 :=
  broadcastInDim S8x4224x16x32 ![0, 1, 2, 3] bcast_S1x4224x1x32_S8x4224x16x32_0_1_2_3 (broadcastInDim S1x4224x1x32 ![1, 2, 3] bcast_S4224x1x32_S1x4224x1x32_1_2_3 (broadcastInDim S4224x1x32 ![0, 2] bcast_S4224x32_S4224x1x32_0_2 B))

theorem queriesLow_at (R : FVec Ideal S8x4224x16x64 .f32) (s : Fin 8) (n : Fin 4224) (h : Fin 16) (j : Fin 32) :
    queriesLow R (ix4 s n h j) = R (ix4 s n h ⟨j.val, by omega⟩) := by
  pointwise [queriesLow]
  try rfl
theorem queriesHigh_at (R : FVec Ideal S8x4224x16x64 .f32) (s : Fin 8) (n : Fin 4224) (h : Fin 16) (j : Fin 32) :
    queriesHigh R (ix4 s n h j) = R (ix4 s n h ⟨32 + j.val, by omega⟩) := by
  pointwise [queriesHigh]
  try rfl
theorem queriesTable_at (B : FVec Ideal S4224x32 .f32) (s : Fin 8) (n : Fin 4224) (h : Fin 16) (j : Fin 32) :
    queriesTable B (ix4 s n h j) = B (ix2 n j) := by
  pointwise [queriesTable]

/-- The rest of the queries, turned. -/
def queriesTurned (R : FVec Ideal S8x4224x16x64 .f32) (A : FVec Ideal S4224x32 .f32) : FVec Ideal S8x4224x16x64 .f32 :=
  concatenate S8x4224x16x64 3
    [⟨S8x4224x16x32, subf (mulf (queriesLow R) (queriesTable (Host.cos A))) (mulf (queriesHigh R) (queriesTable (Host.sin A)))⟩,
    ⟨S8x4224x16x32, addf (mulf (queriesHigh R) (queriesTable (Host.cos A))) (mulf (queriesLow R) (queriesTable (Host.sin A)))⟩] concatenates_S8x4224x16x32_S8x4224x16x32_S8x4224x16x64_d3

theorem queriesTurned_at (R : FVec Ideal S8x4224x16x64 .f32) (A : FVec Ideal S4224x32 .f32) (s : Fin 8) (n : Fin 4224) (g : Fin 16) (j : Fin 64) :
    queriesTurned R A (ix4 s n g j) = Proj.turned 32 (fun k => R (ix4 s n g (Fin.ofNat 64 k))) (fun k => A (ix2 n (Fin.ofNat 32 k))) j.val := by
  have key : ∀ (k : Fin 64) (p : ℕ), k.val = p → R (ix4 s n g k) = R (ix4 s n g (Fin.ofNat 64 p)) := fun k p e =>
    congrArg (fun q => R (ix4 s n g q)) (Fin.ext (by simp [Fin.ofNat, ← e, Nat.mod_eq_of_lt k.isLt]))
  have key' : ∀ (k : Fin 32) (p : ℕ), k.val = p → A (ix2 n k) = A (ix2 n (Fin.ofNat 32 p)) := fun k p e =>
    congrArg (fun q => A (ix2 n q)) (Fin.ext (by simp [Fin.ofNat, ← e, Nat.mod_eq_of_lt k.isLt]))
  unfold queriesTurned
  generalize hY : subf (mulf (queriesLow R) (queriesTable (Host.cos A))) (mulf (queriesHigh R) (queriesTable (Host.sin A))) = Y
  generalize hZ : addf (mulf (queriesHigh R) (queriesTable (Host.cos A))) (mulf (queriesLow R) (queriesTable (Host.sin A))) = Z
  have e : (concatenate S8x4224x16x64 3 [⟨S8x4224x16x32, Y⟩, ⟨S8x4224x16x32, Z⟩] concatenates_S8x4224x16x32_S8x4224x16x32_S8x4224x16x64_d3 : FVec Ideal S8x4224x16x64 .f32) (ix4 s n g j)
      = if h : j.val < 32 then Y (ix4 s n g ⟨j.val, h⟩) else Z (ix4 s n g ⟨j.val - 32, by omega⟩) := by
    pointwise []
    try rfl
  refine e.trans ?_
  unfold Proj.turned
  by_cases h : j.val < 32
  · rw [dif_pos h, if_pos (by omega), ← hY]
    refine (sub_at _ _ _ _ _).trans (congrArg₂ (· - ·)
      (congrArg₂ (· * ·) ((queriesLow_at R s n _ _).trans (key _ _ ?_)) ((queriesTable_at (Host.cos A) s n _ _).trans (congrArg Ideal.cos (key' _ _ ?_))))
      (congrArg₂ (· * ·) ((queriesHigh_at R s n _ _).trans (key _ _ ?_)) ((queriesTable_at (Host.sin A) s n _ _).trans (congrArg Ideal.sin (key' _ _ ?_)))))
    all_goals dsimp only
    all_goals omega
  · rw [dif_neg h, if_neg (by omega), ← hZ]
    refine (add_at _ _ _ _ _).trans (congrArg₂ (· + ·)
      (congrArg₂ (· * ·) ((queriesHigh_at R s n _ _).trans (key _ _ ?_)) ((queriesTable_at (Host.cos A) s n _ _).trans (congrArg Ideal.cos (key' _ _ ?_))))
      (congrArg₂ (· * ·) ((queriesLow_at R s n _ _).trans (key _ _ ?_)) ((queriesTable_at (Host.sin A) s n _ _).trans (congrArg Ideal.sin (key' _ _ ?_)))))
    all_goals dsimp only
    all_goals omega

def ones : FVec Ideal S8x4224x16x1 .f32 := broadcastInDim S8x4224x16x1 ![] bcast_S_S8x4224x16x1 (constant S_ .f32 0x3F800000#32)
def zeros : FVec Ideal S8x4224x16x63 .f32 := broadcastInDim S8x4224x16x63 ![] bcast_S_S8x4224x16x63 (constant S_ .f32 0x00000000#32)

theorem ones_at (s : Fin 8) (n : Fin 4224) (g : Fin 16) : ones (ix4 s n g 0) = 1 := by
  pointwise [ones]
theorem zeros_at (s : Fin 8) (n : Fin 4224) (g : Fin 16) (j : Fin 63) : zeros (ix4 s n g j) = 0 := by
  pointwise [zeros]

/-- The queries, from the projected rows and the angles. -/
def queries (X : FVec Ideal S8x4224x3072 .f32) (A : FVec Ideal S4224x32 .f32) : FVec Ideal S8x4224x4096 .bf16 :=
  truncf .bf16 (shapeCast S8x4224x4096 (concatenate S8x4224x16x256 3 [⟨S8x4224x16x128, queriesPlain X⟩, ⟨S8x4224x16x64, queriesTurned (queriesRest X) A⟩, ⟨S8x4224x16x1, ones⟩, ⟨S8x4224x16x63, zeros⟩] concatenates_S8x4224x16x128_S8x4224x16x64_S8x4224x16x1_S8x4224x16x63_S8x4224x16x256_d3) shapeCasts_S8x4224x16x256_S8x4224x4096) bitsLt_bf16_f32

/-- Four parts of a head, each known at a column, are the head. -/
theorem head_of (v e : EReal) (P a : ℕ → EReal) (Y : FVec Ideal S8x4224x16x128 .f32) (Z : FVec Ideal S8x4224x16x64 .f32) (U : FVec Ideal S8x4224x16x1 .f32)
    (s : Fin 8) (n : Fin 4224) (j : Fin 4096)
    (hY : ∀ h : j.val % 256 < 128, Y (ix4 s n ⟨j.val / 256, by omega⟩ ⟨j.val % 256, h⟩) = v)
    (hZ : ∀ k : Fin 64, Z (ix4 s n ⟨j.val / 256, by omega⟩ k) = Proj.turned 32 P a k.val)
    (hU : U (ix4 s n ⟨j.val / 256, by omega⟩ 0) = e) :
    (truncf .bf16 (shapeCast S8x4224x4096 (concatenate S8x4224x16x256 3 [⟨S8x4224x16x128, Y⟩, ⟨S8x4224x16x64, Z⟩, ⟨S8x4224x16x1, U⟩, ⟨S8x4224x16x63, zeros⟩] concatenates_S8x4224x16x128_S8x4224x16x64_S8x4224x16x1_S8x4224x16x63_S8x4224x16x256_d3 : FVec Ideal S8x4224x16x256 .f32) shapeCasts_S8x4224x16x256_S8x4224x4096 : FVec Ideal S8x4224x4096 .f32) bitsLt_bf16_f32 : FVec Ideal S8x4224x4096 .bf16) (ix3 s n j)
      = Proj.head v P a e j.val := by
  refine (narrow _ _).trans ((join_at Y Z U zeros s n j).trans ?_)
  unfold Proj.head
  by_cases h1 : j.val % 256 < 128
  · rw [dif_pos h1, if_pos h1, hY h1]
  · rw [dif_neg h1, if_neg h1]
    by_cases h2 : j.val % 256 < 192
    · rw [dif_pos h2, if_pos h2, hZ]
    · rw [dif_neg h2, if_neg h2]
      by_cases h3 : j.val % 256 = 192
      · rw [dif_pos h3, if_pos h3, hU]
      · rw [dif_neg h3, if_neg h3, zeros_at]

theorem queries_at (X : FVec Ideal S8x4224x3072 .f32) (A : FVec Ideal S4224x32 .f32) (s : Fin 8) (n : Fin 4224) (j : Fin 4096) :
    queries X A (ix3 s n j) = Proj.head (X (ix3 s n (Fin.ofNat 3072 (j.val / 256 * 192 + j.val % 256))))
      (fun k => X (ix3 s n (Fin.ofNat 3072 (j.val / 256 * 192 + 128 + k % 64)))) (fun k => A (ix2 n (Fin.ofNat 32 k))) 1 j.val := by
  have key : ∀ (k : Fin 3072) (p : ℕ), k.val = p → X (ix3 s n k) = X (ix3 s n (Fin.ofNat 3072 p)) := fun k p e =>
    congrArg (fun q => X (ix3 s n q)) (Fin.ext (by simp [Fin.ofNat, ← e, Nat.mod_eq_of_lt k.isLt]))
  unfold queries
  refine head_of _ _ _ _ _ _ _ s n j (fun h => (queriesPlain_at X s n _ _).trans (key _ _ rfl)) (fun k => ?_) (ones_at s n _)
  refine (queriesTurned_at _ A s n _ k).trans (congrArg (fun P => Proj.turned 32 P (fun k => A (ix2 n (Fin.ofNat 32 k))) k.val) (funext fun p => ?_))
  refine (queriesRest_at X s n _ _).trans (key _ _ ?_)
  simp only [Fin.ofNat]
  omega

/-- The keys before the turn: 64 columns, the same for every head, and their halves. -/
def keysRest (K : FVec Ideal S8x4224x320 .f32) : FVec Ideal S8x4224x1x64 .f32 :=
  broadcastInDim S8x4224x1x64 ![0, 1, 3] bcast_S8x4224x64_S8x4224x1x64_0_1_3 (extractStridedSlice S8x4224x64 ![0, 0, 256] K slices_S8x4224x320_S8x4224x64_0_0_256)
def keysLow (R : FVec Ideal S8x4224x1x64 .f32) : FVec Ideal S8x4224x1x32 .f32 :=
  extractStridedSlice S8x4224x1x32 ![0, 0, 0, 0] R slices_S8x4224x1x64_S8x4224x1x32_0_0_0_0
def keysHigh (R : FVec Ideal S8x4224x1x64 .f32) : FVec Ideal S8x4224x1x32 .f32 :=
  extractStridedSlice S8x4224x1x32 ![0, 0, 0, 32] R slices_S8x4224x1x64_S8x4224x1x32_0_0_0_32
def keysTable (B : FVec Ideal S4224x32 .f32) : FVec Ideal S8x4224x1x32 .f32 :=
  broadcastInDim S8x4224x1x32 ![0, 1, 2, 3] bcast_S1x4224x1x32_S8x4224x1x32_0_1_2_3 (broadcastInDim S1x4224x1x32 ![1, 2, 3] bcast_S4224x1x32_S1x4224x1x32_1_2_3 (broadcastInDim S4224x1x32 ![0, 2] bcast_S4224x32_S4224x1x32_0_2 B))

theorem keysRest_at (K : FVec Ideal S8x4224x320 .f32) (s : Fin 8) (n : Fin 4224) (j : Fin 64) :
    keysRest K (ix4 s n 0 j) = K (ix3 s n ⟨256 + j.val, by omega⟩) := by
  pointwise [keysRest]
  try rfl
theorem keysLow_at (R : FVec Ideal S8x4224x1x64 .f32) (s : Fin 8) (n : Fin 4224) (j : Fin 32) :
    keysLow R (ix4 s n 0 j) = R (ix4 s n 0 ⟨j.val, by omega⟩) := by
  pointwise [keysLow]
  try rfl
theorem keysHigh_at (R : FVec Ideal S8x4224x1x64 .f32) (s : Fin 8) (n : Fin 4224) (j : Fin 32) :
    keysHigh R (ix4 s n 0 j) = R (ix4 s n 0 ⟨32 + j.val, by omega⟩) := by
  pointwise [keysHigh]
  try rfl
theorem keysTable_at (B : FVec Ideal S4224x32 .f32) (s : Fin 8) (n : Fin 4224) (j : Fin 32) :
    keysTable B (ix4 s n 0 j) = B (ix2 n j) := by
  pointwise [keysTable]

/-- The rest of the keys, turned, for every head. -/
def keysTurned (R : FVec Ideal S8x4224x1x64 .f32) (A : FVec Ideal S4224x32 .f32) : FVec Ideal S8x4224x16x64 .f32 :=
  broadcastInDim S8x4224x16x64 ![0, 1, 2, 3] bcast_S8x4224x1x64_S8x4224x16x64_0_1_2_3 (concatenate S8x4224x1x64 3
    [⟨S8x4224x1x32, subf (mulf (keysLow R) (keysTable (Host.cos A))) (mulf (keysHigh R) (keysTable (Host.sin A)))⟩,
    ⟨S8x4224x1x32, addf (mulf (keysHigh R) (keysTable (Host.cos A))) (mulf (keysLow R) (keysTable (Host.sin A)))⟩] concatenates_S8x4224x1x32_S8x4224x1x32_S8x4224x1x64_d3)

theorem keysTurned_at (R : FVec Ideal S8x4224x1x64 .f32) (A : FVec Ideal S4224x32 .f32) (s : Fin 8) (n : Fin 4224) (g : Fin 16) (j : Fin 64) :
    keysTurned R A (ix4 s n g j) = Proj.turned 32 (fun k => R (ix4 s n 0 (Fin.ofNat 64 k))) (fun k => A (ix2 n (Fin.ofNat 32 k))) j.val := by
  have key : ∀ (k : Fin 64) (p : ℕ), k.val = p → R (ix4 s n 0 k) = R (ix4 s n 0 (Fin.ofNat 64 p)) := fun k p e =>
    congrArg (fun q => R (ix4 s n 0 q)) (Fin.ext (by simp [Fin.ofNat, ← e, Nat.mod_eq_of_lt k.isLt]))
  have key' : ∀ (k : Fin 32) (p : ℕ), k.val = p → A (ix2 n k) = A (ix2 n (Fin.ofNat 32 p)) := fun k p e =>
    congrArg (fun q => A (ix2 n q)) (Fin.ext (by simp [Fin.ofNat, ← e, Nat.mod_eq_of_lt k.isLt]))
  unfold keysTurned
  generalize hY : subf (mulf (keysLow R) (keysTable (Host.cos A))) (mulf (keysHigh R) (keysTable (Host.sin A))) = Y
  generalize hZ : addf (mulf (keysHigh R) (keysTable (Host.cos A))) (mulf (keysLow R) (keysTable (Host.sin A))) = Z
  have e : (broadcastInDim S8x4224x16x64 ![0, 1, 2, 3] bcast_S8x4224x1x64_S8x4224x16x64_0_1_2_3 (concatenate S8x4224x1x64 3 [⟨S8x4224x1x32, Y⟩, ⟨S8x4224x1x32, Z⟩] concatenates_S8x4224x1x32_S8x4224x1x32_S8x4224x1x64_d3) : FVec Ideal S8x4224x16x64 .f32) (ix4 s n g j)
      = if h : j.val < 32 then Y (ix4 s n 0 ⟨j.val, h⟩) else Z (ix4 s n 0 ⟨j.val - 32, by omega⟩) := by
    pointwise []
    try rfl
  refine e.trans ?_
  unfold Proj.turned
  by_cases h : j.val < 32
  · rw [dif_pos h, if_pos (by omega), ← hY]
    refine (sub_at _ _ _ _ _).trans (congrArg₂ (· - ·)
      (congrArg₂ (· * ·) ((keysLow_at R s n _).trans (key _ _ ?_)) ((keysTable_at (Host.cos A) s n _).trans (congrArg Ideal.cos (key' _ _ ?_))))
      (congrArg₂ (· * ·) ((keysHigh_at R s n _).trans (key _ _ ?_)) ((keysTable_at (Host.sin A) s n _).trans (congrArg Ideal.sin (key' _ _ ?_)))))
    all_goals dsimp only
    all_goals omega
  · rw [dif_neg h, if_neg (by omega), ← hZ]
    refine (add_at _ _ _ _ _).trans (congrArg₂ (· + ·)
      (congrArg₂ (· * ·) ((keysHigh_at R s n _).trans (key _ _ ?_)) ((keysTable_at (Host.cos A) s n _).trans (congrArg Ideal.cos (key' _ _ ?_))))
      (congrArg₂ (· * ·) ((keysLow_at R s n _).trans (key _ _ ?_)) ((keysTable_at (Host.sin A) s n _).trans (congrArg Ideal.sin (key' _ _ ?_)))))
    all_goals dsimp only
    all_goals omega

/-- The plain columns of the keys, and the values, head by head. -/
def keysPlain (Y : FVec Ideal S8x4224x4096 .f32) : FVec Ideal S8x4224x16x128 .f32 :=
  extractStridedSlice S8x4224x16x128 ![0, 0, 0, 0] (shapeCast S8x4224x16x256 Y shapeCasts_S8x4224x4096_S8x4224x16x256) slices_S8x4224x16x256_S8x4224x16x128_0_0_0_0

theorem keysPlain_at (Y : FVec Ideal S8x4224x4096 .f32) (s : Fin 8) (n : Fin 4224) (h : Fin 16) (j : Fin 128) :
    keysPlain Y (ix4 s n h j) = Y (ix3 s n ⟨h.val * 256 + j.val, by omega⟩) := by
  pointwise [keysPlain]
  try rfl

/-- The marks of the rows. -/
def marks : FVec Ideal S8x4224x16x1 .f32 :=
  mulf (broadcastInDim S8x4224x16x1 ![] bcast_S_S8x4224x16x1 (constant S_ .f32 0x3F800000#32)) (broadcastInDim S8x4224x16x1 ![0, 1, 2, 3] bcast_S1x4224x1x1_S8x4224x16x1_0_1_2_3 (broadcastInDim S1x4224x1x1 ![1, 2, 3] bcast_S4224x1x1_S1x4224x1x1_1_2_3 (id (broadcastInDim S4224x1x1 ![0] bcast_S4224_S4224x1x1_0 (select (cmpi .slt (subi (iotaInDim S4224 32 0) (broadcastInDim S4224 ![] bcast_S_S4224 (constantI S_ 32 112#32))) (broadcastInDim S4224 ![] bcast_S_S4224 (constantI S_ 32 0#32))) (broadcastInDim S4224 ![] bcast_S_S4224 (constant S_ .f32 0xF149F2CA#32)) (broadcastInDim S4224 ![] bcast_S_S4224 (constant S_ .f32 0x00000000#32)))))))

theorem marks_at (s : Fin 8) (n : Fin 4224) (g : Fin 16) : marks (ix4 s n g 0) = Proj.mark n.val := by
  unfold marks
  rw [id]
  pointwise [Proj.mark]
  try rfl

/-- The keys, from the latent rows, the widened rows and the angles. -/
def keys (Y : FVec Ideal S8x4224x4096 .f32) (K : FVec Ideal S8x4224x320 .f32) (A : FVec Ideal S4224x32 .f32) : FVec Ideal S8x4224x4096 .bf16 :=
  truncf .bf16 (shapeCast S8x4224x4096 (concatenate S8x4224x16x256 3 [⟨S8x4224x16x128, keysPlain Y⟩, ⟨S8x4224x16x64, keysTurned (keysRest K) A⟩, ⟨S8x4224x16x1, marks⟩, ⟨S8x4224x16x63, zeros⟩] concatenates_S8x4224x16x128_S8x4224x16x64_S8x4224x16x1_S8x4224x16x63_S8x4224x16x256_d3) shapeCasts_S8x4224x16x256_S8x4224x4096) bitsLt_bf16_f32

theorem keys_at (Y : FVec Ideal S8x4224x4096 .f32) (K : FVec Ideal S8x4224x320 .f32) (A : FVec Ideal S4224x32 .f32) (s : Fin 8) (n : Fin 4224) (j : Fin 4096) :
    keys Y K A (ix3 s n j) = Proj.head (Y (ix3 s n (Fin.ofNat 4096 (j.val / 256 * 256 + j.val % 256))))
      (fun k => K (ix3 s n (Fin.ofNat 320 (256 + k % 64)))) (fun k => A (ix2 n (Fin.ofNat 32 k))) (Proj.mark n.val) j.val := by
  have key : ∀ (k : Fin 4096) (p : ℕ), k.val = p → Y (ix3 s n k) = Y (ix3 s n (Fin.ofNat 4096 p)) := fun k p e =>
    congrArg (fun q => Y (ix3 s n q)) (Fin.ext (by simp [Fin.ofNat, ← e, Nat.mod_eq_of_lt k.isLt]))
  have key' : ∀ (k : Fin 320) (p : ℕ), k.val = p → K (ix3 s n k) = K (ix3 s n (Fin.ofNat 320 p)) := fun k p e =>
    congrArg (fun q => K (ix3 s n q)) (Fin.ext (by simp [Fin.ofNat, ← e, Nat.mod_eq_of_lt k.isLt]))
  unfold keys
  refine head_of _ _ _ _ _ _ _ s n j (fun h => (keysPlain_at Y s n _ _).trans (key _ _ rfl)) (fun k => ?_) (marks_at s n _)
  refine (keysTurned_at _ A s n _ k).trans (congrArg (fun P => Proj.turned 32 P (fun k => A (ix2 n (Fin.ofNat 32 k))) k.val) (funext fun p => ?_))
  refine (keysRest_at K s n _).trans (key' _ _ ?_)
  simp only [Fin.ofNat]

/-- The values, from the widened rows. -/
def values (Y : FVec Ideal S8x4224x4096 .f32) : FVec Ideal S8x4224x2048 .bf16 :=
  truncf .bf16 (shapeCast S8x4224x2048 (extractStridedSlice S8x4224x16x128 ![0, 0, 0, 128] (shapeCast S8x4224x16x256 Y shapeCasts_S8x4224x4096_S8x4224x16x256) slices_S8x4224x16x256_S8x4224x16x128_0_0_0_128) shapeCasts_S8x4224x16x128_S8x4224x2048) bitsLt_bf16_f32

theorem values_at (Y : FVec Ideal S8x4224x4096 .f32) (s : Fin 8) (n : Fin 4224) (j : Fin 2048) :
    values Y (ix3 s n j) = Y (ix3 s n ⟨j.val / 128 * 256 + (128 + j.val % 128), by omega⟩) := by
  pointwise [values]
  try rfl

end Cert.Reference9Ideal.Rows

end
-- ==== Proof.Proj.MlaSame.lean ====
/- The latent attention's input projections and the plain ones are the same functions of the arguments. -/
module

public import proofs.«01_k».proof.Proof.Proj.Mla
public import proofs.«01_k».proof.Proof.Proj.MlaPlain

@[expose] public section

set_option maxRecDepth 16384

noncomputable section

open Idealize.ShloMosaic Idealize.ShloMosaic.TcCoe Idealize.SL.Sem

namespace Cert.MlaSame

/-- The plain rows are the kernel's. -/
theorem asked_same (a0 : FVec Ideal Kernel9Ideal.S8x4224x1024 .f32) (a1 : FVec Ideal Kernel9Ideal.S1024x256 .f32) (a2 : FVec Ideal Kernel9Ideal.S256 .f32) (a3 : FVec Ideal Kernel9Ideal.S256x3072 .f32) (s : Fin 8) (n : Fin 4224) (k : ℕ) :
    (Reference9Ideal.Rows.up (Reference9Ideal.Rows.normed (Reference9Ideal.Rows.down a0 a1) a2) a3) (ix3 s n (Fin.ofNat 3072 k)) = Kernel9Ideal.Rows.asked a0 a1 a2 a3 s n k := by
  refine (Reference9Ideal.Rows.up_at _ _ s n _).trans ?_
  refine congrArg (fun z => Ffn.prod z (fun i j => a3 (ix2 i j)) (Fin.ofNat 3072 k)) (funext fun i => ?_)
  refine (Reference9Ideal.Rows.normed_at _ _ s n i).trans ?_
  exact congrArg (fun z => Proj.rms z (fun j => a2 (ix1 j)) i) (funext fun j => Reference9Ideal.Rows.down_at a0 a1 s n j)

theorem kept_same (a0 : FVec Ideal Kernel9Ideal.S8x4224x1024 .f32) (a4 : FVec Ideal Kernel9Ideal.S1024x320 .f32) (a5 : FVec Ideal Kernel9Ideal.S256 .f32) (a6 : FVec Ideal Kernel9Ideal.S256x4096 .f32) (s : Fin 8) (n : Fin 4224) (k : ℕ) :
    (Reference9Ideal.Rows.widened (Reference9Ideal.Rows.normed (Reference9Ideal.Rows.compressed (Reference9Ideal.Rows.latent a0 a4)) a5) a6) (ix3 s n (Fin.ofNat 4096 k)) = Kernel9Ideal.Rows.kept a0 a4 a5 a6 s n k := by
  refine (Reference9Ideal.Rows.widened_at _ _ s n _).trans ?_
  refine congrArg (fun z => Ffn.prod z (fun i j => a6 (ix2 i j)) (Fin.ofNat 4096 k)) (funext fun i => ?_)
  refine (Reference9Ideal.Rows.normed_at _ _ s n i).trans ?_
  exact congrArg (fun z => Proj.rms z (fun j => a5 (ix1 j)) i)
    (funext fun j => (Reference9Ideal.Rows.compressed_at _ s n j).trans (Reference9Ideal.Rows.latent_at a0 a4 s n _))

theorem angle_same (n : Fin 4224) (k : ℕ) (hk : k < 32) : Reference9Ideal.Rows.angles (ix2 n (Fin.ofNat 32 k)) = Kernel9Ideal.Rows.angle n.val k :=
  (Reference9Ideal.Rows.angles_at n _).trans (congrArg (Kernel9Ideal.Rows.angle n.val) (Nat.mod_eq_of_lt hk))

theorem queries_same (a0 : FVec Ideal Kernel9Ideal.S8x4224x1024 .f32) (a1 : FVec Ideal Kernel9Ideal.S1024x256 .f32) (a2 : FVec Ideal Kernel9Ideal.S256 .f32) (a3 : FVec Ideal Kernel9Ideal.S256x3072 .f32) :
    Reference9Ideal.Rows.queries (Reference9Ideal.Rows.up (Reference9Ideal.Rows.normed (Reference9Ideal.Rows.down a0 a1) a2) a3) Reference9Ideal.Rows.angles = Kernel9Ideal.Rows.queries a0 a1 a2 a3 := by
  funext i
  idx_vars i
  refine (Reference9Ideal.Rows.queries_at _ _ i0 i1 i2).trans ?_
  exact Proj.head_congr _ _ _ _ _ _ _ _ _ (fun _ => asked_same a0 a1 a2 a3 i0 i1 _) (fun k _ => asked_same a0 a1 a2 a3 i0 i1 _)
    (fun k hk => angle_same i1 k hk) rfl

theorem keys_same (a0 : FVec Ideal Kernel9Ideal.S8x4224x1024 .f32) (a4 : FVec Ideal Kernel9Ideal.S1024x320 .f32) (a5 : FVec Ideal Kernel9Ideal.S256 .f32) (a6 : FVec Ideal Kernel9Ideal.S256x4096 .f32) :
    Reference9Ideal.Rows.keys (Reference9Ideal.Rows.widened (Reference9Ideal.Rows.normed (Reference9Ideal.Rows.compressed (Reference9Ideal.Rows.latent a0 a4)) a5) a6) (Reference9Ideal.Rows.latent a0 a4) Reference9Ideal.Rows.angles = Kernel9Ideal.Rows.keys a0 a4 a5 a6 := by
  funext i
  idx_vars i
  refine (Reference9Ideal.Rows.keys_at _ _ _ i0 i1 i2).trans ?_
  exact Proj.head_congr _ _ _ _ _ _ _ _ _ (fun _ => kept_same a0 a4 a5 a6 i0 i1 _) (fun k _ => Reference9Ideal.Rows.latent_at a0 a4 i0 i1 _)
    (fun k hk => angle_same i1 k hk) rfl

theorem values_same (a0 : FVec Ideal Kernel9Ideal.S8x4224x1024 .f32) (a4 : FVec Ideal Kernel9Ideal.S1024x320 .f32) (a5 : FVec Ideal Kernel9Ideal.S256 .f32) (a6 : FVec Ideal Kernel9Ideal.S256x4096 .f32) :
    Reference9Ideal.Rows.values (Reference9Ideal.Rows.widened (Reference9Ideal.Rows.normed (Reference9Ideal.Rows.compressed (Reference9Ideal.Rows.latent a0 a4)) a5) a6) = Kernel9Ideal.Rows.values a0 a4 a5 a6 := by
  funext i
  idx_vars i
  refine (Reference9Ideal.Rows.values_at _ i0 i1 i2).trans ?_
  refine Eq.trans ?_ (kept_same a0 a4 a5 a6 i0 i1 _)
  exact congrArg (fun q => (Reference9Ideal.Rows.widened (Reference9Ideal.Rows.normed (Reference9Ideal.Rows.compressed (Reference9Ideal.Rows.latent a0 a4)) a5) a6) (ix3 i0 i1 q)) (Fin.ext (Nat.mod_eq_of_lt (by omega)).symm)

variable (m : (ℓ : Loc Reference9Ideal.nD Reference9Ideal.τ Reference9Ideal.sig) → Buf (Elt Ideal) ℓ) (c : Dev Reference9Ideal.nD)

/-- The plain program's first two results. -/
theorem plain0 : Reference9Ideal.Value.res_main_v132 (F := Ideal) m c
    = Kernel9Ideal.Rows.queries (m ((c.tc : Thread Reference9Ideal.nD Reference9Ideal.τ).loc Reference9Ideal.main_arg0)) (m ((c.tc : Thread Reference9Ideal.nD Reference9Ideal.τ).loc Reference9Ideal.main_arg1)) (m ((c.tc : Thread Reference9Ideal.nD Reference9Ideal.τ).loc Reference9Ideal.main_arg2)) (m ((c.tc : Thread Reference9Ideal.nD Reference9Ideal.τ).loc Reference9Ideal.main_arg3)) := by
  refine Eq.trans ?_ (queries_same _ _ _ _)
  unfold Reference9Ideal.Value.res_main_v132 Reference9Ideal.Rows.queries Reference9Ideal.Rows.queriesTurned Reference9Ideal.Rows.queriesLow Reference9Ideal.Rows.queriesHigh Reference9Ideal.Rows.queriesTable Reference9Ideal.Rows.queriesPlain Reference9Ideal.Rows.queriesRest
    Reference9Ideal.Rows.queriesHeads Reference9Ideal.Rows.ones Reference9Ideal.Rows.zeros Reference9Ideal.Rows.up Reference9Ideal.Rows.normed Reference9Ideal.Rows.down Reference9Ideal.Rows.angles
  rfl

theorem plain1 : Reference9Ideal.Value.res_main_v134 (F := Ideal) m c
    = Kernel9Ideal.Rows.keys (m ((c.tc : Thread Reference9Ideal.nD Reference9Ideal.τ).loc Reference9Ideal.main_arg0)) (m ((c.tc : Thread Reference9Ideal.nD Reference9Ideal.τ).loc Reference9Ideal.main_arg4)) (m ((c.tc : Thread Reference9Ideal.nD Reference9Ideal.τ).loc Reference9Ideal.main_arg5)) (m ((c.tc : Thread Reference9Ideal.nD Reference9Ideal.τ).loc Reference9Ideal.main_arg6)) := by
  refine Eq.trans ?_ (keys_same _ _ _ _)
  unfold Reference9Ideal.Value.res_main_v134 Reference9Ideal.Rows.keys Reference9Ideal.Rows.keysTurned Reference9Ideal.Rows.keysLow Reference9Ideal.Rows.keysHigh Reference9Ideal.Rows.keysTable Reference9Ideal.Rows.keysPlain Reference9Ideal.Rows.keysRest
    Reference9Ideal.Rows.marks Reference9Ideal.Rows.zeros Reference9Ideal.Rows.widened Reference9Ideal.Rows.normed Reference9Ideal.Rows.compressed Reference9Ideal.Rows.latent Reference9Ideal.Rows.angles
  rfl

end Cert.MlaSame

end
-- ==== Proof.Attn.Run.lean ====
/-
  Programs that only load and store, read as functions of what the memrefs hold.

  `Runs … H p f` says: from the memrefs held at a state `σ`, the program `p` goes on with the value `(f σ).1` and the
  memrefs held at the state `(f σ).2`. Loads and stores through unit rectangles run, a sequence of running programs
  runs, and so a whole kernel body is known from one function on states.
-/
module

public import Idealize.ShloMosaic.Lib.Pipeline.FrameBody
public import Idealize.ShloMosaic.Lib.VecWindow
public import Idealize.ShloMosaic.Lib.LaneScatter.Own
public import Idealize.ShloMosaic.Lib.Tactic

@[expose] public section

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix]
variable {Val : EltTy → Type} {Name : Type} [DecidableEq Name] {U : Type} [URA U] {Lvl : Type} [Preorder Lvl] {Λ : Labels}

variable (defs : Defs nD τ sig Val Λ) (𝒱 : Variants) (c : Dev nD) (bd : Option 𝒱.V) (E : Set Name)

/-- From `H σ`, `p` continues at `(f σ).1` with `H (f σ).2`. -/
def Runs {S α : Type} (H : S → sProp (MT nD τ sig Ix Val Name U Lvl)) (p : Prog (TpuEff nD τ sig Val Λ .tc) α) (f : S → α × S) : Prop :=
  ∀ (β : Type) (K : α → Prog (TpuEff nD τ sig Val Λ .tc) β) (Q : β → sProp (MT nD τ sig Ix Val Name U Lvl)) (σ : S),
    H σ ⊢ iprop((H (f σ).2 -∗ wp frame (wpE defs 𝒱 (c : Thread nD τ) bd) E (K (f σ).1) Q)
      -∗ wp frame (wpE defs 𝒱 (c : Thread nD τ) bd) E (p >>= K) Q)

variable {defs 𝒱 c bd E}
variable {S α β : Type} {H : S → sProp (MT nD τ sig Ix Val Name U Lvl)}

theorem Runs.pure (a : α) : Runs defs 𝒱 c bd E H (Pure.pure a) (fun σ => (a, σ)) := by
  intro β K Q σ
  show _ ⊢ iprop(_ -∗ wp frame (wpE defs 𝒱 (c : Thread nD τ) bd) E (K a) Q)
  iintro H HK
  iapply HK
  iexact H

theorem Runs.bind {p : Prog (TpuEff nD τ sig Val Λ .tc) α} {g : α → Prog (TpuEff nD τ sig Val Λ .tc) β}
    {f : S → α × S} {h : α → S → β × S} (hp : Runs defs 𝒱 c bd E H p f) (hg : ∀ a, Runs defs 𝒱 c bd E H (g a) (h a)) :
    Runs defs 𝒱 c bd E H (p >>= g) (fun σ => h (f σ).1 (f σ).2) := by
  intro γ K Q σ
  rw [Prog.bind_assoc]
  iintro H HK
  iapply (hp γ (fun a => g a >>= K) Q σ) $$ H
  iintro H
  iapply (hg _ γ K Q _) $$ H
  iexact HK

/-- Programs equal, and functions equal at every state: the same statement. -/
theorem Runs.of_eq {p p' : Prog (TpuEff nD τ sig Val Λ .tc) α} {f f' : S → α × S} (hp : Runs defs 𝒱 c bd E H p f)
    (e : p' = p) (ef : ∀ σ, f σ = f' σ) : Runs defs 𝒱 c bd E H p' f' := by
  rw [e, ← funext ef]; exact hp

/-- A statement's run as a run to its end. -/
theorem Runs.wp {p : Prog (TpuEff nD τ sig Val Λ .tc) α} {f : S → α × S} (hp : Runs defs 𝒱 c bd E H p f) (σ : S) (Q : α → sProp (MT nD τ sig Ix Val Name U Lvl)) :
    iprop(H σ ∗ (H (f σ).2 -∗ Q (f σ).1)) ⊢ Idealize.SL.Sem.wp frame (wpE defs 𝒱 (c : Thread nD τ) bd) E p Q := by
  have h := hp α (fun a => Pure.pure a) Q σ
  rw [Prog.bind_pure] at h
  iintro ⟨H, HQ⟩
  iapply h $$ H
  iintro H
  ihave HQ := HQ $$ H
  iapply (le_wp_ret _ _ _ (f σ).1 Q) $$ HQ

/-- The state holds memref `M` at the field `get`, and takes it back at any contents in the field's place. -/
def Holds {sh : Shape} {e : EltTy} (H : S → sProp (MT nD τ sig Ix Val Name U Lvl)) (c : Dev nD) (M : Memref sig .tc .vmem sh e)
    (get : S → sh.Idx → Val e) (set : S → (sh.Idx → Val e) → S) : Prop :=
  (∀ σ, set σ (get σ) = σ) ∧
  ∀ σ, H σ ⊢ iprop(owns (c : Thread nD τ) M fullShare (get σ) ∗ (∀ y, owns (c : Thread nD τ) M fullShare y -∗ H (set σ y)))

variable {sh : Shape} {e : EltTy} {M : Memref sig .tc .vmem sh e} {get : S → sh.Idx → Val e} {set : S → (sh.Idx → Val e) → S}

/-- A load through a unit rectangle reads the window, and leaves the state. -/
theorem Runs.load (hM : Holds H c M get set) (off size : Fin sh.rank → ℕ) (inb : ∀ a, off a + size a ≤ sh.size a)
    (hl : M.view.LoadsAt (Rect.unit off size inb).toLoadRect) :
    Runs defs 𝒱 c bd E H (Prog.lift (.load M (Rect.unit off size inb).toLoadRect hl))
      (fun σ => (VecWindow.window (get σ) off size inb, σ)) := by
  intro β K Q σ
  rw [Prog.bind_lift]
  iintro H HK
  ihave H := (hM.2 σ) $$ H
  unfold owns
  icases H with ⟨⟨%g, %hg, H⟩, HB⟩
  iapply (wp_load (defs := defs) 𝒱 (c : Thread nD τ) bd E (m := M) (View.setOn_subset_set _ _)) $$ H
  iintro H
  have e1 : M.view.readAt Val (Rect.unit off size inb).toLoadRect g = VecWindow.window (get σ) off size inb := by
    rw [← hg]; rfl
  rw [e1]
  iapply HK
  have e2 := hM.1 σ
  rw [show H σ = H (set σ (get σ)) by rw [e2]]
  iapply HB
  iexists g
  isplitr; · ipureintro; exact hg
  iexact H

/-- A store through a unit rectangle puts its payload there, and leaves the rest. -/
theorem Runs.store (hM : Holds H c M get set) (off size : Fin sh.rank → ℕ) (inb : ∀ a, off a + size a ≤ sh.size a)
    (w : (Rect.unit off size inb).shape.Idx → Val e)
    (hx : (M.access (Rect.unit off size inb)).Stores Finset.univ) (hm : Finset.univ = Finset.univ ∨ ∀ a, (Rect.unit off size inb).stride a = 1) :
    Runs defs 𝒱 c bd E H (Prog.lift (.store M (Rect.unit off size inb) w Finset.univ hx hm))
      (fun σ => (⟨⟩, set σ (VecWindow.put (get σ) off size w))) := by
  intro β K Q σ
  rw [Prog.bind_lift]
  iintro H HK
  ihave H := (hM.2 σ) $$ H
  unfold owns
  icases H with ⟨⟨%g, %hg, H⟩, HB⟩
  iapply (wp_store_writes₀ (defs := defs) 𝒱 (c : Thread nD τ) bd E (m := M) (f := g) (View.set_slice_subset _ _)) $$ H
  iintro H
  iapply HK
  iapply HB
  iexists _
  isplitr; swap; · iexact H
  ipureintro
  rw [View.read_writes_cons_put _ _ _ _ _ rfl, View.writes_nil, hg]

end Attn

end
-- ==== Proof.Attn.Stages.lean ====
/-
  The stages of the pipelined attention kernel: scores of a tile of queries with a tile of keys, the running maximum and
  the weights, and the weighted sum of values. Each stage is written once over any model of the floats, with the
  memrefs, the cells and the row offsets as arguments, and shown to run as a function of what the memrefs hold.
-/
module

public import proofs.«01_k».proof.Proof.Attn.Run

@[expose] public section

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Shapes -/

abbrev Sqk : Shape := ⟨3, ![1, 4224, 256]⟩
abbrev Svo : Shape := ⟨3, ![1, 4224, 128]⟩
abbrev Ss : Shape := ⟨4, ![2, 2, 384, 1408]⟩
abbrev Sc : Shape := ⟨4, ![2, 2, 384, 128]⟩
abbrev Sr : Shape := ⟨2, ![384, 128]⟩
abbrev Sq1 : Shape := ⟨3, ![1, 384, 256]⟩
abbrev Sk1 : Shape := ⟨3, ![1, 1408, 256]⟩
abbrev Sv1 : Shape := ⟨3, ![1, 1408, 128]⟩
abbrev So1 : Shape := ⟨3, ![1, 384, 128]⟩
abbrev Sq2 : Shape := ⟨2, ![384, 256]⟩
abbrev Sk2 : Shape := ⟨2, ![1408, 256]⟩
abbrev Sv2 : Shape := ⟨2, ![1408, 128]⟩
abbrev Sx : Shape := ⟨2, ![384, 1408]⟩
abbrev Sx1 : Shape := ⟨4, ![1, 1, 384, 1408]⟩
abbrev Sr1 : Shape := ⟨4, ![1, 1, 384, 128]⟩
abbrev Se : Shape := ⟨1, ![384]⟩
abbrev Se1 : Shape := ⟨2, ![384, 1]⟩

theorem cells_wide : ∀ a b : Fin 2, ∀ i, (![a.val, b.val, 0, 0] : Fin 4 → ℕ) i + Sx1.size i ≤ Ss.size i := by decide
theorem cells_lane : ∀ a b : Fin 2, ∀ j : Fin 11, ∀ i, (![a.val, b.val, 0, 128 * j.val] : Fin 4 → ℕ) i + Sr1.size i ≤ Ss.size i := by decide
theorem cells_row : ∀ a b : Fin 2, ∀ i, (![a.val, b.val, 0, 0] : Fin 4 → ℕ) i + Sr1.size i ≤ Sc.size i := by decide
theorem whole_row : ∀ i, (![0, 0] : Fin 2 → ℕ) i + Sr.size i ≤ Sr.size i := by decide
theorem lane_packed : ∀ a b : Fin 2, ∀ j : Fin 11,
    (Rect.unit (s := Ss) ![a.val, b.val, 0, 128 * j.val] Sr1.size (cells_lane a b j)).PackedRows (EltTy.packing .bf16) := by decide

theorem dot_qk_wf : DotDims.WF Sq2 Sk2 Sx [1] [1] [0] [0] [] [] := by decide
theorem dot_pv_wf : DotDims.WF Sx Sv2 Sr [1] [0] [0] [1] [] [] := by decide

def dotQK : DotDims Sq2 Sk2 Sx where
  lhsContracting := [1]
  rhsContracting := [1]
  lhsNonContracting := [0]
  rhsNonContracting := [0]
  lhsBatch := []
  rhsBatch := []
  wf := dot_qk_wf

def dotPV : DotDims Sx Sv2 Sr where
  lhsContracting := [1]
  rhsContracting := [0]
  lhsNonContracting := [0]
  rhsNonContracting := [1]
  lhsBatch := []
  rhsBatch := []
  wf := dot_pv_wf

theorem pos_Sr : 0 < Sr.numel := by decide
theorem pos_Sr1 : 0 < Sr1.numel := by decide
theorem pos_Sx1 : 0 < Sx1.numel := by decide
theorem pos_Sq1 : 0 < Sq1.numel := by decide
theorem pos_Sk1 : 0 < Sk1.numel := by decide
theorem pos_Sv1 : 0 < Sv1.numel := by decide
theorem pos_So1 : 0 < So1.numel := by decide
theorem cast_Sr_Sr : Sr.ShapeCasts Sr := by decide
theorem cast_Sr1_Sr : Sr1.ShapeCasts Sr := by decide
theorem cast_Sr_Sr1 : Sr.ShapeCasts Sr1 := by decide
theorem cast_Sx_Sx1 : Sx.ShapeCasts Sx1 := by decide
theorem cast_Sx1_Sx : Sx1.ShapeCasts Sx := by decide
theorem cast_Sr_So1 : Sr.ShapeCasts So1 := by decide
theorem bits_lt : FTy.bits .bf16 < FTy.bits .f32 := by decide

/-! ## The values -/

variable {F : FTy → Type} [FloatOps F]

/-- The scores of a tile of queries with a tile of keys. -/
def scores (q : FVec F Sq1 .bf16) (k : FVec F Sk1 .bf16) : FVec F Sx .f32 :=
  matmul dotQK none (shapeCast Sq2 q (by decide)) (shapeCast Sk2 k (by decide)) (constant Sx .f32 0x00000000#32)

/-- A tile of scores, lane block by lane block. -/
structure Lanes (F : FTy → Type) where
  (x0 x1 x2 x3 x4 x5 x6 x7 x8 x9 x10 : FVec F Sr .f32)

def Lanes.map (f : FVec F Sr .f32 → FVec F Sr .f32) (x : Lanes F) : Lanes F :=
  ⟨f x.x0, f x.x1, f x.x2, f x.x3, f x.x4, f x.x5, f x.x6, f x.x7, f x.x8, f x.x9, f x.x10⟩

def Lanes.fold (f : FVec F Sr .f32 → FVec F Sr .f32 → FVec F Sr .f32) (x : Lanes F) : FVec F Sr .f32 :=
  f (f (f (f (f (f (f (f (f (f x.x0 x.x1) x.x2) x.x3) x.x4) x.x5) x.x6) x.x7) x.x8) x.x9) x.x10

def Lanes.at (x : Lanes F) : Fin 11 → FVec F Sr .f32 := ![x.x0, x.x1, x.x2, x.x3, x.x4, x.x5, x.x6, x.x7, x.x8, x.x9, x.x10]

/-- The maximum a tile begins with: minus infinity at the first tile of keys. -/
def oldMax (first : BitVec 1) (m : FVec F Sr .f32) : FVec F Sr .f32 :=
  Scalar.select first (broadcast Sr (Scalar.ofBits .f32 0xFF800000#32)) m

/-- The running maximum with a tile's scores. -/
def newMax (m : FVec F Sr .f32) (x : Lanes F) : FVec F Sr .f32 :=
  maximumf m (broadcastTo Sr (shapeCast Se1 (multiReduction .maximumf [1] Se (x.fold maximumf) 0xFF800000#32 (by decide) (.inl rfl) rfl) (by decide))
    (by decide))

/-- The power of two of a scaled difference. -/
def weigh (cst : F .f32) (m y : FVec F Sr .f32) : FVec F Sr .f32 := exp2 (mulf (subf y m) (broadcast Sr cst))

/-- The running sums of the weights, lane by lane. -/
def newSum (al l : FVec F Sr .f32) (p : Lanes F) : FVec F Sr .f32 := addf (mulf al l) (p.fold addf)

/-- One over the sum of the weights. -/
def recip (l : FVec F Sr .f32) : FVec F Sr .f32 :=
  broadcastTo Sr (shapeCast Se1 (divf (broadcast Se1 (Scalar.ofBits .f32 0x3F800000#32))
    (shapeCast Se1 (multiReduction .add [1] Se l 0x00000000#32 (by decide) (.inl rfl) rfl) (by decide))) (by decide)) (by decide)

/-- The running sum of the weighted values. -/
def newAcc (al acc : FVec F Sr .f32) (p : FVec F Sx .bf16) (v : FVec F Sv1 .bf16) : FVec F Sr .f32 :=
  addf (mulf al acc) (matmul dotPV none p (shapeCast Sv2 v (by decide)) (constant Sr .f32 0x00000000#32))

/-! ## The programs -/

variable {nD : ℕ} {τ : Topo} {sig : RefSig} {Λ : Labels}

/-- The kernel's memrefs: queries, keys, values, output, scores, weights, rescalings, reciprocals, and the running
    maximum, sum and weighted sum. -/
structure Mems (sig : RefSig) where
  (q : Memref sig .tc .vmem Sqk .bf16) (k : Memref sig .tc .vmem Sqk .bf16) (v : Memref sig .tc .vmem Svo .bf16)
  (o : Memref sig .tc .vmem Svo .bf16) (s : Memref sig .tc .vmem Ss .f32) (p : Memref sig .tc .vmem Ss .bf16)
  (al : Memref sig .tc .vmem Sc .f32) (li : Memref sig .tc .vmem Sc .f32)
  (m : Memref sig .tc .vmem Sr .f32) (l : Memref sig .tc .vmem Sr .f32) (acc : Memref sig .tc .vmem Sr .f32)
  (ho : o.IsWhole) (hp : p.IsWhole)

variable (M : Mems sig)

/-- A running row block is loaded. -/
def loadRow (m : Memref sig .tc .vmem Sr .f32) : Prog (TpuEff nD τ sig (Elt F) Λ .tc) (Vec F Sr .f32) :=
  Prog.lift (.load m (Rect.unit (s := Sr) ![0, 0] Sr.size whole_row).toLoadRect (View.loadsAt_vmem pos_Sr))

/-- A running row block is stored. -/
def storeRow (m : Memref sig .tc .vmem Sr .f32) (x : FVec F Sr .f32) : Prog (TpuEff nD τ sig (Elt F) Λ .tc) PUnit := do
  let _ ← loadRow m
  Prog.lift (.store m (Rect.unit (s := Sr) ![0, 0] Sr.size whole_row) (shapeCast Sr x cast_Sr_Sr) Finset.univ (View.stores_vmem_bits_univ pos_Sr rfl) (.inl rfl))

/-- A cell of row blocks is loaded. -/
def loadCell (m : Memref sig .tc .vmem Sc .f32) (a b : Fin 2) : Prog (TpuEff nD τ sig (Elt F) Λ .tc) (FVec F Sr .f32) := do
  let x : Vec F Sr1 .f32 ← Prog.lift (.load m (Rect.unit (s := Sc) ![a.val, b.val, 0, 0] Sr1.size (cells_row a b)).toLoadRect (View.loadsAt_vmem pos_Sr1))
  pure (shapeCast Sr x cast_Sr1_Sr)

/-- A cell of row blocks is stored. -/
def storeCell (m : Memref sig .tc .vmem Sc .f32) (a b : Fin 2) (x : FVec F Sr .f32) : Prog (TpuEff nD τ sig (Elt F) Λ .tc) PUnit := do
  let _ ← (loadCell m a b : Prog (TpuEff nD τ sig (Elt F) Λ .tc) (FVec F Sr .f32))
  Prog.lift (.store m (Rect.unit (s := Sc) ![a.val, b.val, 0, 0] Sr1.size (cells_row a b)) (shapeCast Sr1 x cast_Sr_Sr1) Finset.univ
    (View.stores_vmem_bits_univ pos_Sr1 rfl) (.inl rfl))

/-- A lane block of a cell of scores is loaded. -/
def loadLane (m : Memref sig .tc .vmem Ss .f32) (a b : Fin 2) (j : Fin 11) : Prog (TpuEff nD τ sig (Elt F) Λ .tc) (FVec F Sr .f32) := do
  let x : Vec F Sr1 .f32 ← Prog.lift (.load m (Rect.unit (s := Ss) ![a.val, b.val, 0, 128 * j.val] Sr1.size (cells_lane a b j)).toLoadRect (View.loadsAt_vmem pos_Sr1))
  pure (shapeCast Sr x cast_Sr1_Sr)

/-- A lane block of a cell of weights is stored. -/
def storeLane (m : Memref sig .tc .vmem Ss .bf16) (hm : m.IsWhole) (a b : Fin 2) (j : Fin 11) (x : FVec F Sr .f32) : Prog (TpuEff nD τ sig (Elt F) Λ .tc) PUnit := do
  let _ ← (Prog.lift (.load m (Rect.unit (s := Ss) ![a.val, b.val, 0, 128 * j.val] Sr1.size (cells_lane a b j)).toLoadRect (View.loadsAt_vmem pos_Sr1)) :
    Prog (TpuEff nD τ sig (Elt F) Λ .tc) (Vec F Sr1 .bf16))
  Prog.lift (.store m (Rect.unit (s := Ss) ![a.val, b.val, 0, 128 * j.val] Sr1.size (cells_lane a b j))
    (shapeCast Sr1 (truncf .bf16 x bits_lt) cast_Sr_Sr1) Finset.univ
    (View.stores_vmem pos_Sr1 (hm.storeExact_slice rfl _ (lane_packed a b j)) (fun _ => rfl)) (.inl rfl))

/-- The running blocks begin. -/
def start : Prog (TpuEff nD τ sig (Elt F) Λ .tc) PUnit := do
  storeRow M.m (broadcast Sr (Scalar.ofBits .f32 0xFF800000#32))
  storeRow M.l (broadcast Sr (Scalar.ofBits .f32 0x00000000#32))
  storeRow M.acc (broadcast Sr (Scalar.ofBits .f32 0x00000000#32))

/-- Stage A's scores. -/
def stageA1 (offq offk : Fin 3 → ℕ) (hq : ∀ i, offq i + Sq1.size i ≤ Sqk.size i) (hk : ∀ i, offk i + Sk1.size i ≤ Sqk.size i) :
    Prog (TpuEff nD τ sig (Elt F) Λ .tc) (FVec F Sx .f32) := do
  let q : Vec F Sq1 .bf16 ← Prog.lift (.load M.q (Rect.unit (s := Sqk) offq Sq1.size hq).toLoadRect (View.loadsAt_vmem pos_Sq1))
  let k : Vec F Sk1 .bf16 ← Prog.lift (.load M.k (Rect.unit (s := Sqk) offk Sk1.size hk).toLoadRect (View.loadsAt_vmem pos_Sk1))
  pure (scores q k)

/-- Stage A's store. -/
def stageA2 (a b : Fin 2) (x : FVec F Sx .f32) : Prog (TpuEff nD τ sig (Elt F) Λ .tc) PUnit := do
  let _ ← (Prog.lift (.load M.s (Rect.unit (s := Ss) ![a.val, b.val, 0, 0] Sx1.size (cells_wide a b)).toLoadRect (View.loadsAt_vmem pos_Sx1)) :
    Prog (TpuEff nD τ sig (Elt F) Λ .tc) (Vec F Sx1 .f32))
  Prog.lift (.store M.s (Rect.unit (s := Ss) ![a.val, b.val, 0, 0] Sx1.size (cells_wide a b)) (shapeCast Sx1 x cast_Sx_Sx1) Finset.univ
    (View.stores_vmem_bits_univ pos_Sx1 rfl) (.inl rfl))

/-- Stage A: the scores of a tile. -/
def stageA (a b : Fin 2) (offq offk : Fin 3 → ℕ) (hq : ∀ i, offq i + Sq1.size i ≤ Sqk.size i) (hk : ∀ i, offk i + Sk1.size i ≤ Sqk.size i) :
    Prog (TpuEff nD τ sig (Elt F) Λ .tc) PUnit :=
  stageA1 M offq offk hq hk >>= stageA2 M a b

/-- The lane blocks of a cell of scores. -/
def loadLanes (a b : Fin 2) : Prog (TpuEff nD τ sig (Elt F) Λ .tc) (Lanes F) := do
  let x0 ← loadLane M.s a b 0
  let x1 ← loadLane M.s a b 1
  let x2 ← loadLane M.s a b 2
  let x3 ← loadLane M.s a b 3
  let x4 ← loadLane M.s a b 4
  let x5 ← loadLane M.s a b 5
  let x6 ← loadLane M.s a b 6
  let x7 ← loadLane M.s a b 7
  let x8 ← loadLane M.s a b 8
  let x9 ← loadLane M.s a b 9
  let x10 ← loadLane M.s a b 10
  pure ⟨x0, x1, x2, x3, x4, x5, x6, x7, x8, x9, x10⟩

/-- The weights are stored. -/
def storeLanes (a b : Fin 2) (p : Lanes F) : Prog (TpuEff nD τ sig (Elt F) Λ .tc) PUnit := do
  storeLane M.p M.hp a b 0 p.x0
  storeLane M.p M.hp a b 1 p.x1
  storeLane M.p M.hp a b 2 p.x2
  storeLane M.p M.hp a b 3 p.x3
  storeLane M.p M.hp a b 4 p.x4
  storeLane M.p M.hp a b 5 p.x5
  storeLane M.p M.hp a b 6 p.x6
  storeLane M.p M.hp a b 7 p.x7
  storeLane M.p M.hp a b 8 p.x8
  storeLane M.p M.hp a b 9 p.x9
  storeLane M.p M.hp a b 10 p.x10

/-- Stage B: the running maximum, the rescaling, the weights and their sum. -/
def stageB (cst : F .f32) (a b : Fin 2) (first : BitVec 1) : Prog (TpuEff nD τ sig (Elt F) Λ .tc) PUnit := do
  let m ← loadRow M.m
  let x ← loadLanes M a b
  let m' := oldMax first m
  let n := newMax m' x
  let al := weigh cst n m'
  let p := x.map (weigh cst n)
  let l ← loadRow M.l
  let l' := newSum al l p
  storeRow M.l l'
  storeRow M.m n
  storeCell M.al a b al
  storeCell M.li a b (recip l')
  storeLanes M a b p

/-- Stage C's running sum of weighted values. -/
def stageC1 (a b : Fin 2) (offv : Fin 3 → ℕ) (hv : ∀ i, offv i + Sv1.size i ≤ Svo.size i) :
    Prog (TpuEff nD τ sig (Elt F) Λ .tc) (FVec F Sr .f32) := do
  let al ← loadCell M.al a b
  let acc ← loadRow M.acc
  let p : Vec F Sx1 .bf16 ← Prog.lift (.load M.p (Rect.unit (s := Ss) ![a.val, b.val, 0, 0] Sx1.size (cells_wide a b)).toLoadRect (View.loadsAt_vmem pos_Sx1))
  let v : Vec F Sv1 .bf16 ← Prog.lift (.load M.v (Rect.unit (s := Svo) offv Sv1.size hv).toLoadRect (View.loadsAt_vmem pos_Sv1))
  let _ ← (loadRow M.acc : Prog (TpuEff nD τ sig (Elt F) Λ .tc) (Vec F Sr .f32))
  pure (newAcc al acc (shapeCast Sx p cast_Sx1_Sx) v)

/-- Stage C's stores: the running sum, and the tile's output. -/
def stageC2 (a b : Fin 2) (offo : Fin 3 → ℕ) (ho : ∀ i, offo i + So1.size i ≤ Svo.size i)
    (po : (Rect.unit (s := Svo) offo So1.size ho).PackedRows (EltTy.packing .bf16)) (acc : FVec F Sr .f32) :
    Prog (TpuEff nD τ sig (Elt F) Λ .tc) PUnit := do
  Prog.lift (.store M.acc (Rect.unit (s := Sr) ![0, 0] Sr.size whole_row) (shapeCast Sr acc cast_Sr_Sr) Finset.univ
    (View.stores_vmem_bits_univ pos_Sr rfl) (.inl rfl))
  let li ← loadCell M.li a b
  let _ ← (Prog.lift (.load M.o (Rect.unit (s := Svo) offo So1.size ho).toLoadRect (View.loadsAt_vmem pos_So1)) :
    Prog (TpuEff nD τ sig (Elt F) Λ .tc) (Vec F So1 .bf16))
  Prog.lift (.store M.o (Rect.unit (s := Svo) offo So1.size ho) (shapeCast So1 (truncf .bf16 (mulf acc li) bits_lt) cast_Sr_So1) Finset.univ
    (View.stores_vmem pos_So1 (M.ho.storeExact_slice rfl _ po) (fun _ => rfl)) (.inl rfl))

/-- Stage C: the weighted values, and the tile's output. -/
def stageC (a b : Fin 2) (offv offo : Fin 3 → ℕ) (hv : ∀ i, offv i + Sv1.size i ≤ Svo.size i) (ho : ∀ i, offo i + So1.size i ≤ Svo.size i)
    (po : (Rect.unit (s := Svo) offo So1.size ho).PackedRows (EltTy.packing .bf16)) : Prog (TpuEff nD τ sig (Elt F) Λ .tc) PUnit :=
  stageC1 M a b offv hv >>= stageC2 M a b offo ho po

theorem inb_q : ∀ u : Fin 33, ∀ i, (![0, 384 * (u.val / 3), 0] : Fin 3 → ℕ) i + Sq1.size i ≤ Sqk.size i := by decide
theorem inb_k : ∀ u : Fin 33, ∀ i, (![0, 1408 * (u.val % 3), 0] : Fin 3 → ℕ) i + Sk1.size i ≤ Sqk.size i := by decide
theorem inb_v : ∀ u : Fin 33, ∀ i, (![0, 1408 * (u.val % 3), 0] : Fin 3 → ℕ) i + Sv1.size i ≤ Svo.size i := by decide
theorem inb_o : ∀ u : Fin 33, ∀ i, (![0, 384 * (u.val / 3), 0] : Fin 3 → ℕ) i + So1.size i ≤ Svo.size i := by decide
theorem packed_o : ∀ u : Fin 33, (Rect.unit (s := Svo) ![0, 384 * (u.val / 3), 0] So1.size (inb_o u)).PackedRows (EltTy.packing .bf16) := by decide

/-- Stage A of an item: three tiles of keys to a tile of queries. -/
def itemA (a b : Fin 2) (u : Fin 33) : Prog (TpuEff nD τ sig (Elt F) Λ .tc) PUnit :=
  stageA M a b ![0, 384 * (u.val / 3), 0] ![0, 1408 * (u.val % 3), 0] (inb_q u) (inb_k u)

/-- Stage C of an item. -/
def itemC (a b : Fin 2) (u : Fin 33) : Prog (TpuEff nD τ sig (Elt F) Λ .tc) PUnit :=
  stageC M a b ![0, 1408 * (u.val % 3), 0] ![0, 384 * (u.val / 3), 0] (inb_v u) (inb_o u) (packed_o u)

/-- The rounds before the loop. -/
def before (cst : F .f32) : Prog (TpuEff nD τ sig (Elt F) Λ .tc) PUnit := do
  start M
  itemA M 0 0 0
  itemA M 0 1 1
  itemA M 1 0 2
  stageB M cst 0 0 1#1
  itemA M 1 1 3
  stageB M cst 0 1 0#1

/-- The rounds after the loop, between the last item's scores and its output. -/
def middle (cst : F .f32) (x : FVec F Sx .f32) : Prog (TpuEff nD τ sig (Elt F) Λ .tc) (FVec F Sr .f32) := do
  stageA2 M 0 0 x
  stageB M cst 1 0 1#1
  itemC M 0 0 28
  stageB M cst 1 1 0#1
  itemC M 0 1 29
  stageB M cst 0 0 0#1
  itemC M 1 0 30
  itemC M 1 1 31
  stageC1 M 0 0 ![0, 1408 * ((32 : Fin 33).val % 3), 0] (inb_v 32)

/-- The whole body, about a loop given as a program. -/
def body (cst : F .f32) (loop : Prog (TpuEff nD τ sig (Elt F) Λ .tc) PUnit) : Prog (TpuEff nD τ sig (Elt F) Λ .tc) PUnit :=
  ((do before M cst
       let _ ← loop
       stageA1 M ![0, 384 * ((32 : Fin 33).val / 3), 0] ![0, 1408 * ((32 : Fin 33).val % 3), 0] (inb_q 32) (inb_k 32)) >>= middle M cst) >>=
    stageC2 M 0 0 ![0, 384 * ((32 : Fin 33).val / 3), 0] (inb_o 32) (packed_o 32)

/-- A round of the loop: two items through the three stages, at cells chosen by the round's parity. -/
def round (cst : F .f32) (a a' : Fin 2) (offq offk offv offo : Fin 2 → Fin 3 → ℕ) (first : Fin 2 → BitVec 1)
    (hq : ∀ b, ∀ i, offq b i + Sq1.size i ≤ Sqk.size i) (hk : ∀ b, ∀ i, offk b i + Sk1.size i ≤ Sqk.size i)
    (hv : ∀ b, ∀ i, offv b i + Sv1.size i ≤ Svo.size i) (ho : ∀ b, ∀ i, offo b i + So1.size i ≤ Svo.size i)
    (po : ∀ b, (Rect.unit (s := Svo) (offo b) So1.size (ho b)).PackedRows (EltTy.packing .bf16)) : Prog (TpuEff nD τ sig (Elt F) Λ .tc) PUnit := do
  stageA M a 0 (offq 0) (offk 0) (hq 0) (hk 0)
  stageB M cst a' 0 (first 0)
  stageC M a 0 (offv 0) (offo 0) (hv 0) (ho 0) (po 0)
  stageA M a 1 (offq 1) (offk 1) (hq 1) (hk 1)
  stageB M cst a' 1 (first 1)
  stageC M a 1 (offv 1) (offo 1) (hv 1) (ho 1) (po 1)

end Attn

end
-- ==== Proof.Attn.Cells.lean ====
/-
  The cells of the kernel's buffers: two by two cells, each a tile, and the lane blocks of a cell.
-/
module

public import proofs.«01_k».proof.Proof.Attn.Stages
public import Idealize.ShloMosaic.Lib.Pointwise
public import Idealize.ShloMosaic.Lib.Pipeline.Value

@[expose] public section

noncomputable section

namespace Attn

open Idealize.ShloMosaic Idealize.ShloMosaic.TcCoe Idealize.ShloMosaic.Tactic
open VecWindow

variable {α : Type}

theorem cast_id {s : Shape} (x : s.Idx → α) (h : s.ShapeCasts s) : shapeCast s x h = x := shapeCast_self x h

theorem cast_cast {s t : Shape} (x : s.Idx → α) (h : s.ShapeCasts t) (h' : t.ShapeCasts s) : shapeCast s (shapeCast t x h) h' = x :=
  funext fun j => congrArg x ((Shape.reshapeEquiv_reshapeEquiv h h' j).trans (Shape.reshapeEquiv_self _ j))

/-! ## Whole rows -/

theorem window_row (x : Sr.Idx → α) (h) : window x ![0, 0] Sr.size h = x := by
  funext i
  exact congrArg x (funext fun a => Fin.ext (by fin_cases a <;> simp [Rect.unit, Rect.emb]))

theorem put_row (x w : Sr.Idx → α) : put x ![0, 0] Sr.size w = w := by
  have h := window_put_same x ![0, 0] Sr.size whole_row w
  rwa [window_row] at h

/-! ## Cells of row blocks -/

/-- A cell of row blocks. -/
def cellR (y : Sc.Idx → α) (a b : Fin 2) : Sr.Idx → α := shapeCast Sr (window y ![a.val, b.val, 0, 0] Sr1.size (cells_row a b)) cast_Sr1_Sr

/-- A cell of row blocks, written. -/
def putR (y : Sc.Idx → α) (a b : Fin 2) (x : Sr.Idx → α) : Sc.Idx → α := put y ![a.val, b.val, 0, 0] Sr1.size (shapeCast Sr1 x cast_Sr_Sr1)

theorem cellR_same (y : Sc.Idx → α) (a b : Fin 2) (x : Sr.Idx → α) : cellR (putR y a b x) a b = x := by
  unfold cellR putR
  rw [window_put_same]
  exact cast_cast x _ _

theorem cellR_other (y : Sc.Idx → α) (a b a' b' : Fin 2) (x : Sr.Idx → α) (h : a ≠ a' ∨ b ≠ b') : cellR (putR y a b x) a' b' = cellR y a' b' := by
  unfold cellR putR
  congr 1
  rcases h with h | h
  · exact window_put_of_disjoint _ _ _ _ _ _ _ 0 (by have := fun e => h (Fin.ext e); simp; omega)
  · exact window_put_of_disjoint _ _ _ _ _ _ _ 1 (by have := fun e => h (Fin.ext e); simp; omega)

/-! ## Cells of wide tiles -/

/-- A cell of wide tiles. -/
def cellX (y : Ss.Idx → α) (a b : Fin 2) : Sx.Idx → α := shapeCast Sx (window y ![a.val, b.val, 0, 0] Sx1.size (cells_wide a b)) cast_Sx1_Sx

/-- A cell of wide tiles, written. -/
def putX (y : Ss.Idx → α) (a b : Fin 2) (x : Sx.Idx → α) : Ss.Idx → α := put y ![a.val, b.val, 0, 0] Sx1.size (shapeCast Sx1 x cast_Sx_Sx1)

theorem cellX_same (y : Ss.Idx → α) (a b : Fin 2) (x : Sx.Idx → α) : cellX (putX y a b x) a b = x := by
  unfold cellX putX
  rw [window_put_same]
  exact cast_cast x _ _

theorem cellX_other (y : Ss.Idx → α) (a b a' b' : Fin 2) (x : Sx.Idx → α) (h : a ≠ a' ∨ b ≠ b') : cellX (putX y a b x) a' b' = cellX y a' b' := by
  unfold cellX putX
  congr 1
  rcases h with h | h
  · exact window_put_of_disjoint _ _ _ _ _ _ _ 0 (by have := fun e => h (Fin.ext e); simp; omega)
  · exact window_put_of_disjoint _ _ _ _ _ _ _ 1 (by have := fun e => h (Fin.ext e); simp; omega)

/-- A cell at an index. -/
theorem cellX_at (y : Ss.Idx → α) (a b : Fin 2) (i : Sx.Idx) : cellX y a b i = y (ix4 a b (i 0) (i 1)) := by
  unfold cellX
  refine (shapeCast_apply _ _ i (ix4 0 0 (i 0) (i 1)) ?_).trans ?_
  · rw [Shape.rowMajor_val_four, Shape.rowMajor_val_two]
    simp [ix4]
  · exact congrArg y (funext fun c => Fin.ext (by fin_cases c <;> simp [Rect.unit, Rect.emb, ix4]))

/-- A lane block of a wide tile. -/
def lane (x : Sx.Idx → α) (j : Fin 11) : Sr.Idx → α := fun i =>
  x (ix2 (n0 := 384) (n1 := 1408) (i 0) ⟨128 * j.val + (i 1).val, by have : (i 1).val < 128 := (i 1).isLt; omega⟩)

theorem read_lane (y : Ss.Idx → α) (a b : Fin 2) (j : Fin 11) :
    shapeCast Sr (window y ![a.val, b.val, 0, 128 * j.val] Sr1.size (cells_lane a b j)) cast_Sr1_Sr = lane (cellX y a b) j := by
  funext i
  unfold lane
  refine Eq.trans ?_ (cellX_at _ _ _ _).symm
  refine (shapeCast_apply _ _ i (ix4 0 0 (i 0) (i 1)) ?_).trans ?_
  · rw [Shape.rowMajor_val_four, Shape.rowMajor_val_two]
    simp [ix4]
  · exact congrArg y (funext fun c => Fin.ext (by fin_cases c <;> simp [Rect.unit, Rect.emb, ix4, ix2]))

/-- A lane block of a wide tile, written. -/
def setLane (x : Sx.Idx → α) (j : Fin 11) (w : Sr.Idx → α) : Sx.Idx → α := fun i =>
  if (i 1).val / 128 = j.val then w (ix2 (n0 := 384) (n1 := 128) (i 0) ⟨(i 1).val % 128, Nat.mod_lt _ (by norm_num)⟩) else x i

/-- A lane block of a cell, written. -/
def putL (y : Ss.Idx → α) (a b : Fin 2) (j : Fin 11) (w : Sr.Idx → α) : Ss.Idx → α :=
  put y ![a.val, b.val, 0, 128 * j.val] Sr1.size (shapeCast Sr1 w cast_Sr_Sr1)

theorem cellX_putL (y : Ss.Idx → α) (a b : Fin 2) (j : Fin 11) (w : Sr.Idx → α) : cellX (putL y a b j w) a b = setLane (cellX y a b) j w := by
  funext i
  rw [cellX_at]
  unfold putL put setLane
  have h0 : (i 0).val < 384 := (i 0).isLt
  by_cases h : (i 1).val / 128 = j.val
  · rw [if_pos h, dif_pos (by intro c; fin_cases c <;> simp [ix4] <;> omega)]
    refine shapeCast_apply _ _ _ _ ?_
    rw [Shape.rowMajor_val_four, Shape.rowMajor_val_two]
    simp [ix4, ix2, Rect.unitLocal]
    omega
  · rw [if_neg h, dif_neg (fun hc => h (by have := hc 3; simp [ix4] at this; omega)), cellX_at]

theorem cellX_putL_other (y : Ss.Idx → α) (a b a' b' : Fin 2) (j : Fin 11) (w : Sr.Idx → α) (h : a ≠ a' ∨ b ≠ b') :
    cellX (putL y a b j w) a' b' = cellX y a' b' := by
  unfold cellX putL
  congr 1
  rcases h with h | h
  · exact window_put_of_disjoint _ _ _ _ _ _ _ 0 (by have := fun e => h (Fin.ext e); simp; omega)
  · exact window_put_of_disjoint _ _ _ _ _ _ _ 1 (by have := fun e => h (Fin.ext e); simp; omega)

/-! ## Tiles of rows -/

/-- A tile of query rows. -/
def tileQ (x : Sqk.Idx → α) (n : ℕ) : Sq1.Idx → α := fun i =>
  x (ix3 (n0 := 1) (n1 := 4224) (n2 := 256) 0 ⟨(384 * n + (i 1).val) % 4224, Nat.mod_lt _ (by norm_num)⟩ (i 2))

theorem windowQ (x : Sqk.Idx → α) (n : ℕ) (hn : n < 11) (h) : window x ![0, 384 * n, 0] Sq1.size h = tileQ x n := by
  funext i
  have h0 : (i 0).val < 1 := (i 0).isLt
  have h1 : (i 1).val < 384 := (i 1).isLt
  have e : (384 * n + (i 1).val) % 4224 = 384 * n + (i 1).val := Nat.mod_eq_of_lt (by omega)
  exact congrArg x (funext fun c => Fin.ext (by fin_cases c <;> simp [Rect.unit, Rect.emb, ix3, e] <;> omega))

/-- A tile of key rows. -/
def tileK (x : Sqk.Idx → α) (n : ℕ) : Sk1.Idx → α := fun i =>
  x (ix3 (n0 := 1) (n1 := 4224) (n2 := 256) 0 ⟨(1408 * n + (i 1).val) % 4224, Nat.mod_lt _ (by norm_num)⟩ (i 2))

theorem windowK (x : Sqk.Idx → α) (n : ℕ) (hn : n < 3) (h) : window x ![0, 1408 * n, 0] Sk1.size h = tileK x n := by
  funext i
  have h0 : (i 0).val < 1 := (i 0).isLt
  have h1 : (i 1).val < 1408 := (i 1).isLt
  have e : (1408 * n + (i 1).val) % 4224 = 1408 * n + (i 1).val := Nat.mod_eq_of_lt (by omega)
  exact congrArg x (funext fun c => Fin.ext (by fin_cases c <;> simp [Rect.unit, Rect.emb, ix3, e] <;> omega))

/-- A tile of value rows. -/
def tileV (x : Svo.Idx → α) (n : ℕ) : Sv1.Idx → α := fun i =>
  x (ix3 (n0 := 1) (n1 := 4224) (n2 := 128) 0 ⟨(1408 * n + (i 1).val) % 4224, Nat.mod_lt _ (by norm_num)⟩ (i 2))

theorem windowV (x : Svo.Idx → α) (n : ℕ) (hn : n < 3) (h) : window x ![0, 1408 * n, 0] Sv1.size h = tileV x n := by
  funext i
  have h0 : (i 0).val < 1 := (i 0).isLt
  have h1 : (i 1).val < 1408 := (i 1).isLt
  have e : (1408 * n + (i 1).val) % 4224 = 1408 * n + (i 1).val := Nat.mod_eq_of_lt (by omega)
  exact congrArg x (funext fun c => Fin.ext (by fin_cases c <;> simp [Rect.unit, Rect.emb, ix3, e] <;> omega))

/-- A tile of output rows. -/
def tileO (x : Svo.Idx → α) (n : ℕ) : Sr.Idx → α := fun i =>
  x (ix3 (n0 := 1) (n1 := 4224) (n2 := 128) 0 ⟨(384 * n + (i 0).val) % 4224, Nat.mod_lt _ (by norm_num)⟩ (i 1))

/-- A tile of output rows, written. -/
def putO (x : Svo.Idx → α) (n : ℕ) (w : Sr.Idx → α) : Svo.Idx → α := put x ![0, 384 * n, 0] So1.size (shapeCast So1 w cast_Sr_So1)

theorem tileO_same (x : Svo.Idx → α) (n : ℕ) (w : Sr.Idx → α) (hn : n < 11) : tileO (putO x n w) n = w := by
  funext i
  have h0 : (i 0).val < 384 := (i 0).isLt
  have h1 : (i 1).val < 128 := (i 1).isLt
  have e : (384 * n + (i 0).val) % 4224 = 384 * n + (i 0).val := Nat.mod_eq_of_lt (by omega)
  unfold tileO putO put
  rw [dif_pos (by intro c; fin_cases c <;> simp [ix3, e] <;> omega)]
  refine shapeCast_apply _ _ _ _ ?_
  rw [Shape.rowMajor_val_two, Shape.rowMajor_val_three]
  simp [ix3, Rect.unitLocal, e]

theorem tileO_other (x : Svo.Idx → α) (n n' : ℕ) (w : Sr.Idx → α) (hn : n < 11) (hn' : n' < 11) (h : n ≠ n') :
    tileO (putO x n w) n' = tileO x n' := by
  funext i
  have h0 : (i 0).val < 384 := (i 0).isLt
  have e : (384 * n' + (i 0).val) % 4224 = 384 * n' + (i 0).val := Nat.mod_eq_of_lt (by omega)
  unfold tileO putO put
  rw [dif_neg (fun hc => by have := hc 1; simp [ix3, e] at this; omega)]

end Attn

end
-- ==== Proof.Attn.State.lean ====
/-
  What the kernel's memrefs hold, as one state, and the kernel's stages as functions on it.
-/
module

public import proofs.«01_k».proof.Proof.Attn.Cells

@[expose] public section

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the memrefs hold. -/
structure St (F : FTy → Type) where
  q : Vec F Sqk .bf16
  k : Vec F Sqk .bf16
  v : Vec F Svo .bf16
  o : Vec F Svo .bf16
  s : Vec F Ss .f32
  p : Vec F Ss .bf16
  al : Vec F Sc .f32
  li : Vec F Sc .f32
  m : Vec F Sr .f32
  l : Vec F Sr .f32
  acc : Vec F Sr .f32

variable {nD : ℕ} {τ : Topo} {sig : RefSig} {Ix : Type} [DecidableEq Ix]
variable {Name : Type} [DecidableEq Name] {U : Type} [URA U] {Lvl : Type} [Preorder Lvl] {Λ : Labels}

/-- The memrefs held at a state. -/
def held (c : Dev nD) (M : Mems sig) (σ : St F) : sProp (MT nD τ sig Ix (Elt F) Name U Lvl) :=
  iprop(owns (c : Thread nD τ) M.q fullShare σ.q ∗
    owns (c : Thread nD τ) M.k fullShare σ.k ∗
    owns (c : Thread nD τ) M.v fullShare σ.v ∗
    owns (c : Thread nD τ) M.o fullShare σ.o ∗
    owns (c : Thread nD τ) M.s fullShare σ.s ∗
    owns (c : Thread nD τ) M.p fullShare σ.p ∗
    owns (c : Thread nD τ) M.al fullShare σ.al ∗
    owns (c : Thread nD τ) M.li fullShare σ.li ∗
    owns (c : Thread nD τ) M.m fullShare σ.m ∗
    owns (c : Thread nD τ) M.l fullShare σ.l ∗
    owns (c : Thread nD τ) M.acc fullShare σ.acc)

variable {c : Dev nD} {M : Mems sig}

theorem holds_q : Holds (held (τ := τ) (Ix := Ix) (Name := Name) (U := U) (Lvl := Lvl) c M) c M.q (St.q (F := F)) (fun σ y => { σ with q := y }) := by
  refine ⟨fun σ => rfl, fun σ => ?_⟩
  unfold held
  iintro ⟨Hq, Hk, Hv, Ho, Hs, Hp, Hal, Hli, Hm, Hl, Hacc⟩
  isplitl [Hq]; · iexact Hq
  iintro %y Hq
  isplitl [Hq]; · iexact Hq
  isplitl [Hk]; · iexact Hk
  isplitl [Hv]; · iexact Hv
  isplitl [Ho]; · iexact Ho
  isplitl [Hs]; · iexact Hs
  isplitl [Hp]; · iexact Hp
  isplitl [Hal]; · iexact Hal
  isplitl [Hli]; · iexact Hli
  isplitl [Hm]; · iexact Hm
  isplitl [Hl]; · iexact Hl
  iexact Hacc

theorem holds_k : Holds (held (τ := τ) (Ix := Ix) (Name := Name) (U := U) (Lvl := Lvl) c M) c M.k (St.k (F := F)) (fun σ y => { σ with k := y }) := by
  refine ⟨fun σ => rfl, fun σ => ?_⟩
  unfold held
  iintro ⟨Hq, Hk, Hv, Ho, Hs, Hp, Hal, Hli, Hm, Hl, Hacc⟩
  isplitl [Hk]; · iexact Hk
  iintro %y Hk
  isplitl [Hq]; · iexact Hq
  isplitl [Hk]; · iexact Hk
  isplitl [Hv]; · iexact Hv
  isplitl [Ho]; · iexact Ho
  isplitl [Hs]; · iexact Hs
  isplitl [Hp]; · iexact Hp
  isplitl [Hal]; · iexact Hal
  isplitl [Hli]; · iexact Hli
  isplitl [Hm]; · iexact Hm
  isplitl [Hl]; · iexact Hl
  iexact Hacc

theorem holds_v : Holds (held (τ := τ) (Ix := Ix) (Name := Name) (U := U) (Lvl := Lvl) c M) c M.v (St.v (F := F)) (fun σ y => { σ with v := y }) := by
  refine ⟨fun σ => rfl, fun σ => ?_⟩
  unfold held
  iintro ⟨Hq, Hk, Hv, Ho, Hs, Hp, Hal, Hli, Hm, Hl, Hacc⟩
  isplitl [Hv]; · iexact Hv
  iintro %y Hv
  isplitl [Hq]; · iexact Hq
  isplitl [Hk]; · iexact Hk
  isplitl [Hv]; · iexact Hv
  isplitl [Ho]; · iexact Ho
  isplitl [Hs]; · iexact Hs
  isplitl [Hp]; · iexact Hp
  isplitl [Hal]; · iexact Hal
  isplitl [Hli]; · iexact Hli
  isplitl [Hm]; · iexact Hm
  isplitl [Hl]; · iexact Hl
  iexact Hacc

theorem holds_o : Holds (held (τ := τ) (Ix := Ix) (Name := Name) (U := U) (Lvl := Lvl) c M) c M.o (St.o (F := F)) (fun σ y => { σ with o := y }) := by
  refine ⟨fun σ => rfl, fun σ => ?_⟩
  unfold held
  iintro ⟨Hq, Hk, Hv, Ho, Hs, Hp, Hal, Hli, Hm, Hl, Hacc⟩
  isplitl [Ho]; · iexact Ho
  iintro %y Ho
  isplitl [Hq]; · iexact Hq
  isplitl [Hk]; · iexact Hk
  isplitl [Hv]; · iexact Hv
  isplitl [Ho]; · iexact Ho
  isplitl [Hs]; · iexact Hs
  isplitl [Hp]; · iexact Hp
  isplitl [Hal]; · iexact Hal
  isplitl [Hli]; · iexact Hli
  isplitl [Hm]; · iexact Hm
  isplitl [Hl]; · iexact Hl
  iexact Hacc

theorem holds_s : Holds (held (τ := τ) (Ix := Ix) (Name := Name) (U := U) (Lvl := Lvl) c M) c M.s (St.s (F := F)) (fun σ y => { σ with s := y }) := by
  refine ⟨fun σ => rfl, fun σ => ?_⟩
  unfold held
  iintro ⟨Hq, Hk, Hv, Ho, Hs, Hp, Hal, Hli, Hm, Hl, Hacc⟩
  isplitl [Hs]; · iexact Hs
  iintro %y Hs
  isplitl [Hq]; · iexact Hq
  isplitl [Hk]; · iexact Hk
  isplitl [Hv]; · iexact Hv
  isplitl [Ho]; · iexact Ho
  isplitl [Hs]; · iexact Hs
  isplitl [Hp]; · iexact Hp
  isplitl [Hal]; · iexact Hal
  isplitl [Hli]; · iexact Hli
  isplitl [Hm]; · iexact Hm
  isplitl [Hl]; · iexact Hl
  iexact Hacc

theorem holds_p : Holds (held (τ := τ) (Ix := Ix) (Name := Name) (U := U) (Lvl := Lvl) c M) c M.p (St.p (F := F)) (fun σ y => { σ with p := y }) := by
  refine ⟨fun σ => rfl, fun σ => ?_⟩
  unfold held
  iintro ⟨Hq, Hk, Hv, Ho, Hs, Hp, Hal, Hli, Hm, Hl, Hacc⟩
  isplitl [Hp]; · iexact Hp
  iintro %y Hp
  isplitl [Hq]; · iexact Hq
  isplitl [Hk]; · iexact Hk
  isplitl [Hv]; · iexact Hv
  isplitl [Ho]; · iexact Ho
  isplitl [Hs]; · iexact Hs
  isplitl [Hp]; · iexact Hp
  isplitl [Hal]; · iexact Hal
  isplitl [Hli]; · iexact Hli
  isplitl [Hm]; · iexact Hm
  isplitl [Hl]; · iexact Hl
  iexact Hacc

theorem holds_al : Holds (held (τ := τ) (Ix := Ix) (Name := Name) (U := U) (Lvl := Lvl) c M) c M.al (St.al (F := F)) (fun σ y => { σ with al := y }) := by
  refine ⟨fun σ => rfl, fun σ => ?_⟩
  unfold held
  iintro ⟨Hq, Hk, Hv, Ho, Hs, Hp, Hal, Hli, Hm, Hl, Hacc⟩
  isplitl [Hal]; · iexact Hal
  iintro %y Hal
  isplitl [Hq]; · iexact Hq
  isplitl [Hk]; · iexact Hk
  isplitl [Hv]; · iexact Hv
  isplitl [Ho]; · iexact Ho
  isplitl [Hs]; · iexact Hs
  isplitl [Hp]; · iexact Hp
  isplitl [Hal]; · iexact Hal
  isplitl [Hli]; · iexact Hli
  isplitl [Hm]; · iexact Hm
  isplitl [Hl]; · iexact Hl
  iexact Hacc

theorem holds_li : Holds (held (τ := τ) (Ix := Ix) (Name := Name) (U := U) (Lvl := Lvl) c M) c M.li (St.li (F := F)) (fun σ y => { σ with li := y }) := by
  refine ⟨fun σ => rfl, fun σ => ?_⟩
  unfold held
  iintro ⟨Hq, Hk, Hv, Ho, Hs, Hp, Hal, Hli, Hm, Hl, Hacc⟩
  isplitl [Hli]; · iexact Hli
  iintro %y Hli
  isplitl [Hq]; · iexact Hq
  isplitl [Hk]; · iexact Hk
  isplitl [Hv]; · iexact Hv
  isplitl [Ho]; · iexact Ho
  isplitl [Hs]; · iexact Hs
  isplitl [Hp]; · iexact Hp
  isplitl [Hal]; · iexact Hal
  isplitl [Hli]; · iexact Hli
  isplitl [Hm]; · iexact Hm
  isplitl [Hl]; · iexact Hl
  iexact Hacc

theorem holds_m : Holds (held (τ := τ) (Ix := Ix) (Name := Name) (U := U) (Lvl := Lvl) c M) c M.m (St.m (F := F)) (fun σ y => { σ with m := y }) := by
  refine ⟨fun σ => rfl, fun σ => ?_⟩
  unfold held
  iintro ⟨Hq, Hk, Hv, Ho, Hs, Hp, Hal, Hli, Hm, Hl, Hacc⟩
  isplitl [Hm]; · iexact Hm
  iintro %y Hm
  isplitl [Hq]; · iexact Hq
  isplitl [Hk]; · iexact Hk
  isplitl [Hv]; · iexact Hv
  isplitl [Ho]; · iexact Ho
  isplitl [Hs]; · iexact Hs
  isplitl [Hp]; · iexact Hp
  isplitl [Hal]; · iexact Hal
  isplitl [Hli]; · iexact Hli
  isplitl [Hm]; · iexact Hm
  isplitl [Hl]; · iexact Hl
  iexact Hacc

theorem holds_l : Holds (held (τ := τ) (Ix := Ix) (Name := Name) (U := U) (Lvl := Lvl) c M) c M.l (St.l (F := F)) (fun σ y => { σ with l := y }) := by
  refine ⟨fun σ => rfl, fun σ => ?_⟩
  unfold held
  iintro ⟨Hq, Hk, Hv, Ho, Hs, Hp, Hal, Hli, Hm, Hl, Hacc⟩
  isplitl [Hl]; · iexact Hl
  iintro %y Hl
  isplitl [Hq]; · iexact Hq
  isplitl [Hk]; · iexact Hk
  isplitl [Hv]; · iexact Hv
  isplitl [Ho]; · iexact Ho
  isplitl [Hs]; · iexact Hs
  isplitl [Hp]; · iexact Hp
  isplitl [Hal]; · iexact Hal
  isplitl [Hli]; · iexact Hli
  isplitl [Hm]; · iexact Hm
  isplitl [Hl]; · iexact Hl
  iexact Hacc

theorem holds_acc : Holds (held (τ := τ) (Ix := Ix) (Name := Name) (U := U) (Lvl := Lvl) c M) c M.acc (St.acc (F := F)) (fun σ y => { σ with acc := y }) := by
  refine ⟨fun σ => rfl, fun σ => ?_⟩
  unfold held
  iintro ⟨Hq, Hk, Hv, Ho, Hs, Hp, Hal, Hli, Hm, Hl, Hacc⟩
  isplitl [Hacc]; · iexact Hacc
  iintro %y Hacc
  isplitl [Hq]; · iexact Hq
  isplitl [Hk]; · iexact Hk
  isplitl [Hv]; · iexact Hv
  isplitl [Ho]; · iexact Ho
  isplitl [Hs]; · iexact Hs
  isplitl [Hp]; · iexact Hp
  isplitl [Hal]; · iexact Hal
  isplitl [Hli]; · iexact Hli
  isplitl [Hm]; · iexact Hm
  isplitl [Hl]; · iexact Hl
  iexact Hacc

/-! ## The stages as functions of the state -/

variable {defs : Defs nD τ sig (Elt F) Λ} {𝒱 : Variants} {bd : Option 𝒱.V} {E : Set Name}

section basic
variable {S : Type} {H : S → sProp (MT nD τ sig Ix (Elt F) Name U Lvl)}

theorem run_loadRow {m : Memref sig .tc .vmem Sr .f32} {get : S → Vec F Sr .f32} {set : S → Vec F Sr .f32 → S} (hM : Holds H c m get set) :
    Runs defs 𝒱 c bd E H (loadRow m) (fun σ => (get σ, σ)) :=
  (Runs.load hM ![0, 0] Sr.size whole_row _).of_eq rfl fun σ => congrArg (fun y => (y, σ)) (window_row _ _)

theorem run_storeRow {m : Memref sig .tc .vmem Sr .f32} {get : S → Vec F Sr .f32} {set : S → Vec F Sr .f32 → S} (hM : Holds H c m get set)
    (x : FVec F Sr .f32) : Runs defs 𝒱 c bd E H (storeRow m x) (fun σ => (⟨⟩, set σ x)) :=
  ((run_loadRow hM).bind fun _ => Runs.store hM _ _ _ _ _ _).of_eq rfl fun σ =>
    congrArg (fun y : Vec F Sr .f32 => ((⟨⟩, set σ y) : PUnit × S)) ((put_row _ _).trans (cast_id _ _))

theorem run_loadCell {m : Memref sig .tc .vmem Sc .f32} {get : S → Vec F Sc .f32} {set : S → Vec F Sc .f32 → S} (hM : Holds H c m get set)
    (a b : Fin 2) : Runs defs 𝒱 c bd E H (loadCell m a b) (fun σ => (cellR (get σ) a b, σ)) :=
  ((Runs.load hM _ _ _ _).bind fun _ => Runs.pure _).of_eq rfl fun _ => rfl

theorem run_storeCell {m : Memref sig .tc .vmem Sc .f32} {get : S → Vec F Sc .f32} {set : S → Vec F Sc .f32 → S} (hM : Holds H c m get set)
    (a b : Fin 2) (x : FVec F Sr .f32) : Runs defs 𝒱 c bd E H (storeCell m a b x) (fun σ => (⟨⟩, set σ (putR (get σ) a b x))) :=
  ((run_loadCell hM a b).bind fun _ => Runs.store hM _ _ _ _ _ _).of_eq rfl fun _ => rfl

theorem run_loadLane {m : Memref sig .tc .vmem Ss .f32} {get : S → Vec F Ss .f32} {set : S → Vec F Ss .f32 → S} (hM : Holds H c m get set)
    (a b : Fin 2) (j : Fin 11) : Runs defs 𝒱 c bd E H (loadLane m a b j) (fun σ => (lane (cellX (get σ) a b) j, σ)) :=
  ((Runs.load hM ![a.val, b.val, 0, 128 * j.val] Sr1.size (cells_lane a b j) _).bind fun _ => Runs.pure _).of_eq rfl fun σ =>
    congrArg (fun y => (y, σ)) (read_lane _ _ _ _)

theorem run_storeLane {m : Memref sig .tc .vmem Ss .bf16} (hm : m.IsWhole) {get : S → Vec F Ss .bf16} {set : S → Vec F Ss .bf16 → S} (hM : Holds H c m get set)
    (a b : Fin 2) (j : Fin 11) (x : FVec F Sr .f32) :
    Runs defs 𝒱 c bd E H (storeLane m hm a b j x) (fun σ => (⟨⟩, set σ (putL (get σ) a b j (truncf .bf16 x bits_lt)))) :=
  ((Runs.load hM _ _ _ _).bind fun _ => Runs.store hM _ _ _ _ _ _).of_eq rfl fun _ => rfl

end basic

/-- The lane blocks of a tile. -/
def lanes (x : FVec F Sx .f32) : Lanes F :=
  ⟨lane x 0, lane x 1, lane x 2, lane x 3, lane x 4, lane x 5, lane x 6, lane x 7, lane x 8, lane x 9, lane x 10⟩

/-- The lane blocks of a cell, written. -/
def putLanes (y : Vec F Ss .bf16) (a b : Fin 2) (p : Lanes F) : Vec F Ss .bf16 :=
  let y := putL y a b 0 (truncf .bf16 p.x0 bits_lt)
  let y := putL y a b 1 (truncf .bf16 p.x1 bits_lt)
  let y := putL y a b 2 (truncf .bf16 p.x2 bits_lt)
  let y := putL y a b 3 (truncf .bf16 p.x3 bits_lt)
  let y := putL y a b 4 (truncf .bf16 p.x4 bits_lt)
  let y := putL y a b 5 (truncf .bf16 p.x5 bits_lt)
  let y := putL y a b 6 (truncf .bf16 p.x6 bits_lt)
  let y := putL y a b 7 (truncf .bf16 p.x7 bits_lt)
  let y := putL y a b 8 (truncf .bf16 p.x8 bits_lt)
  let y := putL y a b 9 (truncf .bf16 p.x9 bits_lt)
  putL y a b 10 (truncf .bf16 p.x10 bits_lt)

/-- The lane blocks joined to a tile of weights. -/
def join (p : Lanes F) : FVec F Sx .bf16 := fun i =>
  truncf .bf16 (p.at ⟨(i 1).val / 128, by have : (i 1).val < 1408 := (i 1).isLt; omega⟩) bits_lt
    (ix2 (n0 := 384) (n1 := 128) (i 0) ⟨(i 1).val % 128, Nat.mod_lt _ (by norm_num)⟩)

theorem cellX_putLanes (y : Vec F Ss .bf16) (a b : Fin 2) (p : Lanes F) : cellX (putLanes y a b p) a b = join p := by
  unfold putLanes
  simp only [cellX_putL]
  funext i
  have h : (i 1).val < 1408 := (i 1).isLt
  unfold join setLane
  generalize hj : (⟨(i 1).val / 128, by omega⟩ : Fin 11) = j
  have hv : (i 1).val / 128 = j.val := congrArg Fin.val hj
  rw [hv]
  fin_cases j <;> rfl

theorem cellX_putLanes_other (y : Vec F Ss .bf16) (a b a' b' : Fin 2) (p : Lanes F) (h : a ≠ a' ∨ b ≠ b') :
    cellX (putLanes y a b p) a' b' = cellX y a' b' := by
  unfold putLanes
  simp only [cellX_putL_other _ a b a' b' _ _ h]

theorem run_start : Runs defs 𝒱 c bd E (held (τ := τ) (Ix := Ix) (Name := Name) (U := U) (Lvl := Lvl) c M) (start M)
    (fun σ : St F => (⟨⟩, { σ with
      m := broadcast Sr (Scalar.ofBits .f32 0xFF800000#32)
      l := broadcast Sr (Scalar.ofBits .f32 0x00000000#32)
      acc := broadcast Sr (Scalar.ofBits .f32 0x00000000#32) })) :=
  ((run_storeRow holds_m _).bind fun _ => (run_storeRow holds_l _).bind fun _ => run_storeRow holds_acc _).of_eq rfl fun _ => rfl

theorem run_A1 (offq offk : Fin 3 → ℕ) (hq hk) (n j : ℕ) (eq : offq = ![0, 384 * n, 0]) (ek : offk = ![0, 1408 * j, 0]) (hn : n < 11) (hj : j < 3) :
    Runs defs 𝒱 c bd E (held (τ := τ) (Ix := Ix) (Name := Name) (U := U) (Lvl := Lvl) c M) (stageA1 M offq offk hq hk)
      (fun σ : St F => (scores (tileQ σ.q n) (tileK σ.k j), σ)) := by
  subst eq ek
  exact ((Runs.load holds_q _ _ _ _).bind fun _ => (Runs.load holds_k _ _ _ _).bind fun _ => Runs.pure _).of_eq rfl fun σ =>
    congrArg₂ (fun x y => (scores x y, σ)) (windowQ _ _ hn hq) (windowK _ _ hj hk)

theorem run_A2 (a b : Fin 2) (x : FVec F Sx .f32) :
    Runs defs 𝒱 c bd E (held (τ := τ) (Ix := Ix) (Name := Name) (U := U) (Lvl := Lvl) c M) (stageA2 M a b x)
      (fun σ : St F => (⟨⟩, { σ with s := putX σ.s a b x })) :=
  ((Runs.load holds_s _ _ _ _).bind fun _ => Runs.store holds_s _ _ _ _ _ _).of_eq rfl fun _ => rfl

theorem run_loadLanes (a b : Fin 2) :
    Runs defs 𝒱 c bd E (held (τ := τ) (Ix := Ix) (Name := Name) (U := U) (Lvl := Lvl) c M) (loadLanes M a b)
      (fun σ : St F => (lanes (cellX σ.s a b), σ)) :=
  ((run_loadLane holds_s a b 0).bind fun _ => (run_loadLane holds_s a b 1).bind fun _ => (run_loadLane holds_s a b 2).bind fun _ =>
    (run_loadLane holds_s a b 3).bind fun _ => (run_loadLane holds_s a b 4).bind fun _ => (run_loadLane holds_s a b 5).bind fun _ =>
    (run_loadLane holds_s a b 6).bind fun _ => (run_loadLane holds_s a b 7).bind fun _ => (run_loadLane holds_s a b 8).bind fun _ =>
    (run_loadLane holds_s a b 9).bind fun _ => (run_loadLane holds_s a b 10).bind fun _ => Runs.pure _).of_eq rfl fun _ => rfl

theorem run_storeLanes (a b : Fin 2) (p : Lanes F) :
    Runs defs 𝒱 c bd E (held (τ := τ) (Ix := Ix) (Name := Name) (U := U) (Lvl := Lvl) c M) (storeLanes M a b p)
      (fun σ : St F => (⟨⟩, { σ with p := putLanes σ.p a b p })) :=
  ((run_storeLane M.hp holds_p a b 0 _).bind fun _ => (run_storeLane M.hp holds_p a b 1 _).bind fun _ => (run_storeLane M.hp holds_p a b 2 _).bind fun _ =>
    (run_storeLane M.hp holds_p a b 3 _).bind fun _ => (run_storeLane M.hp holds_p a b 4 _).bind fun _ => (run_storeLane M.hp holds_p a b 5 _).bind fun _ =>
    (run_storeLane M.hp holds_p a b 6 _).bind fun _ => (run_storeLane M.hp holds_p a b 7 _).bind fun _ => (run_storeLane M.hp holds_p a b 8 _).bind fun _ =>
    (run_storeLane M.hp holds_p a b 9 _).bind fun _ => run_storeLane M.hp holds_p a b 10 _).of_eq rfl fun _ => rfl

/-- Stage B as a function of the state. -/
def stB (cst : F .f32) (a b : Fin 2) (first : BitVec 1) (σ : St F) : St F :=
  let x := lanes (cellX σ.s a b)
  let m' := oldMax first σ.m
  let n := newMax m' x
  let al := weigh cst n m'
  let p := x.map (weigh cst n)
  let l' := newSum al σ.l p
  { σ with l := l', m := n, al := putR σ.al a b al, li := putR σ.li a b (recip l'), p := putLanes σ.p a b p }

theorem run_B (cst : F .f32) (a b : Fin 2) (first : BitVec 1) :
    Runs defs 𝒱 c bd E (held (τ := τ) (Ix := Ix) (Name := Name) (U := U) (Lvl := Lvl) c M) (stageB M cst a b first)
      (fun σ : St F => (⟨⟩, stB cst a b first σ)) :=
  ((run_loadRow holds_m).bind fun _ => (run_loadLanes a b).bind fun _ => (run_loadRow holds_l).bind fun _ => (run_storeRow holds_l _).bind fun _ =>
    (run_storeRow holds_m _).bind fun _ => (run_storeCell holds_al a b _).bind fun _ => (run_storeCell holds_li a b _).bind fun _ =>
    run_storeLanes a b _).of_eq rfl fun _ => rfl

theorem run_C1 (a b : Fin 2) (offv : Fin 3 → ℕ) (hv) (j : ℕ) (ev : offv = ![0, 1408 * j, 0]) (hj : j < 3) :
    Runs defs 𝒱 c bd E (held (τ := τ) (Ix := Ix) (Name := Name) (U := U) (Lvl := Lvl) c M) (stageC1 M a b offv hv)
      (fun σ : St F => (newAcc (cellR σ.al a b) σ.acc (cellX σ.p a b) (tileV σ.v j), σ)) := by
  subst ev
  exact ((run_loadCell holds_al a b).bind fun _ => (run_loadRow holds_acc).bind fun _ => (Runs.load holds_p _ _ _ _).bind fun _ =>
    (Runs.load holds_v _ _ _ _).bind fun _ => (run_loadRow holds_acc).bind fun _ => Runs.pure _).of_eq rfl fun σ =>
      congrArg (fun y => (newAcc (cellR σ.al a b) σ.acc (cellX σ.p a b) y, σ)) (windowV _ _ hj hv)

theorem run_C2 (a b : Fin 2) (offo : Fin 3 → ℕ) (ho po) (n : ℕ) (eo : offo = ![0, 384 * n, 0]) (x : FVec F Sr .f32) :
    Runs defs 𝒱 c bd E (held (τ := τ) (Ix := Ix) (Name := Name) (U := U) (Lvl := Lvl) c M) (stageC2 M a b offo ho po x)
      (fun σ : St F => (⟨⟩, { σ with acc := x, o := putO σ.o n (truncf .bf16 (mulf x (cellR σ.li a b)) bits_lt) })) := by
  subst eo
  exact ((Runs.store holds_acc _ _ _ _ _ _).bind fun _ => (run_loadCell holds_li a b).bind fun _ => (Runs.load holds_o _ _ _ _).bind fun _ =>
    Runs.store holds_o _ _ _ _ _ _).of_eq rfl fun σ =>
      congrArg (fun y : Vec F Sr .f32 => ((⟨⟩, { σ with acc := y, o := putO σ.o n (truncf .bf16 (mulf x (cellR σ.li a b)) bits_lt) }) : PUnit × St F))
        ((put_row _ _).trans (cast_id _ _))

end Attn

end
-- ==== Proof.Attn.Inv.lean ====
/-
  The pipelined attention item by item: what each item computes, and the state between the stages.

  Item `u` is the tile `u / 3` of queries with the tile `u % 3` of keys. `Inv na nb nc` is the state after the scores of
  `na` items, the weights of `nb` and the outputs of `nc`.
-/
module

public import proofs.«01_k».proof.Proof.Attn.State

@[expose] public section

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The constant of the weights, and the queries, keys and values. -/
structure In (F : FTy → Type) where
  cst : F .f32
  q : Vec F Sqk .bf16
  k : Vec F Sqk .bf16
  v : Vec F Svo .bf16

variable (D : In F)

/-- Whether an item is a tile's first. -/
def first (u : ℕ) : BitVec 1 := if u % 3 = 0 then 1#1 else 0#1

/-- An item's scores. -/
def sc (u : ℕ) : FVec F Sx .f32 := scores (tileQ D.q (u / 3)) (tileK D.k (u % 3))

/-- The running maximum and sum before an item. -/
def run : ℕ → FVec F Sr .f32 × FVec F Sr .f32
  | 0 => (broadcast Sr (Scalar.ofBits .f32 0xFF800000#32), broadcast Sr (Scalar.ofBits .f32 0x00000000#32))
  | u + 1 =>
    let m' := oldMax (first u) (run u).1
    let n := newMax m' (lanes (sc D u))
    (n, newSum (weigh D.cst n m') (run u).2 ((lanes (sc D u)).map (weigh D.cst n)))

/-- An item's rescaling. -/
def scale (u : ℕ) : FVec F Sr .f32 := weigh D.cst (run D (u + 1)).1 (oldMax (first u) (run D u).1)

/-- An item's weights. -/
def wts (u : ℕ) : Lanes F := (lanes (sc D u)).map (weigh D.cst (run D (u + 1)).1)

/-- The running weighted sum before an item. -/
def acc : ℕ → FVec F Sr .f32
  | 0 => broadcast Sr (Scalar.ofBits .f32 0x00000000#32)
  | u + 1 => newAcc (scale D u) (acc u) (join (wts D u)) (tileV D.v (u % 3))

/-- An item's output. -/
def res (u : ℕ) : FVec F Sr .bf16 := truncf .bf16 (mulf (acc D (u + 1)) (recip (run D (u + 1)).2)) bits_lt

/-- The output of all items. -/
def out : Vec F Svo .bf16 := fun i =>
  res D (3 * ((i 1).val / 384) + 2) (ix2 (n0 := 384) (n1 := 128) ⟨(i 1).val % 384, Nat.mod_lt _ (by norm_num)⟩ (i 2))

/-- An item's cell. -/
def ca (u : ℕ) : Fin 2 := ⟨u / 2 % 2, Nat.mod_lt _ (by norm_num)⟩
def cb (u : ℕ) : Fin 2 := ⟨u % 2, Nat.mod_lt _ (by norm_num)⟩

theorem cells_ne {u w : ℕ} (h : u < w) (h' : w < u + 4) : ca w ≠ ca u ∨ cb w ≠ cb u := by
  by_contra hc
  have h1 : ca w = ca u := by_contra fun e => hc (.inl e)
  have h2 : cb w = cb u := by_contra fun e => hc (.inr e)
  have h1 : w / 2 % 2 = u / 2 % 2 := congrArg Fin.val h1
  have h2 : w % 2 = u % 2 := congrArg Fin.val h2
  omega

/-- The stages of an item as functions of the state. -/
def sA (u : ℕ) (σ : St F) : St F := { σ with s := putX σ.s (ca u) (cb u) (scores (tileQ σ.q (u / 3)) (tileK σ.k (u % 3))) }
def sB (cst : F .f32) (u : ℕ) (σ : St F) : St F := stB cst (ca u) (cb u) (first u) σ
def nextAcc (u : ℕ) (σ : St F) : FVec F Sr .f32 := newAcc (cellR σ.al (ca u) (cb u)) σ.acc (cellX σ.p (ca u) (cb u)) (tileV σ.v (u % 3))
def sC (u : ℕ) (σ : St F) : St F :=
  { σ with acc := nextAcc u σ, o := putO σ.o (u / 3) (truncf .bf16 (mulf (nextAcc u σ) (cellR σ.li (ca u) (cb u))) bits_lt) }

/-- The state after the scores of `na` items, the weights of `nb` and the outputs of `nc`. -/
structure Inv (na nb nc : ℕ) (σ : St F) : Prop where
  q : σ.q = D.q
  k : σ.k = D.k
  v : σ.v = D.v
  s : ∀ u, nb ≤ u → u < na → cellX σ.s (ca u) (cb u) = sc D u
  p : ∀ u, nc ≤ u → u < nb → cellX σ.p (ca u) (cb u) = join (wts D u)
  al : ∀ u, nc ≤ u → u < nb → cellR σ.al (ca u) (cb u) = scale D u
  li : ∀ u, nc ≤ u → u < nb → cellR σ.li (ca u) (cb u) = recip (run D (u + 1)).2
  m : σ.m = (run D nb).1
  l : σ.l = (run D nb).2
  acc : σ.acc = acc D nc
  o : ∀ n, 3 * n + 2 < nc → tileO σ.o n = res D (3 * n + 2)

variable {D} {na nb nc : ℕ} {σ : St F}

theorem Inv.stepA (I : Inv D na nb nc σ) (h : na < nb + 4) : Inv D (na + 1) nb nc (sA na σ) :=
  { I with
    s := fun u h1 h2 => by
      show cellX (putX _ _ _ _) _ _ = _
      by_cases e : u = na
      · subst e
        rw [cellX_same, I.q, I.k]
        rfl
      · rw [cellX_other _ _ _ _ _ _ (cells_ne (by omega) (by omega))]
        exact I.s u h1 (by omega) }

theorem Inv.stepB (I : Inv D na nb nc σ) (h : nb < na) (h' : nb < nc + 4) : Inv D na (nb + 1) nc (sB D.cst nb σ) := by
  have e := I.s nb le_rfl h
  exact
  { I with
    s := fun u h1 h2 => I.s u (by omega) h2
    p := fun u h1 h2 => by
      show cellX (putLanes _ _ _ _) _ _ = _
      by_cases hu : u = nb
      · subst hu
        rw [cellX_putLanes, e, I.m]
        rfl
      · rw [cellX_putLanes_other _ _ _ _ _ _ (cells_ne (by omega) (by omega))]
        exact I.p u h1 (by omega)
    al := fun u h1 h2 => by
      show cellR (putR _ _ _ _) _ _ = _
      by_cases hu : u = nb
      · subst hu
        rw [cellR_same, e, I.m]
        rfl
      · rw [cellR_other _ _ _ _ _ _ (cells_ne (by omega) (by omega))]
        exact I.al u h1 (by omega)
    li := fun u h1 h2 => by
      show cellR (putR _ _ _ _) _ _ = _
      by_cases hu : u = nb
      · subst hu
        rw [cellR_same, e, I.m, I.l]
        rfl
      · rw [cellR_other _ _ _ _ _ _ (cells_ne (by omega) (by omega))]
        exact I.li u h1 (by omega)
    m := by
      show newMax (oldMax (first nb) σ.m) (lanes (cellX σ.s (ca nb) (cb nb))) = _
      rw [e, I.m]
      rfl
    l := by
      show newSum (weigh D.cst (newMax (oldMax (first nb) σ.m) (lanes (cellX σ.s (ca nb) (cb nb)))) (oldMax (first nb) σ.m)) σ.l
        ((lanes (cellX σ.s (ca nb) (cb nb))).map (weigh D.cst (newMax (oldMax (first nb) σ.m) (lanes (cellX σ.s (ca nb) (cb nb)))))) = _
      rw [e, I.m, I.l]
      rfl }

theorem Inv.nextAcc (I : Inv D na nb nc σ) (h : nc < nb) : nextAcc nc σ = Attn.acc D (nc + 1) := by
  unfold Attn.nextAcc
  rw [I.al nc le_rfl h, I.p nc le_rfl h, I.acc, I.v]
  rfl

theorem Inv.stepC (I : Inv D na nb nc σ) (h : nc < nb) (h' : nc < 33) : Inv D na nb (nc + 1) (sC nc σ) :=
  { I with
    p := fun u h1 h2 => I.p u (by omega) h2
    al := fun u h1 h2 => I.al u (by omega) h2
    li := fun u h1 h2 => I.li u (by omega) h2
    acc := I.nextAcc h
    o := fun n hn => by
      show tileO (putO _ _ _) _ = _
      by_cases hu : 3 * n + 2 = nc
      · rw [show nc / 3 = n by omega, tileO_same _ _ _ (by omega), I.nextAcc h, I.li nc le_rfl h, hu]
        rfl
      · rw [tileO_other _ _ _ _ (by omega) (by omega) (by omega)]
        exact I.o n (by omega) }

/-- The output when all items are done. -/
theorem Inv.out (I : Inv D na nb 33 σ) : σ.o = out D := by
  funext i
  have h0 : (i 0).val < 1 := (i 0).isLt
  have h1 : (i 1).val < 4224 := (i 1).isLt
  have e := congrFun (I.o ((i 1).val / 384) (by omega)) (ix2 (n0 := 384) (n1 := 128) ⟨(i 1).val % 384, Nat.mod_lt _ (by norm_num)⟩ (i 2))
  refine Eq.trans (congrArg σ.o (funext fun c => Fin.ext ?_)) e
  fin_cases c
  · show (i 0).val = 0; omega
  · show (i 1).val = (384 * ((i 1).val / 384) + (i 1).val % 384) % 4224; omega
  · rfl

/-! ## The stages run -/

variable {nD : ℕ} {τ : Topo} {sig : RefSig} {Ix : Type} [DecidableEq Ix]
variable {Name : Type} [DecidableEq Name] {U : Type} [URA U] {Lvl : Type} [Preorder Lvl] {Λ : Labels}
variable {c : Dev nD} {M : Mems sig}
variable {defs : Defs nD τ sig (Elt F) Λ} {𝒱 : Variants} {bd : Option 𝒱.V} {E : Set Name}

theorem run_A {a b : Fin 2} {offq offk : Fin 3 → ℕ} {hq hk} (u : ℕ) (hu : u < 33) (ha : a = ca u) (hb : b = cb u)
    (eq : offq = ![0, 384 * (u / 3), 0]) (ek : offk = ![0, 1408 * (u % 3), 0]) :
    Runs defs 𝒱 c bd E (held (τ := τ) (Ix := Ix) (Name := Name) (U := U) (Lvl := Lvl) c M) (stageA M a b offq offk hq hk)
      (fun σ : St F => (⟨⟩, sA u σ)) := by
  subst ha hb
  exact ((run_A1 offq offk hq hk _ _ eq ek (by omega) (by omega)).bind fun x => run_A2 _ _ x).of_eq rfl fun _ => rfl

theorem run_B' {cst : F .f32} {a b : Fin 2} {f : BitVec 1} (u : ℕ) (ha : a = ca u) (hb : b = cb u) (hf : f = first u) :
    Runs defs 𝒱 c bd E (held (τ := τ) (Ix := Ix) (Name := Name) (U := U) (Lvl := Lvl) c M) (stageB M cst a b f)
      (fun σ : St F => (⟨⟩, sB cst u σ)) := by
  subst ha hb hf
  exact run_B _ _ _ _

theorem run_C1' {a b : Fin 2} {offv : Fin 3 → ℕ} {hv} (u : ℕ) (ha : a = ca u) (hb : b = cb u)
    (ev : offv = ![0, 1408 * (u % 3), 0]) :
    Runs defs 𝒱 c bd E (held (τ := τ) (Ix := Ix) (Name := Name) (U := U) (Lvl := Lvl) c M) (stageC1 M a b offv hv)
      (fun σ : St F => (nextAcc u σ, σ)) := by
  subst ha hb
  exact run_C1 _ _ offv hv _ ev (by omega)

theorem run_C {a b : Fin 2} {offv offo : Fin 3 → ℕ} {hv ho po} (u : ℕ) (ha : a = ca u) (hb : b = cb u)
    (ev : offv = ![0, 1408 * (u % 3), 0]) (eo : offo = ![0, 384 * (u / 3), 0]) :
    Runs defs 𝒱 c bd E (held (τ := τ) (Ix := Ix) (Name := Name) (U := U) (Lvl := Lvl) c M) (stageC M a b offv offo hv ho po)
      (fun σ : St F => (⟨⟩, sC u σ)) := by
  subst ha hb
  exact ((run_C1' u rfl rfl ev).bind fun x => run_C2 _ _ offo ho po _ eo x).of_eq rfl fun _ => rfl

/-- A round of the loop on the state. -/
def sRound (cst : F .f32) (t : ℕ) (σ : St F) : St F :=
  sC (2 * t + 1) (sB cst (2 * t + 3) (sA (2 * t + 5) (sC (2 * t) (sB cst (2 * t + 2) (sA (2 * t + 4) σ)))))

theorem Inv.round {t : ℕ} (ht : t < 14) (I : Inv D (2 * t + 4) (2 * t + 2) (2 * t) σ) :
    Inv D (2 * (t + 1) + 4) (2 * (t + 1) + 2) (2 * (t + 1)) (sRound D.cst t σ) :=
  ((((((I.stepA (by omega)).stepB (by omega) (by omega)).stepC (by omega) (by omega)).stepA (by omega)).stepB (by omega) (by omega)).stepC (by omega) (by omega))

theorem run_round {cst : F .f32} {a a' : Fin 2} {offq offk offv offo : Fin 2 → Fin 3 → ℕ} {f : Fin 2 → BitVec 1} {hq hk hv ho po} (t : ℕ) (ht : t < 14)
    (ha : a.val = t % 2) (ha' : a'.val = (t + 1) % 2)
    (eq : ∀ b : Fin 2, offq b = ![0, 384 * ((2 * t + b.val + 4) / 3), 0]) (ek : ∀ b : Fin 2, offk b = ![0, 1408 * ((2 * t + b.val + 4) % 3), 0])
    (ev : ∀ b : Fin 2, offv b = ![0, 1408 * ((2 * t + b.val) % 3), 0]) (eo : ∀ b : Fin 2, offo b = ![0, 384 * ((2 * t + b.val) / 3), 0])
    (ef : ∀ b : Fin 2, f b = first (2 * t + b.val + 2)) :
    Runs defs 𝒱 c bd E (held (τ := τ) (Ix := Ix) (Name := Name) (U := U) (Lvl := Lvl) c M) (round M cst a a' offq offk offv offo f hq hk hv ho po)
      (fun σ : St F => (⟨⟩, sRound cst t σ)) :=
  ((run_A (2 * t + 4) (by omega) (Fin.ext (by simp only [ca]; omega)) (Fin.ext (by simp [cb])) (eq 0) (ek 0)).bind fun _ =>
   (run_B' (2 * t + 2) (Fin.ext (by simp only [ca]; omega)) (Fin.ext (by simp [cb])) (ef 0)).bind fun _ =>
   (run_C (2 * t) (Fin.ext (by simp only [ca]; omega)) (Fin.ext (by simp [cb])) (ev 0) (eo 0)).bind fun _ =>
   (run_A (2 * t + 5) (by omega) (Fin.ext (by simp only [ca]; omega)) (Fin.ext (by simp only [cb]; show 1 = _; omega)) (eq 1) (ek 1)).bind fun _ =>
   (run_B' (2 * t + 3) (Fin.ext (by simp only [ca]; omega)) (Fin.ext (by simp only [cb]; show 1 = _; omega)) (ef 1)).bind fun _ =>
   run_C (2 * t + 1) (Fin.ext (by simp only [ca]; omega)) (Fin.ext (by simp only [cb]; show 1 = _; omega)) (ev 1) (eo 1)).of_eq rfl fun _ => rfl

/-- The running blocks begun. -/
def sStart (σ : St F) : St F :=
  { σ with
    m := broadcast Sr (Scalar.ofBits .f32 0xFF800000#32)
    l := broadcast Sr (Scalar.ofBits .f32 0x00000000#32)
    acc := broadcast Sr (Scalar.ofBits .f32 0x00000000#32) }

theorem Inv.start (hq : σ.q = D.q) (hk : σ.k = D.k) (hv : σ.v = D.v) : Inv D 0 0 0 (sStart σ) where
  q := hq
  k := hk
  v := hv
  s := fun u _ h => absurd h (Nat.not_lt_zero _)
  p := fun u _ h => absurd h (Nat.not_lt_zero _)
  al := fun u _ h => absurd h (Nat.not_lt_zero _)
  li := fun u _ h => absurd h (Nat.not_lt_zero _)
  m := rfl
  l := rfl
  acc := rfl
  o := fun n h => absurd h (Nat.not_lt_zero _)

def sBefore (cst : F .f32) (σ : St F) : St F := sB cst 1 (sA 3 (sB cst 0 (sA 2 (sA 1 (sA 0 (sStart σ))))))

theorem Inv.before (hq : σ.q = D.q) (hk : σ.k = D.k) (hv : σ.v = D.v) : Inv D 4 2 0 (sBefore D.cst σ) :=
  ((((((Inv.start hq hk hv).stepA (by omega)).stepA (by omega)).stepA (by omega)).stepB (by omega) (by omega)).stepA (by omega)).stepB (by omega) (by omega)

theorem run_before (cst : F .f32) :
    Runs defs 𝒱 c bd E (held (τ := τ) (Ix := Ix) (Name := Name) (U := U) (Lvl := Lvl) c M) (before M cst)
      (fun σ : St F => (⟨⟩, sBefore cst σ)) :=
  (run_start.bind fun _ => (run_A 0 (by omega) rfl rfl rfl rfl).bind fun _ => (run_A 1 (by omega) rfl rfl rfl rfl).bind fun _ =>
   (run_A 2 (by omega) rfl rfl rfl rfl).bind fun _ => (run_B' 0 rfl rfl rfl).bind fun _ => (run_A 3 (by omega) rfl rfl rfl rfl).bind fun _ =>
   run_B' 1 rfl rfl rfl).of_eq rfl fun _ => rfl

def sAfter (cst : F .f32) (σ : St F) : St F :=
  sC 32 (sC 31 (sC 30 (sB cst 32 (sC 29 (sB cst 31 (sC 28 (sB cst 30 (sA 32 σ))))))))

theorem Inv.after (I : Inv D 32 30 28 σ) : Inv D 33 33 33 (sAfter D.cst σ) :=
  ((((((((I.stepA (by omega)).stepB (by omega) (by omega)).stepC (by omega) (by omega)).stepB (by omega) (by omega)).stepC (by omega) (by omega)).stepB
    (by omega) (by omega)).stepC (by omega) (by omega)).stepC (by omega) (by omega)).stepC (by omega) (by omega)

/-- The body runs when its loop does. -/
theorem body_run {loop : Prog (TpuEff nD τ sig (Elt F) Λ .tc) PUnit}
    (hloop : ∀ (β : Type) (K : PUnit → Prog (TpuEff nD τ sig (Elt F) Λ .tc) β) (Q : β → sProp (MT nD τ sig Ix (Elt F) Name U Lvl)) (σ : St F),
      Inv D 4 2 0 σ → held c M σ ⊢ iprop((∀ σ' : St F, ⌜Inv D 32 30 28 σ'⌝ -∗ held c M σ' -∗ wp frame (wpE defs 𝒱 (c : Thread nD τ) bd) E (K ⟨⟩) Q)
        -∗ wp frame (wpE defs 𝒱 (c : Thread nD τ) bd) E (loop >>= K) Q))
    (hq : σ.q = D.q) (hk : σ.k = D.k) (hv : σ.v = D.v) (Q : PUnit → sProp (MT nD τ sig Ix (Elt F) Name U Lvl)) :
    held c M σ ⊢ iprop((∀ σ' : St F, ⌜Inv D 33 33 33 σ'⌝ -∗ held c M σ' -∗ Q ⟨⟩)
      -∗ wp frame (wpE defs 𝒱 (c : Thread nD τ) bd) E (body M D.cst loop) Q) := by
  have hrest : Runs defs 𝒱 c bd E (held (τ := τ) (Ix := Ix) (Name := Name) (U := U) (Lvl := Lvl) c M)
      ((stageA1 M ![0, 384 * ((32 : Fin 33).val / 3), 0] ![0, 1408 * ((32 : Fin 33).val % 3), 0] (inb_q 32) (inb_k 32) >>= middle M D.cst) >>=
        stageC2 M 0 0 ![0, 384 * ((32 : Fin 33).val / 3), 0] (inb_o 32) (packed_o 32)) (fun σ : St F => (⟨⟩, sAfter D.cst σ)) :=
    (((run_A1 _ _ _ _ 10 2 rfl rfl (by omega) (by omega)).bind fun x => (run_A2 0 0 x).bind fun _ => (run_B' 30 rfl rfl rfl).bind fun _ =>
      (run_C 28 rfl rfl rfl rfl).bind fun _ => (run_B' 31 rfl rfl rfl).bind fun _ => (run_C 29 rfl rfl rfl rfl).bind fun _ =>
      (run_B' 32 rfl rfl rfl).bind fun _ => (run_C 30 rfl rfl rfl rfl).bind fun _ => (run_C 31 rfl rfl rfl rfl).bind fun _ =>
      run_C1' 32 rfl rfl rfl).bind fun x => run_C2 0 0 _ _ _ 10 rfl x).of_eq rfl fun _ => rfl
  have e : body M D.cst loop = before M D.cst >>= fun _ => loop >>= fun _ =>
      (stageA1 M ![0, 384 * ((32 : Fin 33).val / 3), 0] ![0, 1408 * ((32 : Fin 33).val % 3), 0] (inb_q 32) (inb_k 32) >>= middle M D.cst) >>=
        stageC2 M 0 0 ![0, 384 * ((32 : Fin 33).val / 3), 0] (inb_o 32) (packed_o 32) := by
    unfold body
    simp only [Prog.bind_assoc]
  rw [e]
  iintro H HQ
  iapply (run_before D.cst _ _ Q σ) $$ H
  iintro H
  iapply (hloop _ _ Q _ (Inv.before hq hk hv)) $$ H
  iintro %σ' %hI H
  iapply (hrest.wp σ' Q)
  isplitl [H]; · iexact H
  iintro H
  iapply HQ $$ %_ %(hI.after) H

end Attn

end
-- ==== Proof.Attn.Body6.lean ====
module

public import proofs.«01_k».proof.Proof.Attn.Stages
public import proofs.«01_k».proof.Proof.Gen.Kernel6Ideal.Frame

@[expose] public section

noncomputable section

namespace Cert.Kernel6Ideal.Attn

open Idealize.ShloMosaic Idealize.SL.Sem _root_.Attn
variable {F : FTy → Type} [FloatOps F] [Named F]

/-- The kernel's memrefs. -/
def mems (arg2 arg3 : Memref sig .tc .vmem S1x4224x256 .bf16) (arg4 arg5 : Memref sig .tc .vmem S1x4224x128 .bf16) (harg5 : arg5.IsWhole)
    (arg6 : Memref sig .tc .vmem S2x2x384x1408 .f32) (arg7 : Memref sig .tc .vmem S2x2x384x1408 .bf16) (harg7 : arg7.IsWhole)
    (arg8 arg9 : Memref sig .tc .vmem S2x2x384x128 .f32) (arg10 arg11 arg12 : Memref sig .tc .vmem S384x128 .f32) : Mems sig :=
  ⟨arg2, arg3, arg4, arg5, arg6, arg7, arg8, arg9, arg10, arg11, arg12, harg5, harg7⟩

/-- Whether a loop round's item is a tile's first. -/
def isFirst (t : Fin k0_t1_loop.trips) (b : Fin 2) : BitVec 1 :=
  let u := Scalar.addi (Scalar.subi (Scalar.muli 2#32 (Scf.iv 2#32 1#32 t)) 2#32) (BitVec.ofNat 32 b.val)
  Scalar.cmpi .eq (Scalar.subi u (Scalar.muli (Scalar.divsi u 3#32) 3#32)) 0#32

/-- A round of the loop. -/
def trip (M : Mems sig) (cst : F .f32) (t : Fin k0_t1_loop.trips) : Prog (TpuEff nD τ sig (Elt F) Λ₀ .tc) PUnit := do
  if h1 : k0_cond1 t = 1#1 then
    round M cst 0 1 (fun b => k0_off1 t (BitVec.ofNat 32 b.val)) (fun b => k0_off2 t (BitVec.ofNat 32 b.val)) (fun b => k0_off3 t (BitVec.ofNat 32 b.val))
      (fun b => k0_off4 t (BitVec.ofNat 32 b.val)) (isFirst t) (fun b => Gen.k0_off1_inb t h1 b) (fun b => Gen.k0_off2_inb t h1 b)
      (fun b => Gen.k0_off3_inb t h1 b) (fun b => Gen.k0_off4_inb t h1 b) (fun b => Gen.k0_off4_packedbf16 t h1 b)
  else pure ⟨⟩
  if h2 : k0_cond2 t = 1#1 then
    round M cst 1 0 (fun b => k0_off5 t (BitVec.ofNat 32 b.val)) (fun b => k0_off6 t (BitVec.ofNat 32 b.val)) (fun b => k0_off7 t (BitVec.ofNat 32 b.val))
      (fun b => k0_off8 t (BitVec.ofNat 32 b.val)) (isFirst t) (fun b => Gen.k0_off5_inb t h2 b) (fun b => Gen.k0_off6_inb t h2 b)
      (fun b => Gen.k0_off7_inb t h2 b) (fun b => Gen.k0_off8_inb t h2 b) (fun b => Gen.k0_off8_packedbf16 t h2 b)
  else pure ⟨⟩
  pure ⟨⟩

set_option maxRecDepth 65536 in
set_option maxHeartbeats 0 in
/-- The kernel's body in stages. -/
theorem body_eq (i : grid0.Coords) (arg2 : Memref sig .tc .vmem S1x4224x256 .bf16) (harg2 : arg2.IsWhole) (arg3 : Memref sig .tc .vmem S1x4224x256 .bf16) (harg3 : arg3.IsWhole) (arg4 : Memref sig .tc .vmem S1x4224x128 .bf16) (harg4 : arg4.IsWhole) (arg5 : Memref sig .tc .vmem S1x4224x128 .bf16) (harg5 : arg5.IsWhole) (arg6 : Memref sig .tc .vmem S2x2x384x1408 .f32) (harg6 : arg6.IsWhole) (arg7 : Memref sig .tc .vmem S2x2x384x1408 .bf16) (harg7 : arg7.IsWhole) (arg8 : Memref sig .tc .vmem S2x2x384x128 .f32) (harg8 : arg8.IsWhole) (arg9 : Memref sig .tc .vmem S2x2x384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) :
    cc0_mla_attn (F := F) i arg2 harg2 arg3 harg3 arg4 harg4 arg5 harg5 arg6 harg6 arg7 harg7 arg8 harg8 arg9 harg9 arg10 harg10 arg11 harg11 arg12 harg12 =
      body (mems arg2 arg3 arg4 arg5 harg5 arg6 arg7 harg7 arg8 arg9 arg10 arg11 arg12) (Named.named κ "scale_log2_e" 0x3DD53B95#32)
        (Scf.Loop.for k0_t1_loop Gen.k0_t1_ok ⟨⟩ fun t _ => trip (mems arg2 arg3 arg4 arg5 harg5 arg6 arg7 harg7 arg8 arg9 arg10 arg11 arg12) (Named.named κ "scale_log2_e" 0x3DD53B95#32) t) := by
  rfl

end Cert.Kernel6Ideal.Attn

end
-- ==== Proof.Attn.Frame6.lean ====
/- The attention kernel's run: its loop, its body, and the whole call. -/
module

public import proofs.«01_k».proof.Proof.Attn.Body6
public import proofs.«01_k».proof.Proof.Attn.Inv
public import Idealize.ShloMosaic.Lib.Claim

@[expose] public section

set_option maxRecDepth 16384

noncomputable section

namespace Cert.Kernel6Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open _root_.Attn Cert.Kernel6Ideal.Gen

variable {F : FTy → Type} [FloatOps F] [Named F]

/-! ## The loop -/

theorem trips_eq : k0_t1_loop.trips = 14 := by decide +kernel
theorem cond1_even : ∀ t : Fin k0_t1_loop.trips, t.val % 2 = 0 → k0_cond1 t = 1#1 := by decide +kernel
theorem cond1_odd : ∀ t : Fin k0_t1_loop.trips, t.val % 2 = 1 → ¬ k0_cond1 t = 1#1 := by decide +kernel
theorem cond2_even : ∀ t : Fin k0_t1_loop.trips, t.val % 2 = 0 → ¬ k0_cond2 t = 1#1 := by decide +kernel
theorem cond2_odd : ∀ t : Fin k0_t1_loop.trips, t.val % 2 = 1 → k0_cond2 t = 1#1 := by decide +kernel
theorem off2_eq : ∀ t : Fin k0_t1_loop.trips, ∀ r : Fin 2, k0_off2 t (BitVec.ofNat 32 r.val) = ![0, 1408 * ((2 * t.val + r.val + 4) % 3), 0] := by decide +kernel
theorem off3_eq : ∀ t : Fin k0_t1_loop.trips, ∀ r : Fin 2, k0_off3 t (BitVec.ofNat 32 r.val) = ![0, 1408 * ((2 * t.val + r.val) % 3), 0] := by decide +kernel
theorem off6_eq : ∀ t : Fin k0_t1_loop.trips, ∀ r : Fin 2, k0_off6 t (BitVec.ofNat 32 r.val) = ![0, 1408 * ((2 * t.val + r.val + 4) % 3), 0] := by decide +kernel
theorem off7_eq : ∀ t : Fin k0_t1_loop.trips, ∀ r : Fin 2, k0_off7 t (BitVec.ofNat 32 r.val) = ![0, 1408 * ((2 * t.val + r.val) % 3), 0] := by decide +kernel
theorem first_eq : ∀ t : Fin k0_t1_loop.trips, ∀ r : Fin 2, isFirst t r = first (2 * t.val + r.val + 2) := by decide +kernel

variable {M : Mems sig} {c : Dev nD} {E : Set ℕ} {D : In F}

theorem run_trip (t : Fin k0_t1_loop.trips) :
    Runs (Ix := Unit) (Name := ℕ) (U := UR sig nD τ) (Lvl := ℕ) (defs₀ (F := F)) Variants.none c none E (held (F := F) c M) (trip M D.cst t) (fun σ => (⟨⟩, sRound D.cst t.val σ)) := by
  have ht : t.val < 14 := lt_of_lt_of_eq t.isLt trips_eq
  rcases Nat.mod_two_eq_zero_or_one t.val with h | h
  · unfold trip
    rw [dif_pos (cond1_even t h), dif_neg (cond2_even t h)]
    exact ((run_round t.val ht (by simp [h]) (by simp; omega) (k0_off1_eq t) (off2_eq t) (off3_eq t) (k0_off4_eq t) (first_eq t)).bind
      fun _ => (Runs.pure (PUnit.unit : PUnit.{1})).bind fun _ => Runs.pure (PUnit.unit : PUnit.{1})).of_eq rfl fun _ => rfl
  · unfold trip
    rw [dif_neg (cond1_odd t h), dif_pos (cond2_odd t h)]
    exact ((Runs.pure (PUnit.unit : PUnit.{1})).bind fun _ => (run_round (hq := fun b => Gen.k0_off5_inb t (cond2_odd t h) b) (hk := fun b => Gen.k0_off6_inb t (cond2_odd t h) b)
      (hv := fun b => Gen.k0_off7_inb t (cond2_odd t h) b) (ho := fun b => Gen.k0_off8_inb t (cond2_odd t h) b)
      (po := fun b => Gen.k0_off8_packedbf16 t (cond2_odd t h) b) t.val ht (by simp [h]) (by simp; omega) (k0_off5_eq t) (off6_eq t) (off7_eq t) (k0_off8_eq t) (first_eq t)).bind
      fun _ => Runs.pure (PUnit.unit : PUnit.{1})).of_eq rfl fun _ => rfl

/-- The loop takes the state before it to the state after it. -/
theorem loop_run (β : Type) (K : PUnit → Prog (TpuEff nD τ sig (Elt F) Λ₀ .tc) β) (Q : β → sProp (MT nD τ sig Unit (Elt F) ℕ (UR sig nD τ) ℕ)) (σ : St F)
    (hI : Inv D 4 2 0 σ) :
    held c M σ ⊢ iprop((∀ σ' : St F, ⌜Inv D 32 30 28 σ'⌝ -∗ held c M σ' -∗ wp frame (wpE (defs₀ (F := F)) Variants.none (c : Thread nD τ) none) E (K ⟨⟩) Q)
      -∗ wp frame (wpE (defs₀ (F := F)) Variants.none (c : Thread nD τ) none) E
        (Scf.Loop.for k0_t1_loop k0_t1_ok PUnit.unit (fun t _ => trip M D.cst t) >>= K) Q) := by
  have h := Scf.wp_for_bind frame (wpE (defs₀ (F := F)) Variants.none (c : Thread nD τ) none) E k0_t1_loop.lb k0_t1_loop.ub k0_t1_loop.st k0_t1_ok PUnit.unit
    (fun t _ => trip M D.cst t) (fun k _ => iprop(∃ σ : St F, ⌜Inv D (2 * k + 4) (2 * k + 2) (2 * k) σ⌝ ∗ held c M σ))
    (fun t _ => by
      have ht : t.val < 14 := lt_of_lt_of_eq t.isLt trips_eq
      iintro ⟨%σ, %hσ, H⟩
      iapply ((run_trip t).wp σ _)
      isplitl [H]; · iexact H
      iintro H
      iexists _
      isplitr; · ipureintro; exact hσ.round ht
      iexact H) (kk := K) (Q := Q)
  iintro H HK
  iapply h $$ [H]
  · iexists σ
    isplitr; · ipureintro; exact hI
    iexact H
  iintro %_ ⟨%σ', %hσ, H⟩
  iapply HK $$ %σ' [] H
  ipureintro
  have e : Scf.trips k0_t1_loop.lb k0_t1_loop.ub k0_t1_loop.st = 14 := trips_eq
  rw [e] at hσ
  exact hσ

/-! ## The body -/

/-- The inputs of a point, from its blocks. -/
def inp (x0 : Vec F S1x4224x256 .bf16) (x1 : Vec F S1x4224x256 .bf16) (x2 : Vec F S1x4224x128 .bf16) : In F :=
  ⟨Named.named κ "scale_log2_e" 0x3DD53B95#32, x0, x1, x2⟩

/-- The body leaves the output computed from the blocks. -/
theorem sound_kernel (c : Dev nD) (E : Set ℕ) (i : grid0.Coords) (arg2 : Memref sig .tc .vmem S1x4224x256 .bf16) (harg2 : arg2.IsWhole) (arg3 : Memref sig .tc .vmem S1x4224x256 .bf16) (harg3 : arg3.IsWhole) (arg4 : Memref sig .tc .vmem S1x4224x128 .bf16) (harg4 : arg4.IsWhole) (arg5 : Memref sig .tc .vmem S1x4224x128 .bf16) (harg5 : arg5.IsWhole) (arg6 : Memref sig .tc .vmem S2x2x384x1408 .f32) (harg6 : arg6.IsWhole) (arg7 : Memref sig .tc .vmem S2x2x384x1408 .bf16) (harg7 : arg7.IsWhole) (arg8 : Memref sig .tc .vmem S2x2x384x128 .f32) (harg8 : arg8.IsWhole) (arg9 : Memref sig .tc .vmem S2x2x384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole)
    (x0 : Vec F S1x4224x256 .bf16) (x1 : Vec F S1x4224x256 .bf16) (x2 : Vec F S1x4224x128 .bf16) (K : PUnit → sProp (MT nD τ sig Unit (Elt F) ℕ (UR sig nD τ) ℕ)) :
    iprop((∃ f, owns (c : Thread nD τ) arg6 fullShare f) ∗ (∃ f, owns (c : Thread nD τ) arg7 fullShare f) ∗ (∃ f, owns (c : Thread nD τ) arg8 fullShare f)
        ∗ (∃ f, owns (c : Thread nD τ) arg9 fullShare f) ∗ (∃ f, owns (c : Thread nD τ) arg10 fullShare f) ∗ (∃ f, owns (c : Thread nD τ) arg11 fullShare f)
        ∗ (∃ f, owns (c : Thread nD τ) arg12 fullShare f)
        ∗ owns (c : Thread nD τ) arg2 fullShare x0 ∗ owns (c : Thread nD τ) arg3 fullShare x1 ∗ owns (c : Thread nD τ) arg4 fullShare x2
        ∗ (∃ d, owns (c : Thread nD τ) arg5 fullShare d)
        ∗ (iprop((∃ f, owns (c : Thread nD τ) arg6 fullShare f) ∗ (∃ f, owns (c : Thread nD τ) arg7 fullShare f) ∗ (∃ f, owns (c : Thread nD τ) arg8 fullShare f)
          ∗ (∃ f, owns (c : Thread nD τ) arg9 fullShare f) ∗ (∃ f, owns (c : Thread nD τ) arg10 fullShare f) ∗ (∃ f, owns (c : Thread nD τ) arg11 fullShare f)
          ∗ (∃ f, owns (c : Thread nD τ) arg12 fullShare f)
          ∗ owns (c : Thread nD τ) arg2 fullShare x0 ∗ owns (c : Thread nD τ) arg3 fullShare x1 ∗ owns (c : Thread nD τ) arg4 fullShare x2
          ∗ owns (c : Thread nD τ) arg5 fullShare (out (inp x0 x1 x2))) -∗ K ⟨⟩))
      ⊢ wp frame (wpE (defs₀ (F := F)) Variants.none c none) E
        (cc0_mla_attn i arg2 harg2 arg3 harg3 arg4 harg4 arg5 harg5 arg6 harg6 arg7 harg7 arg8 harg8 arg9 harg9 arg10 harg10 arg11 harg11 arg12 harg12) K := by
  rw [body_eq]
  iintro ⟨⟨%f6, H6⟩, ⟨%f7, H7⟩, ⟨%f8, H8⟩, ⟨%f9, H9⟩, ⟨%f10, H10⟩, ⟨%f11, H11⟩, ⟨%f12, H12⟩, H2, H3, H4, ⟨%d, H5⟩, HK⟩
  iapply (body_run (D := inp x0 x1 x2) (c := c) (E := E) (M := mems arg2 arg3 arg4 arg5 harg5 arg6 arg7 harg7 arg8 arg9 arg10 arg11 arg12)
    (σ := ⟨x0, x1, x2, d, f6, f7, f8, f9, f10, f11, f12⟩) (fun β K Q σ hI => loop_run β K Q σ hI) rfl rfl rfl K) $$ [H2 H3 H4 H5 H6 H7 H8 H9 H10 H11 H12]
  · unfold held
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %σ %hσ H
  unfold held
  rw [hσ.out, hσ.q, hσ.k, hσ.v]
  icases H with ⟨H2, H3, H4, H5, H6, H7, H8, H9, H10, H11, H12⟩
  iapply HK
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H2]; · iexact H2
  isplitl [H3]; · iexact H3
  isplitl [H4]; · iexact H4
  iexact H5

/-! ## The pipeline -/

variable (m : (ℓ : Loc nD τ sig) → Buf (Elt F) ℓ) (ρ : Dev nD → PrngReg)

/-- The pipeline's data: the arrays as launched, the inputs' blocks kept, the output's block computed from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (inp (iblk m c 0 t) (iblk m c 1 t) (iblk m c 2 t))
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out (inp (iblk m c 0 t) (iblk m c 1 t) (iblk m c 2 t)) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-- The scratch buffers, each owned at some contents. -/
def scratch (c : Dev nD) : sProp (MT nD τ sig Unit (Elt F) ℕ (UR sig nD τ) ℕ) :=
  iprop((∃ f, owns (c : Thread nD τ) (Memref.whole cc0_scratch0) fullShare f) ∗ (∃ f, owns (c : Thread nD τ) (Memref.whole cc0_scratch1) fullShare f)
    ∗ (∃ f, owns (c : Thread nD τ) (Memref.whole cc0_scratch2) fullShare f) ∗ (∃ f, owns (c : Thread nD τ) (Memref.whole cc0_scratch3) fullShare f)
    ∗ (∃ f, owns (c : Thread nD τ) (Memref.whole cc0_scratch4) fullShare f) ∗ (∃ f, owns (c : Thread nD τ) (Memref.whole cc0_scratch5) fullShare f)
    ∗ (∃ f, owns (c : Thread nD τ) (Memref.whole cc0_scratch6) fullShare f))

theorem inv_eq (c : Dev nD) : (Pipeline.ΦA spec0 c : sProp (MT nD τ sig Unit (Elt F) ℕ (UR sig nD τ) ℕ)) = iprop(scratch c ∗ ∃ r, prngReg c r) := by
  unfold Pipeline.ΦA scratch
  rw [scopedRest0_eq]
  simp only [owns_whole]

/-- What the body is called with at a point, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (Pipeline.ΦA spec0 c : sProp (MT nD τ sig Unit (Elt F) ℕ (UR sig nD τ) ℕ)) from rfl,
    show (dats m 0 c).Φ t.castSucc = (Pipeline.ΦA spec0 c : sProp (MT nD τ sig Unit (Elt F) ℕ (UR sig nD τ) ℕ)) from rfl,
    show (dats m 0 c).owesAt () t.succ = (dats m 0 c).owesAt () t.castSucc from rfl,
    after0_0, after0_1, after0_2, after0_3, inv_eq]
  unfold scratch
  iintro ⟨⟨⟨S0, S1, S2, S3, S4, S5, S6⟩, Hρ⟩, Ho, ⟨%d0, H0⟩, ⟨%d1, H1⟩, ⟨%d2, H2⟩, ⟨%d3, H3⟩⟩
  iapply (sound_kernel c Set.univ (grid0.coords t) _ _ _ _ _ _ _ _ _ _ _ _ _ _ _ _ _ _ _ _ _ _ (iblk m c 0 t) (iblk m c 1 t) (iblk m c 2 t) _)
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [H0]; · iexact H0
  isplitl [H1]; · iexact H1
  isplitl [H2]; · iexact H2
  isplitl [H3]; · iexists _; iexact H3
  iintro ⟨S0, S1, S2, S3, S4, S5, S6, H0, H1, H2, H3⟩
  isplitl [S0 S1 S2 S3 S4 S5 S6 Hρ]
  · isplitr [Hρ]; swap; · iexact Hρ
    isplitl [S0]; · iexact S0
    isplitl [S1]; · iexact S1
    isplitl [S2]; · iexact S2
    isplitl [S3]; · iexact S3
    isplitl [S4]; · iexact S4
    isplitl [S5]; · iexact S5
    iexact S6
  isplitl [Ho]; · iexact Ho
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
theorem run_both : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_both m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every run ends, with the arguments as they began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_both m ρ))

end Cert.Kernel6Ideal.Attn

end
-- ==== Proof.Attn.Online.lean ====
/-
  The mathematics of the running softmax: the scores `s` of one row of queries come 1408 at a time; the running maximum,
  the running sum of the weights (in 128 lanes) and the running weighted sum of the values are rescaled whenever the
  maximum grows. The values `v` may be infinite; the scores are real.
-/
module

public import Idealize.ShloMosaic.PureOps.Ideal

@[expose] public section

noncomputable section

namespace Attn

open Idealize.ShloMosaic

/-! ## Sums and maxima -/

/-- A sum of eleven, in the order in which it is added. -/
def sum11 (g : Fin 11 → EReal) : EReal := g 0 + g 1 + g 2 + g 3 + g 4 + g 5 + g 6 + g 7 + g 8 + g 9 + g 10

/-- A maximum of eleven, in the order in which it is taken. -/
def max11 (g : Fin 11 → EReal) : EReal :=
  max (max (max (max (max (max (max (max (max (max (g 0) (g 1)) (g 2)) (g 3)) (g 4)) (g 5)) (g 6)) (g 7)) (g 8)) (g 9)) (g 10)

theorem le_max11 (g : Fin 11 → EReal) (a : Fin 11) : g a ≤ max11 g := by
  unfold max11
  fin_cases a <;> simp [le_max_iff]

theorem max11_le (g : Fin 11 → EReal) (c : EReal) (h : ∀ a, g a ≤ c) : max11 g ≤ c := by
  unfold max11
  simp [max_le_iff, h]

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem sum11_coe (f : ℕ → ℝ) : sum11 (fun a => ((f a.val : ℝ) : EReal)) = ((∑ a ∈ Finset.range 11, f a : ℝ) : EReal) := by
  simp only [sum11, Finset.sum_range_succ, Finset.sum_range_zero, zero_add, EReal.coe_add]
  rfl

theorem mul_sum {ι : Type*} (r : ℝ) (hr : 0 ≤ r) (t : Finset ι) (f : ι → EReal) : (r : EReal) * ∑ i ∈ t, f i = ∑ i ∈ t, (r : EReal) * f i := by
  classical
  induction t using Finset.induction_on with
  | empty => simp
  | insert a t ha ih =>
    rw [Finset.sum_insert ha, Finset.sum_insert ha,
      EReal.left_distrib_of_nonneg_of_ne_top (by exact_mod_cast hr) (EReal.coe_ne_top r), ih]

/-- A sum over 33 blocks of 128, lane by lane. -/
theorem sum_lanes (f : ℕ → ℝ) (A : ℕ) :
    ∑ j : Fin 128, ∑ a ∈ Finset.range A, f (128 * a + j.val) = ∑ n ∈ Finset.range (128 * A), f n := by
  induction A with
  | zero => simp
  | succ A ih =>
    simp only [Finset.sum_range_succ, Finset.sum_add_distrib]
    rw [ih, Nat.mul_succ, Finset.sum_range_add, Fin.sum_univ_eq_sum_range (fun j => f (128 * A + j))]

/-! ## The maximum -/

/-- `M` is the maximum of the first `N` scores. -/
structure IsMax (s : ℕ → ℝ) (N : ℕ) (M : ℝ) : Prop where
  le : ∀ n, n < N → s n ≤ M
  hit : ∃ n, n < N ∧ s n = M

/-- The maximum of a tile: 128 lanes of eleven scores. -/
theorem tile_max (s : ℕ → ℝ) (N : ℕ) (g : Fin 128 → Fin 11 → EReal) (hg : ∀ j a, g j a = ((s (N + (128 * a.val + j.val)) : ℝ) : EReal)) :
    ∃ X : ℝ, (Finset.univ.fold max ⊥ fun j : Fin 128 => max11 (g j)) = (X : EReal) ∧ (∀ n, n < 1408 → s (N + n) ≤ X) ∧ ∃ n, n < 1408 ∧ s (N + n) = X := by
  obtain ⟨n0, h0, hmax⟩ := Finset.exists_max_image (Finset.range 1408) (fun n => s (N + n)) ⟨0, by simp⟩
  have h0 : n0 < 1408 := Finset.mem_range.1 h0
  refine ⟨s (N + n0), le_antisymm ?_ ?_, fun n hn => hmax n (Finset.mem_range.2 hn), n0, h0, rfl⟩
  · refine Finset.fold_max_le (s (N + n0) : EReal) |>.2 ⟨bot_le, fun j _ => max11_le _ _ fun a => ?_⟩
    rw [hg]
    have h1 := a.isLt
    have h2 := j.isLt
    exact_mod_cast hmax (128 * a.val + j.val) (Finset.mem_range.2 (by omega))
  · refine Finset.le_fold_max (s (N + n0) : EReal) |>.2 (.inr ⟨⟨n0 % 128, Nat.mod_lt _ (by norm_num)⟩, Finset.mem_univ _, ?_⟩)
    refine le_trans (le_of_eq ?_) (le_max11 _ ⟨n0 / 128, by omega⟩)
    rw [hg]
    congr 3
    show n0 = 128 * (n0 / 128) + n0 % 128
    omega

/-- The first tile's maximum. -/
theorem max_first (s : ℕ → ℝ) (g : Fin 128 → Fin 11 → EReal) (hg : ∀ j a, g j a = ((s (0 + (128 * a.val + j.val)) : ℝ) : EReal)) :
    ∃ M : ℝ, max ⊥ (Finset.univ.fold max ⊥ fun j : Fin 128 => max11 (g j)) = (M : EReal) ∧ IsMax s 1408 M := by
  obtain ⟨X, hX, h1, n, hn, h2⟩ := tile_max s 0 g hg
  simp only [zero_add] at h1 h2
  exact ⟨X, by rw [hX]; exact max_eq_right bot_le, h1, n, hn, h2⟩

/-- A further tile's maximum. -/
theorem max_next (s : ℕ → ℝ) (N : ℕ) (M : ℝ) (hM : IsMax s N M) (g : Fin 128 → Fin 11 → EReal)
    (hg : ∀ j a, g j a = ((s (N + (128 * a.val + j.val)) : ℝ) : EReal)) :
    ∃ M' : ℝ, max (M : EReal) (Finset.univ.fold max ⊥ fun j : Fin 128 => max11 (g j)) = (M' : EReal) ∧ IsMax s (N + 1408) M' := by
  obtain ⟨X, hX, h1, n, hn, h2⟩ := tile_max s N g hg
  refine ⟨max M X, ?_, ?_, ?_⟩
  · rw [hX]
    rcases le_total M X with h | h
    · rw [max_eq_right h, max_eq_right (by exact_mod_cast h)]
    · rw [max_eq_left h, max_eq_left (by exact_mod_cast h)]
  · intro i hi
    by_cases h : i < N
    · exact le_trans (hM.le i h) (le_max_left _ _)
    · have := h1 (i - N) (by omega)
      rw [Nat.add_sub_cancel' (by omega)] at this
      exact le_trans this (le_max_right _ _)
  · rcases le_total M X with h | h
    · exact ⟨N + n, by omega, by rw [h2, max_eq_right h]⟩
    · obtain ⟨i, hi, e⟩ := hM.hit
      exact ⟨i, by omega, by rw [e, max_eq_left h]⟩

/-! ## The weights -/

/-- The power of two of a scaled difference. -/
def wt (c : ℝ) (s : ℕ → ℝ) (M : ℝ) (n : ℕ) : ℝ := (2 : ℝ) ^ ((s n - M) * c)

theorem wt_pos (c : ℝ) (s : ℕ → ℝ) (M : ℝ) (n : ℕ) : 0 < wt c s M n := Real.rpow_pos_of_pos (by norm_num) _

theorem exp2_real (a b c : ℝ) : Ideal.exp2 (((a : EReal) - (b : EReal)) * (c : EReal)) = (((2 : ℝ) ^ ((a - b) * c) : ℝ) : EReal) := by
  rw [← EReal.coe_sub, ← EReal.coe_mul]
  rfl

theorem exp2_bot (b c : ℝ) (hc : 0 < c) : Ideal.exp2 (((⊥ : EReal) - (b : EReal)) * (c : EReal)) = 0 := by
  rw [EReal.bot_sub, EReal.bot_mul_coe_of_pos hc]
  rfl

theorem wt_rescale (c : ℝ) (s : ℕ → ℝ) (M M' : ℝ) (n : ℕ) : (2 : ℝ) ^ ((M - M') * c) * wt c s M n = wt c s M' n := by
  unfold wt
  rw [← Real.rpow_add (by norm_num)]
  congr 1
  ring

/-! ## The running sums -/

theorem sum_first (c : ℝ) (s : ℕ → ℝ) (M : ℝ) (j : ℕ) (l : EReal) :
    0 * l + sum11 (fun a => ((wt c s M (0 + (128 * a.val + j)) : ℝ) : EReal)) = ((∑ a ∈ Finset.range 11, wt c s M (128 * a + j) : ℝ) : EReal) := by
  rw [zero_mul, zero_add, sum11_coe fun a => wt c s M (0 + (128 * a + j))]
  simp only [zero_add]

theorem sum_next (c : ℝ) (s : ℕ → ℝ) (M M' : ℝ) (j A : ℕ) :
    (((2 : ℝ) ^ ((M - M') * c) : ℝ) : EReal) * ((∑ a ∈ Finset.range A, wt c s M (128 * a + j) : ℝ) : EReal)
      + sum11 (fun a => ((wt c s M' (128 * A + (128 * a.val + j)) : ℝ) : EReal))
      = ((∑ a ∈ Finset.range (A + 11), wt c s M' (128 * a + j) : ℝ) : EReal) := by
  rw [sum11_coe fun a => wt c s M' (128 * A + (128 * a + j)), ← EReal.coe_mul, ← EReal.coe_add, Finset.mul_sum, Finset.sum_range_add]
  simp only [wt_rescale]
  congr 2
  refine Finset.sum_congr rfl fun a _ => ?_
  congr 1
  ring

theorem acc_first (w : ℕ → ℝ) (v : ℕ → EReal) (x : EReal) :
    0 * x + (0 + ∑ t : Fin 1408, ((w (0 + t.val) : ℝ) : EReal) * v (0 + t.val)) = ∑ n ∈ Finset.range 1408, ((w n : ℝ) : EReal) * v n := by
  rw [zero_mul, zero_add, zero_add]
  simp only [zero_add]
  exact Fin.sum_univ_eq_sum_range (fun n => ((w n : ℝ) : EReal) * v n) 1408

theorem acc_next (c : ℝ) (s : ℕ → ℝ) (v : ℕ → EReal) (M M' : ℝ) (N : ℕ) :
    (((2 : ℝ) ^ ((M - M') * c) : ℝ) : EReal) * (∑ n ∈ Finset.range N, ((wt c s M n : ℝ) : EReal) * v n)
      + (0 + ∑ t : Fin 1408, ((wt c s M' (N + t.val) : ℝ) : EReal) * v (N + t.val))
      = ∑ n ∈ Finset.range (N + 1408), ((wt c s M' n : ℝ) : EReal) * v n := by
  rw [mul_sum _ (Real.rpow_nonneg (by norm_num) _), Finset.sum_range_add, zero_add,
    Fin.sum_univ_eq_sum_range (fun t => ((wt c s M' (N + t) : ℝ) : EReal) * v (N + t)) 1408]
  congr 1
  refine Finset.sum_congr rfl fun n _ => ?_
  rw [← mul_assoc, ← EReal.coe_mul, wt_rescale]

/-! ## The result -/

theorem div_real (a b : ℝ) (hb : b ≠ 0) : Ideal.div (a : EReal) (b : EReal) = ((a / b : ℝ) : EReal) := by
  unfold Ideal.div
  rw [if_neg (by exact_mod_cast hb), ← EReal.coe_inv, ← EReal.coe_mul]
  rfl

/-- The weighted sum times one over the sum of the weights is the sum of the normalized weights times the values. -/
theorem normalize (w : ℕ → ℝ) (v : ℕ → EReal) (N : ℕ) (L : ℝ) (hL : 0 < L) :
    (∑ n ∈ Finset.range N, ((w n : ℝ) : EReal) * v n) * Ideal.div 1 (L : EReal)
      = ∑ n ∈ Finset.range N, v n * Ideal.div ((w n : ℝ) : EReal) (L : EReal) := by
  have h1 : Ideal.div 1 (L : EReal) = ((1 / L : ℝ) : EReal) := div_real 1 L hL.ne'
  rw [h1, mul_comm, mul_sum _ (by positivity)]
  refine Finset.sum_congr rfl fun n _ => ?_
  rw [div_real _ _ hL.ne', ← mul_assoc, ← EReal.coe_mul, mul_comm]
  congr 2
  ring

/-- The maximum as the reference takes it, of the scores over `d`. -/
theorem ref_max (s : ℕ → ℝ) (N : ℕ) (M d : ℝ) (hd : 0 < d) (hM : IsMax s N M) (g : Fin N → EReal)
    (hg : ∀ k, g k = ((s k.val / d : ℝ) : EReal)) : max ⊥ (Finset.univ.fold max ⊥ g) = ((M / d : ℝ) : EReal) := by
  rw [max_eq_right bot_le]
  refine le_antisymm (Finset.fold_max_le _ |>.2 ⟨bot_le, fun k _ => ?_⟩) ?_
  · rw [hg]
    exact_mod_cast div_le_div_of_nonneg_right (hM.le _ k.isLt) hd.le
  · obtain ⟨n, hn, e⟩ := hM.hit
    refine Finset.le_fold_max _ |>.2 (.inr ⟨⟨n, hn⟩, Finset.mem_univ _, le_of_eq ?_⟩)
    rw [hg, e]

/-- The reference's exponential is the kernel's power of two. -/
theorem ref_wt (s : ℕ → ℝ) (M d : ℝ) (n : ℕ) :
    Ideal.exp (((s n / d : ℝ) : EReal) - ((M / d : ℝ) : EReal)) = ((wt (d⁻¹ * (Real.log 2)⁻¹) s M n : ℝ) : EReal) := by
  rw [← EReal.coe_sub]
  show ((Real.exp _ : ℝ) : EReal) = _
  unfold wt
  rw [Real.rpow_def_of_pos (by norm_num)]
  have h : Real.log 2 ≠ 0 := (Real.log_pos (by norm_num)).ne'
  congr 2
  field_simp

end Attn
-- ==== Proof.Attn.Value.lean ====
/-
  The attention's stages at the extended reals, read at an index, and the run over a tile's three items: with real
  queries and keys an item's running maximum, sum and weighted sum are those of the scores so far.
-/
module

public import proofs.«01_k».proof.Proof.Attn.Inv
public import proofs.«01_k».proof.Proof.Attn.Online

@[expose] public section

noncomputable section

namespace Attn

open Idealize.ShloMosaic

/-! ## The stages at an index -/

theorem ofBits_neg_inf : Ideal.ofBits .f32 0xFF800000#32 = ⊥ := by
  simp [Ideal.ofBits, Ideal.ieee]

theorem scores_at (q : FVec Ideal Sq1 .bf16) (k : FVec Ideal Sk1 .bf16) (i : Fin 384) (t : Fin 1408) :
    scores q k (ix2 (n0 := 384) (n1 := 1408) i t)
      = 0 + ∑ d : Fin 256, q (ix3 (n0 := 1) (n1 := 384) (n2 := 256) 0 i d) * k (ix3 (n0 := 1) (n1 := 1408) (n2 := 256) 0 t d) := by
  pointwise [scores, dotQK]

theorem weigh_at (c : EReal) (m y : FVec Ideal Sr .f32) (x : Sr.Idx) : weigh (F := Ideal) c m y x = Ideal.exp2 ((y x - m x) * c) := rfl

theorem fold_max_at (x : Lanes Ideal) (i : Sr.Idx) : x.fold maximumf i = max11 fun a => x.at a i := rfl

theorem fold_add_at (x : Lanes Ideal) (i : Sr.Idx) : x.fold addf i = sum11 fun a => x.at a i := rfl

theorem map_at (f : FVec Ideal Sr .f32 → FVec Ideal Sr .f32) (x : Lanes Ideal) (a : Fin 11) : (x.map f).at a = f (x.at a) := by
  fin_cases a <;> rfl

theorem lanes_at (x : FVec Ideal Sx .f32) (a : Fin 11) (i : Fin 384) (j : Fin 128) :
    (lanes x).at a (ix2 (n0 := 384) (n1 := 128) i j)
      = x (ix2 (n0 := 384) (n1 := 1408) i ⟨128 * a.val + j.val, by have := a.isLt; have := j.isLt; omega⟩) := by
  fin_cases a <;> rfl

theorem newMax_at (m : FVec Ideal Sr .f32) (x : Lanes Ideal) (i : Fin 384) (j : Fin 128) :
    newMax m x (ix2 (n0 := 384) (n1 := 128) i j)
      = max (m (ix2 (n0 := 384) (n1 := 128) i j))
          (Finset.univ.fold max ⊥ fun j : Fin 128 => max11 fun a => x.at a (ix2 (n0 := 384) (n1 := 128) i j)) := by
  pointwise [newMax]
  rw [ofBits_neg_inf]
  rfl

theorem newSum_at (al l : FVec Ideal Sr .f32) (p : Lanes Ideal) (i : Sr.Idx) :
    newSum al l p i = al i * l i + sum11 fun a => p.at a i := rfl

theorem recip_at (l : FVec Ideal Sr .f32) (i : Fin 384) (d : Fin 128) :
    recip l (ix2 (n0 := 384) (n1 := 128) i d) = Ideal.div 1 (∑ j : Fin 128, l (ix2 (n0 := 384) (n1 := 128) i j)) := by
  pointwise [recip]

theorem newAcc_at (al acc : FVec Ideal Sr .f32) (p : FVec Ideal Sx .bf16) (v : FVec Ideal Sv1 .bf16) (i : Fin 384) (d : Fin 128) :
    newAcc al acc p v (ix2 (n0 := 384) (n1 := 128) i d)
      = al (ix2 (n0 := 384) (n1 := 128) i d) * acc (ix2 (n0 := 384) (n1 := 128) i d)
        + (0 + ∑ t : Fin 1408, p (ix2 (n0 := 384) (n1 := 1408) i t) * v (ix3 (n0 := 1) (n1 := 1408) (n2 := 128) 0 t d)) := by
  pointwise [newAcc, dotPV]

theorem join_at (p : Lanes Ideal) (i : Fin 384) (t : Fin 1408) :
    join p (ix2 (n0 := 384) (n1 := 1408) i t)
      = p.at ⟨t.val / 128, by have := t.isLt; omega⟩ (ix2 (n0 := 384) (n1 := 128) i ⟨t.val % 128, Nat.mod_lt _ (by norm_num)⟩) := rfl

/-! ## A row of a tile -/

variable (D : In Ideal)

/-- The score of a query row and a key. -/
def S (r n : ℕ) : ℝ :=
  (∑ d : Fin 256, D.q (ix3 (n0 := 1) (n1 := 4224) (n2 := 256) 0 ⟨r % 4224, Nat.mod_lt _ (by norm_num)⟩ d)
    * D.k (ix3 (n0 := 1) (n1 := 4224) (n2 := 256) 0 ⟨n % 4224, Nat.mod_lt _ (by norm_num)⟩ d)).toReal

/-- The value of a key in a column. -/
def vat (d : Fin 128) (n : ℕ) : EReal := D.v (ix3 (n0 := 1) (n1 := 4224) (n2 := 128) 0 ⟨n % 4224, Nat.mod_lt _ (by norm_num)⟩ d)

/-- The queries and the keys are real, and the constant is a positive real. -/
structure Real (c : ℝ) : Prop where
  cst : D.cst = (c : EReal)
  pos : 0 < c
  q : ∀ i, ∃ x : ℝ, D.q i = (x : EReal)
  k : ∀ i, ∃ x : ℝ, D.k i = (x : EReal)

variable {D} {c : ℝ}

theorem Real.score (h : Real D c) (r n : ℕ) :
    (∑ d : Fin 256, D.q (ix3 (n0 := 1) (n1 := 4224) (n2 := 256) 0 ⟨r % 4224, Nat.mod_lt _ (by norm_num)⟩ d)
      * D.k (ix3 (n0 := 1) (n1 := 4224) (n2 := 256) 0 ⟨n % 4224, Nat.mod_lt _ (by norm_num)⟩ d)) = (S D r n : EReal) := by
  choose fq hq using h.q
  choose fk hk using h.k
  unfold S
  simp only [hq, hk, ← EReal.coe_mul, ← coe_sum, EReal.toReal_coe]

theorem Real.sc_at (h : Real D c) (u : ℕ) (i : Fin 384) (t : Fin 1408) :
    sc D u (ix2 (n0 := 384) (n1 := 1408) i t) = (S D (384 * (u / 3) + i.val) (1408 * (u % 3) + t.val) : EReal) := by
  refine (scores_at _ _ i t).trans ?_
  rw [zero_add]
  exact h.score _ _

theorem Real.lane_at (h : Real D c) (u : ℕ) (i : Fin 384) (j : Fin 128) (a : Fin 11) :
    (lanes (sc D u)).at a (ix2 (n0 := 384) (n1 := 128) i j)
      = (S D (384 * (u / 3) + i.val) (1408 * (u % 3) + (128 * a.val + j.val)) : EReal) := by
  rw [lanes_at]
  exact h.sc_at u i _

theorem Real.wts_at (h : Real D c) (u : ℕ) (i : Fin 384) (M : ℝ)
    (hM : ∀ j, (run D (u + 1)).1 (ix2 (n0 := 384) (n1 := 128) i j) = (M : EReal)) (j : Fin 128) (a : Fin 11) :
    (wts D u).at a (ix2 (n0 := 384) (n1 := 128) i j)
      = (wt c (S D (384 * (u / 3) + i.val)) M (1408 * (u % 3) + (128 * a.val + j.val)) : EReal) := by
  unfold wts
  rw [map_at, weigh_at, hM, h.lane_at, h.cst, exp2_real]
  rfl

theorem Real.join_at (h : Real D c) (u : ℕ) (i : Fin 384) (M : ℝ)
    (hM : ∀ j, (run D (u + 1)).1 (ix2 (n0 := 384) (n1 := 128) i j) = (M : EReal)) (t : Fin 1408) :
    join (wts D u) (ix2 (n0 := 384) (n1 := 1408) i t)
      = (wt c (S D (384 * (u / 3) + i.val)) M (1408 * (u % 3) + t.val) : EReal) := by
  rw [Attn.join_at, h.wts_at u i M hM]
  congr 3
  show 128 * (t.val / 128) + t.val % 128 = t.val
  omega

/-- The running blocks before item `u + 1` at a row are those of the first `k` tiles of keys. -/
structure Row (D : In Ideal) (c : ℝ) (n : ℕ) (i : Fin 384) (k u : ℕ) (M : ℝ) : Prop where
  max : IsMax (S D (384 * n + i.val)) (1408 * k) M
  m : ∀ j, (run D u).1 (ix2 (n0 := 384) (n1 := 128) i j) = (M : EReal)
  l : ∀ j : Fin 128, (run D u).2 (ix2 (n0 := 384) (n1 := 128) i j)
    = ((∑ a ∈ Finset.range (11 * k), wt c (S D (384 * n + i.val)) M (128 * a + j.val) : ℝ) : EReal)
  acc : ∀ d, acc D u (ix2 (n0 := 384) (n1 := 128) i d)
    = ∑ t ∈ Finset.range (1408 * k), (wt c (S D (384 * n + i.val)) M t : EReal) * vat D d t

theorem Real.first (h : Real D c) (n : ℕ) (i : Fin 384) : ∃ M, Row D c n i 1 (3 * n + 1) M := by
  have e3 : 3 * n / 3 = n := by omega
  have e0 : 3 * n % 3 = 0 := by omega
  have ef : Attn.first (3 * n) = 1#1 := if_pos e0
  obtain ⟨M, hM, hmax⟩ := max_first (S D (384 * n + i.val))
    (fun j a => (lanes (sc D (3 * n))).at a (ix2 (n0 := 384) (n1 := 128) i j))
    (fun j a => by rw [h.lane_at, e3, e0])
  have hold : ∀ j, oldMax (Attn.first (3 * n)) (run D (3 * n)).1 (ix2 (n0 := 384) (n1 := 128) i j) = ⊥ := fun j => by
    rw [ef]
    exact ofBits_neg_inf
  have hm : ∀ j, (run D (3 * n + 1)).1 (ix2 (n0 := 384) (n1 := 128) i j) = (M : EReal) := fun j => by
    refine (newMax_at _ _ i j).trans ?_
    rw [hold]
    exact hM
  have hs : ∀ j, scale D (3 * n) (ix2 (n0 := 384) (n1 := 128) i j) = 0 := fun j => by
    unfold scale
    rw [weigh_at, hold, hm, h.cst, exp2_bot _ _ h.pos]
  refine ⟨M, hmax, hm, fun j => ?_, fun d => ?_⟩
  · refine (newSum_at (scale D (3 * n)) _ (wts D (3 * n)) _).trans ?_
    rw [hs]
    simp only [h.wts_at _ i M hm, e3, e0]
    exact sum_first c _ M j.val _
  · refine (newAcc_at _ _ _ _ i d).trans ?_
    rw [hs]
    simp only [h.join_at _ i M hm, e3, e0]
    exact acc_first (wt c (S D (384 * n + i.val)) M) (vat D d) _

theorem Real.next (h : Real D c) (n : ℕ) (i : Fin 384) (k : ℕ) (hk : k < 3) (h0 : 0 < k) (M : ℝ) (R : Row D c n i k (3 * n + k) M) :
    ∃ M', Row D c n i (k + 1) (3 * n + k + 1) M' := by
  have e3 : (3 * n + k) / 3 = n := by omega
  have e0 : (3 * n + k) % 3 = k := by omega
  have ef : Attn.first (3 * n + k) = 0#1 := if_neg (by omega)
  obtain ⟨M', hM, hmax⟩ := max_next (S D (384 * n + i.val)) (1408 * k) M R.max
    (fun j a => (lanes (sc D (3 * n + k))).at a (ix2 (n0 := 384) (n1 := 128) i j))
    (fun j a => by rw [h.lane_at, e3, e0])
  have hold : ∀ j, oldMax (Attn.first (3 * n + k)) (run D (3 * n + k)).1 (ix2 (n0 := 384) (n1 := 128) i j) = (M : EReal) := fun j => by
    rw [ef]
    exact R.m j
  have hm : ∀ j, (run D (3 * n + k + 1)).1 (ix2 (n0 := 384) (n1 := 128) i j) = (M' : EReal) := fun j => by
    refine (newMax_at _ _ i j).trans ?_
    rw [hold]
    exact hM
  have hs : ∀ j, scale D (3 * n + k) (ix2 (n0 := 384) (n1 := 128) i j) = (((2 : ℝ) ^ ((M - M') * c) : ℝ) : EReal) := fun j => by
    unfold scale
    rw [weigh_at, hold, hm, h.cst, exp2_real]
  have e11 : 128 * (11 * k) = 1408 * k := by ring
  refine ⟨M', hmax, hm, fun j => ?_, fun d => ?_⟩
  · refine (newSum_at (scale D (3 * n + k)) _ (wts D (3 * n + k)) _).trans ?_
    rw [hs, R.l]
    simp only [h.wts_at _ i M' hm, e3, e0]
    have := sum_next c (S D (384 * n + i.val)) M M' j.val (11 * k)
    rw [e11] at this
    exact this
  · refine (newAcc_at _ _ _ _ i d).trans ?_
    rw [hs, R.acc]
    simp only [h.join_at _ i M' hm, e3, e0]
    exact acc_next c (S D (384 * n + i.val)) (vat D d) M M' (1408 * k)

/-- A row's result: the normalized weights times the values, over all keys. -/
theorem Real.res_at (h : Real D c) (n : ℕ) (i : Fin 384) : ∃ M, IsMax (S D (384 * n + i.val)) 4224 M ∧ ∀ d,
    res D (3 * n + 2) (ix2 (n0 := 384) (n1 := 128) i d)
      = ∑ t ∈ Finset.range 4224, vat D d t * Ideal.div (wt c (S D (384 * n + i.val)) M t : EReal)
          ((∑ t ∈ Finset.range 4224, wt c (S D (384 * n + i.val)) M t : ℝ) : EReal) := by
  obtain ⟨M1, R1⟩ := h.first n i
  obtain ⟨M2, R2⟩ := h.next n i 1 (by norm_num) (by norm_num) M1 R1
  obtain ⟨M, R⟩ := h.next n i 2 (by norm_num) (by norm_num) M2 R2
  refine ⟨M, R.max, fun d => ?_⟩
  show acc D (3 * n + 2 + 1) (ix2 (n0 := 384) (n1 := 128) i d) * recip (run D (3 * n + 2 + 1)).2 (ix2 (n0 := 384) (n1 := 128) i d) = _
  rw [recip_at, R.acc]
  simp only [R.l]
  rw [← coe_sum, sum_lanes (wt c (S D (384 * n + i.val)) M)]
  exact normalize _ _ 4224 _ (Finset.sum_pos (fun t _ => wt_pos _ _ _ _) ⟨0, by simp⟩)

/-- The output at a row and a column. -/
theorem Real.out_at (h : Real D c) (r : Fin 4224) (d : Fin 128) : ∃ M, IsMax (S D r.val) 4224 M ∧
    out D (ix3 (n0 := 1) (n1 := 4224) (n2 := 128) 0 r d)
      = ∑ t ∈ Finset.range 4224, vat D d t * Ideal.div (wt c (S D r.val) M t : EReal)
          ((∑ t ∈ Finset.range 4224, wt c (S D r.val) M t : ℝ) : EReal) := by
  obtain ⟨M, hM, e⟩ := h.res_at (r.val / 384) ⟨r.val % 384, Nat.mod_lt _ (by norm_num)⟩
  have er : 384 * (r.val / 384) + r.val % 384 = r.val := by omega
  simp only [er] at hM e
  exact ⟨M, hM, e d⟩

end Attn
-- ==== Proof.Attn.Value6.lean ====
/- The latent attention's call: its result as a function of its arguments. -/
module

public import proofs.«01_k».proof.Proof.Attn.Frame6
public import proofs.«01_k».proof.Proof.Attn.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Attn

open Cert.Kernel6Ideal Cert.Kernel6Ideal.Gen
open _root_.Attn

/-- One head of one sequence. -/
def head (a0 a1 : FVec Ideal S8x4224x4096 .bf16) (a2 : FVec Ideal S8x4224x2048 .bf16) (b : Fin 8) (h : Fin 16) : In Ideal where
  cst := Named.named κ "scale_log2_e" 0x3DD53B95#32
  q := fun i => a0 (ix3 (n0 := 8) (n1 := 4224) (n2 := 4096) b (i 1) ⟨h.val * 256 + (i 2).val, by have := h.isLt; have : (i 2).val < 256 := (i 2).isLt; omega⟩)
  k := fun i => a1 (ix3 (n0 := 8) (n1 := 4224) (n2 := 4096) b (i 1) ⟨h.val * 256 + (i 2).val, by have := h.isLt; have : (i 2).val < 256 := (i 2).isLt; omega⟩)
  v := fun i => a2 (ix3 (n0 := 8) (n1 := 4224) (n2 := 2048) b (i 1) ⟨h.val * 128 + (i 2).val, by have := h.isLt; have : (i 2).val < 128 := (i 2).isLt; omega⟩)

/-- The result array. -/
def result (a0 a1 : FVec Ideal S8x4224x4096 .bf16) (a2 : FVec Ideal S8x4224x2048 .bf16) : FVec Ideal S8x4224x2048 .bf16 := fun i =>
  out (head a0 a1 a2 (i 0) ⟨(i 2).val / 128, by have : (i 2).val < 2048 := (i 2).isLt; omega⟩)
    (ix3 (n0 := 1) (n1 := 4224) (n2 := 128) 0 (i 1) ⟨(i 2).val % 128, Nat.mod_lt _ (by norm_num)⟩)

variable (m : (ℓ : Loc nD τ sig) → Buf (Elt Ideal) ℓ)

/-- The windows' index maps. -/
theorem idx : ∀ t : Fin cfg0.N,
    win0_0.index t = ![(grid0.coords t 0).val, 0, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

/-- A point's blocks are one head of one sequence. -/
theorem inp_eq (c : Dev nD) (t : Fin cfg0.N) :
    inp (iblk m c 0 t) (iblk m c 1 t) (iblk m c 2 t)
      = head (m ((c : Thread nD τ).loc main_arg0)) (m ((c : Thread nD τ).loc main_arg1)) (m ((c : Thread nD τ).loc main_arg2))
          (grid0.coords t 0) (grid0.coords t 1) := by
  have h0 : (grid0.coords t 0).val < 8 := (grid0.coords t 0).isLt
  have h1 : (grid0.coords t 1).val < 16 := (grid0.coords t 1).isLt
  have eq : iblk m c 0 t = (head (m ((c : Thread nD τ).loc main_arg0)) (m ((c : Thread nD τ).loc main_arg1)) (m ((c : Thread nD τ).loc main_arg2)) (grid0.coords t 0) (grid0.coords t 1)).q := by
    funext y
    idx_vars y
    obtain rfl : y0 = 0 := Subsingleton.elim _ _
    have e : ((cfg0.win 0).blk t).view.emb (ix3 0 y1 y2)
        = ix3 (⟨(grid0.coords t 0).val, h0⟩ : Fin 8) y1 (⟨(grid0.coords t 1).val * 256 + y2.val, by have := y2.isLt; omega⟩ : Fin 4096) := by blk_ext [idx t]
    blk_simp [iblk, e]
    rfl
  have ek : iblk m c 1 t = (head (m ((c : Thread nD τ).loc main_arg0)) (m ((c : Thread nD τ).loc main_arg1)) (m ((c : Thread nD τ).loc main_arg2)) (grid0.coords t 0) (grid0.coords t 1)).k := by
    funext y
    idx_vars y
    obtain rfl : y0 = 0 := Subsingleton.elim _ _
    have e : ((cfg0.win 1).blk t).view.emb (ix3 0 y1 y2)
        = ix3 (⟨(grid0.coords t 0).val, h0⟩ : Fin 8) y1 (⟨(grid0.coords t 1).val * 256 + y2.val, by have := y2.isLt; omega⟩ : Fin 4096) := by blk_ext [idx t]
    blk_simp [iblk, e]
    rfl
  have ev : iblk m c 2 t = (head (m ((c : Thread nD τ).loc main_arg0)) (m ((c : Thread nD τ).loc main_arg1)) (m ((c : Thread nD τ).loc main_arg2)) (grid0.coords t 0) (grid0.coords t 1)).v := by
    funext y
    idx_vars y
    obtain rfl : y0 = 0 := Subsingleton.elim _ _
    have e : ((cfg0.win 2).blk t).view.emb (ix3 0 y1 y2)
        = ix3 (⟨(grid0.coords t 0).val, h0⟩ : Fin 8) y1 (⟨(grid0.coords t 1).val * 128 + y2.val, by have := y2.isLt; omega⟩ : Fin 2048) := by blk_ext [idx t]
    blk_simp [iblk, e]
    rfl
  unfold inp
  rw [eq, ek, ev]
  rfl

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, inp_eq]
  idx_vars y
  obtain rfl : y0 = 0 := Subsingleton.elim _ _
  have h0 : (grid0.coords t 0).val < 8 := (grid0.coords t 0).isLt
  have h1 : (grid0.coords t 1).val < 16 := (grid0.coords t 1).isLt
  have h2 : y2.val < 128 := y2.isLt
  have e : ((cfg0.win 3).blk t).view.emb (ix3 0 y1 y2)
      = ix3 (⟨(grid0.coords t 0).val, h0⟩ : Fin 8) y1 (⟨(grid0.coords t 1).val * 128 + y2.val, by omega⟩ : Fin 2048) := by
    blk_ext [idx t]
  refine Eq.trans ?_ (congrArg (result _ _ _) e).symm
  unfold result
  have e1 : (⟨((grid0.coords t 1).val * 128 + y2.val) / 128, by omega⟩ : Fin 16) = grid0.coords t 1 := Fin.ext (by simp only []; omega)
  have e2 : (⟨((grid0.coords t 1).val * 128 + y2.val) % 128, Nat.mod_lt _ (by norm_num)⟩ : Fin 128) = y2 := Fin.ext (by simp only []; omega)
  show _ = out (head _ _ _ (grid0.coords t 0) (⟨((grid0.coords t 1).val * 128 + y2.val) / 128, by omega⟩ : Fin 16))
    (ix3 (n0 := 1) (n1 := 4224) (n2 := 128) 0 y1 (⟨((grid0.coords t 1).val * 128 + y2.val) % 128, Nat.mod_lt _ (by norm_num)⟩ : Fin 128))
  rw [e1, e2]

end Cert.Kernel6Ideal.Attn

end
-- ==== Proof.Attn.Plain6.lean ====
/- The latent attention's reference, read at a sequence, a row and a column, where the queries and the keys are real. -/
module

public import proofs.«01_k».proof.Proof.Attn.Value6
public import proofs.«01_k».proof.Proof.Gen.Reference6Ideal.Run
public import proofs.«01_k».proof.Pre_finite
public import Idealize.ShloMosaic.Lib.ReduceAll
public import Idealize.ShloMosaic.Lib.IdealHost

@[expose] public section

set_option maxRecDepth 16384

noncomputable section

open Idealize.ShloMosaic Idealize.ShloMosaic.TcCoe Idealize.SL.Sem

namespace Cert.Pre_finite

/-- Where the precondition holds the queries and the keys are real. -/
theorem real_of_lt (x : EReal) (h : Ideal.cmp .olt (max x (-x)) (Ideal.ofBits .bf16 0x7F80#16) = 1#1) : ∃ r : ℝ, x = (r : EReal) := by
  have ht : Ideal.ofBits .bf16 0x7F80#16 = ⊤ := by simp [Ideal.ofBits, Ideal.ieee]
  rw [ht] at h
  have h : max x (-x) < ⊤ := (Ideal.cmp_olt_eq_one _ _).1 h
  induction x using EReal.rec with
  | bot => simp at h
  | top => simp at h
  | coe r => exact ⟨r, rfl⟩

theorem real_args [Facts] (a0 a1 : FVec Ideal S8x4224x4096 .bf16) (a2 : FVec Ideal S8x4224x2048 .bf16)
    (h : fn (F := Ideal) a0 a1 a2 = fun _ => 1#1) : (∀ i, ∃ x : ℝ, a0 i = (x : EReal)) ∧ ∀ i, ∃ x : ℝ, a1 i = (x : EReal) := by
  have hs : Subsingleton S_.Idx := ⟨fun a b => funext fun k => k.elim0⟩
  obtain ⟨h0, h1⟩ := IntOp.andi_eq_one.1 (congrFun h (Shape.Idx.first Facts.h_S_))
  exact ⟨fun i => real_of_lt _ (Host.reduce_andi_all _ _ _ _ _ h0 i), fun i => real_of_lt _ (Host.reduce_andi_all _ _ _ _ _ h1 i)⟩

/-- The precondition's side conditions. -/
theorem facts : Facts := ⟨by decide, by decide, by decide⟩

end Cert.Pre_finite

namespace Cert.Reference6Ideal.Plain

open Cert.Reference6Ideal Cert.Reference6Ideal.Gen

open Cert.Kernel6Ideal.Attn (head result)
open _root_.Attn

variable (a0 a1 : FVec Ideal S8x4224x4096 .bf16) (a2 : FVec Ideal S8x4224x2048 .bf16)

/-- The scaled scores. -/
def scaled : FVec Ideal S8x16x4224x4224 .f32 :=
  Host.divf (Host.dotGeneral dot_S8x4224x16x256_S8x4224x16x256_S8x16x4224x4224_3_3_1_1_02_02 none
      (shapeCast _ (extf .f32 a0 bitsLt_bf16_f32) shapeCasts_S8x4224x4096_S8x4224x16x256)
      (shapeCast _ (extf .f32 a1 bitsLt_bf16_f32) shapeCasts_S8x4224x4096_S8x4224x16x256))
    (broadcastInDim S8x16x4224x4224 ![] bcast_S_S8x16x4224x4224 (Host.sqrt (constant S_ .f32 0x43400000#32)))

/-- The exponentials. -/
def exps : FVec Ideal S8x16x4224x4224 .f32 :=
  Host.exp (subf (scaled a0 a1) (broadcastInDim S8x16x4224x4224 ![0, 1, 2, 3] bcast_S8x16x4224x1_S8x16x4224x4224_0_1_2_3
    (broadcastInDim S8x16x4224x1 ![0, 1, 2] bcast_S8x16x4224_S8x16x4224x1_0_1_2
      (maximumf (broadcastInDim S8x16x4224 ![] bcast_S_S8x16x4224 (constant S_ .f32 0xFF800000#32))
        (Host.reduce FloatOps.maximumf (scaled a0 a1) (constant S_ .f32 0xFF800000#32) reducesTo_S8x16x4224x4224_S8x16x4224_d3 h_S_)))))

/-- The result. -/
def plain : FVec Ideal S8x4224x2048 .bf16 :=
  truncf .bf16 (shapeCast _ (transpose S8x4224x16x128 [0, 3, 1, 2] (Host.dotGeneral dot_S8x4224x16x128_S8x16x4224x4224_S8x16x128x4224_1_3_3_2_02_01 none
      (shapeCast _ (extf .f32 a2 bitsLt_bf16_f32) shapeCasts_S8x4224x2048_S8x4224x16x128)
      (Host.divf (exps a0 a1) (broadcastInDim S8x16x4224x4224 ![0, 1, 2, 3] bcast_S8x16x4224x1_S8x16x4224x4224_0_1_2_3
        (broadcastInDim S8x16x4224x1 ![0, 1, 2] bcast_S8x16x4224_S8x16x4224x1_0_1_2
          (Host.reduceAdd (exps a0 a1) (constant S_ .f32 0x00000000#32) reducesTo_S8x16x4224x4224_S8x16x4224_d3 h_S_)))))
      transposes_S8x16x128x4224_S8x4224x16x128_0_3_1_2) shapeCasts_S8x4224x16x128_S8x4224x2048) bitsLt_bf16_f32

theorem ofBits_192 : Ideal.ofBits .f32 0x43400000#32 = ((192 : ℝ) : EReal) := by
  simp [Ideal.ofBits, Ideal.ieee, -EReal.coe_mul]
  norm_num

theorem root_pos : 0 < Real.sqrt 192 := Real.sqrt_pos.2 (by norm_num)

theorem sqrt_192 : Ideal.sqrt ((192 : ℝ) : EReal) = (Real.sqrt 192 : EReal) := by
  show (if (192 : ℝ) < 0 then (⊥ : EReal) else (Real.sqrt 192 : EReal)) = _
  rw [if_neg (by norm_num)]

/-- The kernel's constant. -/
abbrev cst : ℝ := (Real.sqrt 192)⁻¹ * (Real.log 2)⁻¹

variable {a0 a1 a2}
variable (h0 : ∀ i, ∃ x : ℝ, a0 i = (x : EReal)) (h1 : ∀ i, ∃ x : ℝ, a1 i = (x : EReal))

include h0 h1 in
theorem real (b : Fin 8) (h : Fin 16) : Attn.Real (head a0 a1 a2 b h) cst where
  cst := rfl
  pos := mul_pos (inv_pos.2 root_pos) (inv_pos.2 (Real.log_pos (by norm_num)))
  q _ := h0 _
  k _ := h1 _

include h0 h1 in
theorem scaled_at (b : Fin 8) (h : Fin 16) (r n : Fin 4224) :
    scaled a0 a1 (ix4 b h r n) = ((S (head a0 a1 a2 b h) r.val n.val / Real.sqrt 192 : ℝ) : EReal) := by
  rw [← div_real _ _ root_pos.ne', ← (real (a2 := a2) h0 h1 b h).score]
  pointwise [scaled]
  rw [ofBits_192, sqrt_192]
  have er : ∀ r : Fin 4224, (⟨r.val % 4224, Nat.mod_lt _ (by norm_num)⟩ : Fin 4224) = r := fun r => Fin.ext (Nat.mod_eq_of_lt r.isLt)
  rw [er, er]
  rfl

/-- A maximum over the last axis, at an index. -/
theorem row_max {p q r n : ℕ} (z : FVec Ideal ⟨4, ![p, q, r, n]⟩ .f32) (c : FVec Ideal ⟨0, ![]⟩ .f32)
    (hr : (⟨4, ![p, q, r, n]⟩ : Shape).ReducesTo [3] ⟨3, ![p, q, r]⟩) (hs : 0 < (⟨0, ![]⟩ : Shape).numel) (i : Fin p) (j : Fin q) (k : Fin r) :
    Host.reduce FloatOps.maximumf z c hr hs (ix3 i j k) = Finset.univ.fold max (c (Shape.Idx.first hs)) fun t : Fin n => z (ix4 i j k t) := by
  pointwise []

/-- The scores less their maximum, at an index. -/
theorem less_at (z : FVec Ideal S8x16x4224x4224 .f32) (y : FVec Ideal S8x16x4224 .f32) (b : Fin 8) (h : Fin 16) (r n : Fin 4224) :
    subf z (broadcastInDim S8x16x4224x4224 ![0, 1, 2, 3] bcast_S8x16x4224x1_S8x16x4224x4224_0_1_2_3
      (broadcastInDim S8x16x4224x1 ![0, 1, 2] bcast_S8x16x4224_S8x16x4224x1_0_1_2
        (maximumf (broadcastInDim S8x16x4224 ![] bcast_S_S8x16x4224 (constant S_ .f32 0xFF800000#32)) y))) (ix4 b h r n)
      = z (ix4 b h r n) - max ⊥ (y (ix3 b h r)) := by
  pointwise []
  rw [ofBits_neg_inf]

theorem max_at (z : FVec Ideal S8x16x4224x4224 .f32) (b : Fin 8) (h : Fin 16) (r : Fin 4224) :
    Host.reduce FloatOps.maximumf z (constant S_ .f32 0xFF800000#32) reducesTo_S8x16x4224x4224_S8x16x4224_d3 h_S_ (ix3 b h r)
      = Finset.univ.fold max ⊥ fun t : Fin 4224 => z (ix4 b h r t) :=
  (row_max z (constant S_ .f32 0xFF800000#32) reducesTo_S8x16x4224x4224_S8x16x4224_d3 h_S_ b h r).trans
    (congrArg (fun x => Finset.univ.fold max x fun t : Fin 4224 => z (ix4 b h r t)) ofBits_neg_inf)

theorem exps_read (b : Fin 8) (h : Fin 16) (r n : Fin 4224) :
    exps a0 a1 (ix4 b h r n)
      = Ideal.exp (scaled a0 a1 (ix4 b h r n) - max ⊥ (Finset.univ.fold max ⊥ fun k : Fin 4224 => scaled a0 a1 (ix4 b h r k))) :=
  congrArg Ideal.exp ((less_at (scaled a0 a1) _ b h r n).trans
    (congrArg (fun x => scaled a0 a1 (ix4 b h r n) - max ⊥ x) (max_at (scaled a0 a1) b h r)))

include h0 h1 in
theorem exps_at (b : Fin 8) (h : Fin 16) (r n : Fin 4224) (M : ℝ) (hM : IsMax (S (head a0 a1 a2 b h) r.val) 4224 M) :
    exps a0 a1 (ix4 b h r n) = (wt cst (S (head a0 a1 a2 b h) r.val) M n.val : EReal) := by
  have e := ref_max _ _ M _ root_pos hM (fun k => scaled a0 a1 (ix4 b h r k)) (fun k => scaled_at h0 h1 b h r k)
  rw [exps_read, e, scaled_at (a2 := a2) h0 h1 b h r n, ref_wt]

theorem plain_read (b : Fin 8) (r : Fin 4224) (j : Fin 2048) :
    plain a0 a1 a2 (ix3 b r j) = ∑ t : Fin 4224, vat (head a0 a1 a2 b ⟨j.val / 128, by omega⟩) ⟨j.val % 128, by omega⟩ t.val
      * Ideal.div (exps a0 a1 (ix4 b ⟨j.val / 128, by omega⟩ r t)) (∑ t : Fin 4224, exps a0 a1 (ix4 b ⟨j.val / 128, by omega⟩ r t)) := by
  unfold plain
  generalize exps a0 a1 = z
  pointwise []
  refine Finset.sum_congr rfl fun t _ => congrArg (· * _) ?_
  unfold vat head
  dsimp only
  refine congrArg a2 (congr (congrArg (ix3 b) (Fin.ext ?_)) (Fin.ext ?_))
  · exact (Nat.mod_eq_of_lt t.isLt).symm
  · show j.val = j.val / 128 * 128 + j.val % 128
    omega

include h0 h1 in
/-- The reference's result is the kernel's. -/
theorem plain_eq : plain a0 a1 a2 = result a0 a1 a2 := by
  funext i
  idx_vars i
  rw [plain_read]
  obtain ⟨M, hM, e⟩ := (real (a2 := a2) h0 h1 i0 ⟨i2.val / 128, by omega⟩).out_at i1 ⟨i2.val % 128, by omega⟩
  refine Eq.trans ?_ e.symm
  simp only [exps_at h0 h1 i0 _ i1 _ M hM]
  rw [← coe_sum, Fin.sum_univ_eq_sum_range (fun t => wt cst (S (head a0 a1 a2 i0 ⟨i2.val / 128, by omega⟩) i1.val) M t) 4224,
    ← Fin.sum_univ_eq_sum_range (fun t => vat (head a0 a1 a2 i0 ⟨i2.val / 128, by omega⟩) ⟨i2.val % 128, by omega⟩ t * Ideal.div (wt cst (S (head a0 a1 a2 i0 ⟨i2.val / 128, by omega⟩) i1.val) M t : EReal) _) 4224]

end Cert.Reference6Ideal.Plain

end
-- ==== Proof.lean ====
/- The claims about the programs, put together. -/
module

public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ffn.Value
public import proofs.«01_k».proof.Proof.Ffn.Plain
public import proofs.«01_k».proof.Proof.Ffn.Value2
public import proofs.«01_k».proof.Proof.Ffn.Plain2
public import proofs.«01_k».proof.Proof.Ffn.Value3
public import proofs.«01_k».proof.Proof.Ffn.Plain3
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Proj.InProj
public import proofs.«01_k».proof.Proof.Proj.OutProj
public import proofs.«01_k».proof.Proof.Proj.HgrnSame
public import proofs.«01_k».proof.Proof.Proj.SwaSame
public import proofs.«01_k».proof.Proof.Proj.MlaSame
public import proofs.«01_k».proof.Proof.Gen.Kernel6.Frame
public import proofs.«01_k».proof.Proof.Gen.Kernel6Ideal.Frame
public import proofs.«01_k».proof.Proof.Gen.Reference6Ideal.Run
public import proofs.«01_k».proof.Proof.Attn.Frame6K
public import proofs.«01_k».proof.Proof.Attn.Plain6
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The feed-forward call of the last layer: the kernel over the reals leaves what the plain program leaves. -/
theorem algebraic : Cert.algebraic_KernelIdeal_ReferenceIdeal := by
  pair_intro
  · run_from Cert.KernelIdeal.Gen.run_main m g
  · run_from Cert.ReferenceIdeal.Value.run m' g'
    rw [Cert.KernelIdeal.Block.final m c]
    funext i
    idx_vars i
    have h := Cert.ReferenceIdeal.Plain.result_at m' c i0 i1 i2
    obtain ⟨h0, h1, h2, h3, h4⟩ := hagree c
    rw [h0, h1, h2, h3, h4] at h
    exact h

/-- The same call at the sample batch. -/
theorem algebraic2 : Cert.algebraic_Kernel2Ideal_Reference2Ideal := by
  pair_intro
  · run_from Cert.Kernel2Ideal.Gen.run_main m g
  · run_from Cert.Reference2Ideal.Value.run m' g'
    rw [Cert.Kernel2Ideal.Block.final m c]
    funext i
    idx_vars i
    have h := Cert.Reference2Ideal.Plain.result_at m' c i0 i1 i2
    obtain ⟨h0, h1, h2, h3, h4⟩ := hagree c
    rw [h0, h1, h2, h3, h4] at h
    exact h

/-- The feed-forward call of the other layers. -/
theorem algebraic3 : Cert.algebraic_Kernel3Ideal_Reference3Ideal := by
  pair_intro
  · run_from Cert.Kernel3Ideal.Block.run m g
  · run_from Cert.Reference3Ideal.Value.run m' g'
    funext i
    idx_vars i
    have h := Cert.Reference3Ideal.Plain.result_at m' c i0 i1 i2
    obtain ⟨h0, h1, h2, h3, h4⟩ := hagree c
    rw [h0, h1, h2, h3, h4] at h
    exact h.trans (Cert.Kernel3Ideal.Block.cut_at _ _ _ _ _ _ _ _).symm

/-- The recurrent mixer's input projection. -/
theorem algebraic4 : Cert.algebraic_Kernel4Ideal_Reference4Ideal := by
  pair_intro
  · run_from Cert.Kernel4Ideal.Rows.run m g
  · run_from Cert.Reference4Ideal.Value.run m' g'
    funext i
    idx_vars i
    refine Eq.trans ?_ (Cert.Kernel4Ideal.Rows.cut_at _ _ _ _ _).symm
    pointwise [Ffn.prod]

/-- The latent attention's output projection and the normalisation after it. -/
theorem algebraic5 : Cert.algebraic_Kernel5Ideal_Reference5Ideal := by
  pair_intro
  · run_from Cert.Kernel5Ideal.Rows.run m g
  · run_from Cert.Reference5Ideal.Value.run m' g'
    funext i
    idx_vars i
    refine Eq.trans ?_ (Cert.Kernel5Ideal.Rows.cut_at _ _ _ _ _ _ _ _).symm
    pointwise [Ffn.added, Ffn.lnorm, Ffn.mean, Ffn.prod]
    rfl

/-- The latent attention: the scale of the exponents is the real number it is named. -/
theorem preserves6 : Cert.preserves_Kernel6_Kernel6Ideal := IdealRules.named_const.statement _ _ _ _ _ rfl

/-- The latent attention, where the queries and the keys are real. -/
theorem algebraic6 [Cert.Pre_finite.Facts] : Cert.algebraic_Kernel6Ideal_Reference6Ideal_pre_finite := by
  pair_intro
  · run_from Cert.Kernel6Ideal.Attn.run_main m g
  · run_from Cert.Reference6Ideal.Value.run m' g'
    rw [Cert.Kernel6Ideal.Attn.final m c]
    have h := Cert.Pre_finite.real_args _ _ _ (hpre c)
    exact Cert.Reference6Ideal.Plain.plain_eq h.1 h.2

/-- The output projection of the recurrent mixer. -/
theorem algebraic7 : Cert.algebraic_Kernel7Ideal_Reference7Ideal := by
  pair_intro
  · run_from Cert.Kernel7Ideal.Rows.run m g
  · run_from Cert.Reference7Ideal.Value.run m' g'
    refine (Cert.Reference7Ideal.Rows.plain m' c).trans ?_
    obtain ⟨h0, h1, h2, h3, h4, h5, h6, h7⟩ := hagree c
    rw [h0, h1, h2, h3, h4, h5, h6, h7]
    exact Cert.HgrnSame.same _ _ _ _ _ _ _ _

/-- The input projections of the local attention. -/
theorem algebraic8 : Cert.algebraic_Kernel8Ideal_Reference8Ideal := by
  pair_intro
  · run_from Cert.Kernel8Ideal.Gen.run_main m g
  · run_from Cert.Reference8Ideal.Value.run m' g'
    · exact ((Cert.SwaSame.plain0 m' c).trans (congrArg₂ Cert.Kernel8Ideal.Rows.queries (hagree c).1 (hagree c).2)).trans
        (Cert.Kernel8Ideal.Rows.final4 m c).symm
    · exact ((Cert.SwaSame.plain1 m' c).trans (congrArg₂ Cert.Kernel8Ideal.Rows.keys (hagree c).1 (hagree c).2)).trans
        (Cert.Kernel8Ideal.Rows.final5 m c).symm
    · exact (Cert.SwaSame.values_same _ _).trans (Cert.Kernel8Ideal.Rows.final6 m c).symm

set_option maxHeartbeats 4000000 in
/-- The input projections of the latent attention. -/
theorem algebraic9 : Cert.algebraic_Kernel9Ideal_Reference9Ideal := by
  pair_intro
  · run_from Cert.Kernel9Ideal.Gen.run_main m g
    · exact Cert.Kernel9Ideal.Gen.V_main_arg1 m c
    · exact Cert.Kernel9Ideal.Gen.V_main_arg2 m c
    · exact Cert.Kernel9Ideal.Gen.V_main_arg3 m c
    · exact Cert.Kernel9Ideal.Gen.V_main_arg4 m c
    · exact Cert.Kernel9Ideal.Gen.V_main_arg5 m c
    · exact Cert.Kernel9Ideal.Gen.V_main_arg6 m c
  · run_from Cert.Reference9Ideal.Value.run m' g'
    · have e := Cert.MlaSame.plain0 m' c
      rw [(hagree c).1, (hagree c).2.1, (hagree c).2.2.1, (hagree c).2.2.2.1] at e
      exact e.trans (Cert.Kernel9Ideal.Rows.final9 m c).symm
    · have e := Cert.MlaSame.plain1 m' c
      rw [(hagree c).1, (hagree c).2.2.2.2.1, (hagree c).2.2.2.2.2.1, (hagree c).2.2.2.2.2.2] at e
      exact e.trans (Cert.Kernel9Ideal.Rows.final10 m c).symm
    · exact (Cert.MlaSame.values_same _ _ _ _).trans (Cert.Kernel9Ideal.Rows.final11 m c).symm

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.facts,
  fun m g _ => Cert.Kernel.Gen.frame m g, fun m g _ => Cert.KernelIdeal.Gen.frame m g,
  fun m g _ => (θ_run _ _ _).mono (fun r h => ⟨fun c => (h c).2, sem_eq_zero_of_no_sems (by decide) r.2⟩)
    (Cert.ReferenceIdeal.Value.run m g),
  fun m g _ => Cert.Kernel2.Gen.frame m g, fun m g _ => Cert.Kernel2Ideal.Gen.frame m g,
  fun m g _ => (θ_run _ _ _).mono (fun r h => ⟨fun c => (h c).2, sem_eq_zero_of_no_sems (by decide) r.2⟩)
    (Cert.Reference2Ideal.Value.run m g),
  fun m g _ => Cert.Kernel3.Gen.frame m g, fun m g _ => Cert.Kernel3Ideal.Gen.frame m g,
  fun m g _ => (θ_run _ _ _).mono (fun r h => ⟨fun c => (h c).2, sem_eq_zero_of_no_sems (by decide) r.2⟩)
    (Cert.Reference3Ideal.Value.run m g),
  fun m g _ => Cert.Kernel4.Gen.frame m g, fun m g _ => Cert.Kernel4Ideal.Gen.frame m g,
  fun m g _ => (θ_run _ _ _).mono (fun r h => ⟨fun c => (h c).2, sem_eq_zero_of_no_sems (by decide) r.2⟩)
    (Cert.Reference4Ideal.Value.run m g),
  fun m g _ => Cert.Kernel5.Gen.frame m g, fun m g _ => Cert.Kernel5Ideal.Gen.frame m g,
  fun m g _ => (θ_run _ _ _).mono (fun r h => ⟨fun c => (h c).2, sem_eq_zero_of_no_sems (by decide) r.2⟩)
    (Cert.Reference5Ideal.Value.run m g),
  fun m g _ => Cert.Kernel6.Attn.frame m g, fun m g _ => Cert.Kernel6Ideal.Attn.frame m g,
  fun m g _ => Cert.Kernel6Ideal.Attn.frame m g,
  fun m g _ => (θ_run _ _ _).mono (fun r h => ⟨fun c => (h c).2, sem_eq_zero_of_no_sems (by decide) r.2⟩)
    (Cert.Reference6Ideal.Value.run m g),
  fun m g _ => (θ_run _ _ _).mono (fun r h => ⟨fun c => (h c).2, sem_eq_zero_of_no_sems (by decide) r.2⟩)
    (Cert.Reference6Ideal.Value.run m g),
  fun m g _ => Cert.Kernel7.Gen.frame m g, fun m g _ => Cert.Kernel7Ideal.Gen.frame m g,
  fun m g _ => (θ_run _ _ _).mono (fun r h => ⟨fun c => (h c).2, sem_eq_zero_of_no_sems (by decide) r.2⟩)
    (Cert.Reference7Ideal.Value.run m g),
  fun m g _ => Cert.Kernel8.Gen.frame m g, fun m g _ => Cert.Kernel8Ideal.Gen.frame m g,
  fun m g _ => (θ_run _ _ _).mono (fun r h => ⟨fun c => (h c).2.2.2, sem_eq_zero_of_no_sems (by decide) r.2⟩)
    (Cert.Reference8Ideal.Value.run m g),
  fun m g _ => Cert.Kernel9.Gen.frame m g, fun m g _ => Cert.Kernel9Ideal.Gen.frame m g,
  fun m g _ => (θ_run _ _ _).mono (fun r h => ⟨fun c => (h c).2.2.2, sem_eq_zero_of_no_sems (by decide) r.2⟩)
    (Cert.Reference9Ideal.Value.run m g),
  trivial, algebraic, trivial, algebraic2, trivial, algebraic3, trivial, algebraic4, trivial, algebraic5,
  preserves6, @algebraic6 Cert.Pre_finite.facts,
  trivial, algebraic7, trivial, algebraic8, trivial, algebraic9⟩

end Cert.Proof

end
